-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Gram (m : (ℓ : Loc Cert.Gram.nD Cert.Gram.τ Cert.Gram.sig) → Buf (Elt Bits) ℓ) : Prop :=
  True

def Pre_GramIdeal (m : (ℓ : Loc Cert.GramIdeal.nD Cert.GramIdeal.τ Cert.GramIdeal.sig) → Buf (Elt Ideal) ℓ) : Prop :=
  True

def Pre_GramRefIdeal (m : (ℓ : Loc Cert.GramRefIdeal.nD Cert.GramRefIdeal.τ Cert.GramRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Gram [hGram : Cert.Gram.Facts] : Prop :=
  ∀ (m : (ℓ : Loc Cert.Gram.nD Cert.Gram.τ Cert.Gram.sig) → Buf (Elt Bits) ℓ) (g : Dev Cert.Gram.nD → PrngReg), Pre_Gram m →
    θ_run (Cert.Gram.defs (F := Bits)) (onTc (τ := Cert.Gram.τ) (Cert.Gram.main (F := Bits))) ⟨m, fun _ => 0, g⟩ (fun r => (∀ c : Dev Cert.Gram.nD,
      r.2.mem ((c.tc : Thread Cert.Gram.nD Cert.Gram.τ).loc Cert.Gram.main_arg0) = m ((c.tc : Thread Cert.Gram.nD Cert.Gram.τ).loc Cert.Gram.main_arg0)
      ∧ r.2.mem ((c.tc : Thread Cert.Gram.nD Cert.Gram.τ).loc Cert.Gram.main_arg1) = m ((c.tc : Thread Cert.Gram.nD Cert.Gram.τ).loc Cert.Gram.main_arg1)
      ∧ r.2.mem ((c.tc : Thread Cert.Gram.nD Cert.Gram.τ).loc Cert.Gram.main_arg2) = m ((c.tc : Thread Cert.Gram.nD Cert.Gram.τ).loc Cert.Gram.main_arg2)
      ∧ r.2.mem ((c.tc : Thread Cert.Gram.nD Cert.Gram.τ).loc Cert.Gram.main_arg3) = m ((c.tc : Thread Cert.Gram.nD Cert.Gram.τ).loc Cert.Gram.main_arg3))
      ∧ r.2.sem = fun _ => 0)

def quiescent_GramIdeal [hGramIdeal : Cert.GramIdeal.Facts] : Prop :=
  ∀ (m : (ℓ : Loc Cert.GramIdeal.nD Cert.GramIdeal.τ Cert.GramIdeal.sig) → Buf (Elt Ideal) ℓ) (g : Dev Cert.GramIdeal.nD → PrngReg), Pre_GramIdeal m →
    θ_run (Cert.GramIdeal.defs (F := Ideal)) (onTc (τ := Cert.GramIdeal.τ) (Cert.GramIdeal.main (F := Ideal))) ⟨m, fun _ => 0, g⟩ (fun r => (∀ c : Dev Cert.GramIdeal.nD,
      r.2.mem ((c.tc : Thread Cert.GramIdeal.nD Cert.GramIdeal.τ).loc Cert.GramIdeal.main_arg0) = m ((c.tc : Thread Cert.GramIdeal.nD Cert.GramIdeal.τ).loc Cert.GramIdeal.main_arg0)
      ∧ r.2.mem ((c.tc : Thread Cert.GramIdeal.nD Cert.GramIdeal.τ).loc Cert.GramIdeal.main_arg1) = m ((c.tc : Thread Cert.GramIdeal.nD Cert.GramIdeal.τ).loc Cert.GramIdeal.main_arg1)
      ∧ r.2.mem ((c.tc : Thread Cert.GramIdeal.nD Cert.GramIdeal.τ).loc Cert.GramIdeal.main_arg2) = m ((c.tc : Thread Cert.GramIdeal.nD Cert.GramIdeal.τ).loc Cert.GramIdeal.main_arg2)
      ∧ r.2.mem ((c.tc : Thread Cert.GramIdeal.nD Cert.GramIdeal.τ).loc Cert.GramIdeal.main_arg3) = m ((c.tc : Thread Cert.GramIdeal.nD Cert.GramIdeal.τ).loc Cert.GramIdeal.main_arg3))
      ∧ r.2.sem = fun _ => 0)

def quiescent_GramRefIdeal [hGramRefIdeal : Cert.GramRefIdeal.Facts] : Prop :=
  ∀ (m : (ℓ : Loc Cert.GramRefIdeal.nD Cert.GramRefIdeal.τ Cert.GramRefIdeal.sig) → Buf (Elt Ideal) ℓ) (g : Dev Cert.GramRefIdeal.nD → PrngReg), Pre_GramRefIdeal m →
    θ_run (Cert.GramRefIdeal.defs (F := Ideal)) (onTc (τ := Cert.GramRefIdeal.τ) (Cert.GramRefIdeal.main (F := Ideal))) ⟨m, fun _ => 0, g⟩ (fun r => (∀ c : Dev Cert.GramRefIdeal.nD,
      r.2.mem ((c.tc : Thread Cert.GramRefIdeal.nD Cert.GramRefIdeal.τ).loc Cert.GramRefIdeal.main_arg0) = m ((c.tc : Thread Cert.GramRefIdeal.nD Cert.GramRefIdeal.τ).loc Cert.GramRefIdeal.main_arg0)
      ∧ r.2.mem ((c.tc : Thread Cert.GramRefIdeal.nD Cert.GramRefIdeal.τ).loc Cert.GramRefIdeal.main_arg1) = m ((c.tc : Thread Cert.GramRefIdeal.nD Cert.GramRefIdeal.τ).loc Cert.GramRefIdeal.main_arg1)
      ∧ r.2.mem ((c.tc : Thread Cert.GramRefIdeal.nD Cert.GramRefIdeal.τ).loc Cert.GramRefIdeal.main_arg2) = m ((c.tc : Thread Cert.GramRefIdeal.nD Cert.GramRefIdeal.τ).loc Cert.GramRefIdeal.main_arg2)
      ∧ r.2.mem ((c.tc : Thread Cert.GramRefIdeal.nD Cert.GramRefIdeal.τ).loc Cert.GramRefIdeal.main_arg3) = m ((c.tc : Thread Cert.GramRefIdeal.nD Cert.GramRefIdeal.τ).loc Cert.GramRefIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Gram_GramIdeal : Prop :=
  True

def algebraic_GramIdeal_GramRefIdeal [hGramIdeal : Cert.GramIdeal.Facts] [hGramRefIdeal : Cert.GramRefIdeal.Facts] : Prop :=
  ∀ (m : (ℓ : Loc Cert.GramIdeal.nD Cert.GramIdeal.τ Cert.GramIdeal.sig) → Buf (Elt Ideal) ℓ) (g : Dev Cert.GramIdeal.nD → PrngReg)
    (m' : (ℓ : Loc Cert.GramRefIdeal.nD Cert.GramRefIdeal.τ Cert.GramRefIdeal.sig) → Buf (Elt Ideal) ℓ) (g' : Dev Cert.GramRefIdeal.nD → PrngReg), Pre_GramIdeal m →
    (∀ c : Dev Cert.GramIdeal.nD,
      m' ((c.tc : Thread Cert.GramRefIdeal.nD Cert.GramRefIdeal.τ).loc Cert.GramRefIdeal.main_arg0) = m ((c.tc : Thread Cert.GramIdeal.nD Cert.GramIdeal.τ).loc Cert.GramIdeal.main_arg0)
      ∧ m' ((c.tc : Thread Cert.GramRefIdeal.nD Cert.GramRefIdeal.τ).loc Cert.GramRefIdeal.main_arg1) = m ((c.tc : Thread Cert.GramIdeal.nD Cert.GramIdeal.τ).loc Cert.GramIdeal.main_arg1)
      ∧ m' ((c.tc : Thread Cert.GramRefIdeal.nD Cert.GramRefIdeal.τ).loc Cert.GramRefIdeal.main_arg2) = m ((c.tc : Thread Cert.GramIdeal.nD Cert.GramIdeal.τ).loc Cert.GramIdeal.main_arg2)
      ∧ m' ((c.tc : Thread Cert.GramRefIdeal.nD Cert.GramRefIdeal.τ).loc Cert.GramRefIdeal.main_arg3) = m ((c.tc : Thread Cert.GramIdeal.nD Cert.GramIdeal.τ).loc Cert.GramIdeal.main_arg3)) →
    ∃ (v0 : (c : Dev Cert.GramIdeal.nD) → Buf (Elt Ideal) ((c.tc : Thread Cert.GramIdeal.nD Cert.GramIdeal.τ).loc Cert.GramIdeal.main_v2_0)) (v1 : (c : Dev Cert.GramIdeal.nD) → Buf (Elt Ideal) ((c.tc : Thread Cert.GramIdeal.nD Cert.GramIdeal.τ).loc Cert.GramIdeal.main_v2_1)),
      θ_run (Cert.GramIdeal.defs (F := Ideal)) (onTc (τ := Cert.GramIdeal.τ) (Cert.GramIdeal.main (F := Ideal))) ⟨m, fun _ => 0, g⟩ (fun r => ∀ c : Dev Cert.GramIdeal.nD,
          r.2.mem ((c.tc : Thread Cert.GramIdeal.nD Cert.GramIdeal.τ).loc Cert.GramIdeal.main_v2_0) = v0 c
          ∧ r.2.mem ((c.tc : Thread Cert.GramIdeal.nD Cert.GramIdeal.τ).loc Cert.GramIdeal.main_v2_1) = v1 c
          ∧ r.2.mem ((c.tc : Thread Cert.GramIdeal.nD Cert.GramIdeal.τ).loc Cert.GramIdeal.main_arg0) = m ((c.tc : Thread Cert.GramIdeal.nD Cert.GramIdeal.τ).loc Cert.GramIdeal.main_arg0)
          ∧ r.2.mem ((c.tc : Thread Cert.GramIdeal.nD Cert.GramIdeal.τ).loc Cert.GramIdeal.main_arg1) = m ((c.tc : Thread Cert.GramIdeal.nD Cert.GramIdeal.τ).loc Cert.GramIdeal.main_arg1)
          ∧ r.2.mem ((c.tc : Thread Cert.GramIdeal.nD Cert.GramIdeal.τ).loc Cert.GramIdeal.main_arg2) = m ((c.tc : Thread Cert.GramIdeal.nD Cert.GramIdeal.τ).loc Cert.GramIdeal.main_arg2)
          ∧ r.2.mem ((c.tc : Thread Cert.GramIdeal.nD Cert.GramIdeal.τ).loc Cert.GramIdeal.main_arg3) = m ((c.tc : Thread Cert.GramIdeal.nD Cert.GramIdeal.τ).loc Cert.GramIdeal.main_arg3))
      ∧ θ_run (Cert.GramRefIdeal.defs (F := Ideal)) (onTc (τ := Cert.GramRefIdeal.τ) (Cert.GramRefIdeal.main (F := Ideal))) ⟨m', fun _ => 0, g'⟩ (fun r => ∀ c : Dev Cert.GramRefIdeal.nD,
          r.2.mem ((c.tc : Thread Cert.GramRefIdeal.nD Cert.GramRefIdeal.τ).loc Cert.GramRefIdeal.main_v0_0) = v0 c
          ∧ r.2.mem ((c.tc : Thread Cert.GramRefIdeal.nD Cert.GramRefIdeal.τ).loc Cert.GramRefIdeal.main_v0_1) = v1 c
          ∧ r.2.mem ((c.tc : Thread Cert.GramRefIdeal.nD Cert.GramRefIdeal.τ).loc Cert.GramRefIdeal.main_arg0) = m' ((c.tc : Thread Cert.GramRefIdeal.nD Cert.GramRefIdeal.τ).loc Cert.GramRefIdeal.main_arg0)
          ∧ r.2.mem ((c.tc : Thread Cert.GramRefIdeal.nD Cert.GramRefIdeal.τ).loc Cert.GramRefIdeal.main_arg1) = m' ((c.tc : Thread Cert.GramRefIdeal.nD Cert.GramRefIdeal.τ).loc Cert.GramRefIdeal.main_arg1)
          ∧ r.2.mem ((c.tc : Thread Cert.GramRefIdeal.nD Cert.GramRefIdeal.τ).loc Cert.GramRefIdeal.main_arg2) = m' ((c.tc : Thread Cert.GramRefIdeal.nD Cert.GramRefIdeal.τ).loc Cert.GramRefIdeal.main_arg2)
          ∧ r.2.mem ((c.tc : Thread Cert.GramRefIdeal.nD Cert.GramRefIdeal.τ).loc Cert.GramRefIdeal.main_arg3) = m' ((c.tc : Thread Cert.GramRefIdeal.nD Cert.GramRefIdeal.τ).loc Cert.GramRefIdeal.main_arg3))

def Claim : Prop :=
  ∃ (hKernel : Cert.Kernel.Facts) (hKernelIdeal : Cert.KernelIdeal.Facts) (hReferenceIdeal : Cert.ReferenceIdeal.Facts) (hGram : Cert.Gram.Facts) (hGramIdeal : Cert.GramIdeal.Facts) (hGramRefIdeal : Cert.GramRefIdeal.Facts),
    quiescent_Kernel (hKernel := hKernel)
    ∧ quiescent_KernelIdeal (hKernelIdeal := hKernelIdeal)
    ∧ quiescent_ReferenceIdeal (hReferenceIdeal := hReferenceIdeal)
    ∧ quiescent_Gram (hGram := hGram)
    ∧ quiescent_GramIdeal (hGramIdeal := hGramIdeal)
    ∧ quiescent_GramRefIdeal (hGramRefIdeal := hGramRefIdeal)
    ∧ preserves_Kernel_KernelIdeal
    ∧ algebraic_KernelIdeal_ReferenceIdeal (hKernelIdeal := hKernelIdeal) (hReferenceIdeal := hReferenceIdeal)
    ∧ preserves_Gram_GramIdeal
    ∧ algebraic_GramIdeal_GramRefIdeal (hGramIdeal := hGramIdeal) (hGramRefIdeal := hGramRefIdeal)
-- ==== Kernel.lean ====
abbrev S12x2880x2048 : Shape := ⟨3, ![12, 2880, 2048]⟩
abbrev S12x2880x16 : Shape := ⟨3, ![12, 2880, 16]⟩
abbrev S12x2880x192 : Shape := ⟨3, ![12, 2880, 192]⟩
abbrev S12x192x192 : Shape := ⟨3, ![12, 192, 192]⟩
abbrev S12x16x2880 : Shape := ⟨3, ![12, 16, 2880]⟩
abbrev S12x192x2048 : Shape := ⟨3, ![12, 192, 2048]⟩
abbrev S1x192x2048 : Shape := ⟨3, ![1, 192, 2048]⟩
abbrev S1x16x2880 : Shape := ⟨3, ![1, 16, 2880]⟩
abbrev S1x192x192 : Shape := ⟨3, ![1, 192, 192]⟩
abbrev S2880x16 : Shape := ⟨2, ![2880, 16]⟩
abbrev S2880x2048 : Shape := ⟨2, ![2880, 2048]⟩
abbrev S2880x192 : Shape := ⟨2, ![2880, 192]⟩
abbrev S192x2048 : Shape := ⟨2, ![192, 2048]⟩
abbrev S192x192 : Shape := ⟨2, ![192, 192]⟩
abbrev S192x256 : Shape := ⟨2, ![192, 256]⟩
abbrev S1x192x256 : Shape := ⟨3, ![1, 192, 256]⟩
abbrev S192x128 : Shape := ⟨2, ![192, 128]⟩
abbrev S192 : Shape := ⟨1, ![192]⟩
abbrev S192x1 : Shape := ⟨2, ![192, 1]⟩
abbrev S1x192x128 : Shape := ⟨3, ![1, 192, 128]⟩
abbrev S128x16 : Shape := ⟨2, ![128, 16]⟩
abbrev S16x128 : Shape := ⟨2, ![16, 128]⟩
abbrev S1x16x128 : Shape := ⟨3, ![1, 16, 128]⟩
abbrev S64x16 : Shape := ⟨2, ![64, 16]⟩
abbrev S16x64 : Shape := ⟨2, ![16, 64]⟩
abbrev S1x16x64 : Shape := ⟨3, ![1, 16, 64]⟩
abbrev S16x2880 : Shape := ⟨2, ![16, 2880]⟩
abbrev S192x16 : Shape := ⟨2, ![192, 16]⟩

abbrev nBuf : Space → Nat
  | .hbm => 12
  | .vmem => 30
  | .smem => 0
  | _ => 0

abbrev bufTy : (tb : Table) → Fin (tcTables nBuf tb) → BufTy
  | .hbm, ⟨0, _⟩ => ⟨S12x2880x2048, .i8⟩
  | .hbm, ⟨1, _⟩ => ⟨S12x2880x2048, .bf16⟩
  | .hbm, ⟨2, _⟩ => ⟨S12x2880x16, .f32⟩
  | .hbm, ⟨3, _⟩ => ⟨S12x2880x192, .f32⟩
  | .hbm, ⟨4, _⟩ => ⟨S12x192x192, .f32⟩
  | .hbm, ⟨5, _⟩ => ⟨S12x2880x2048, .f32⟩
  | .hbm, ⟨6, _⟩ => ⟨S12x16x2880, .f32⟩
  | .hbm, ⟨7, _⟩ => ⟨S12x2880x2048, .f32⟩
  | .hbm, ⟨8, _⟩ => ⟨S12x2880x2048, .f32⟩
  | .hbm, ⟨9, _⟩ => ⟨S12x192x2048, .bf16⟩
  | .hbm, ⟨10, _⟩ => ⟨S12x2880x2048, .i8⟩
  | .hbm, ⟨11, _⟩ => ⟨S12x16x2880, .f32⟩
  | .local _ .vmem, ⟨0, _⟩ => ⟨S1x192x2048, .i8⟩
  | .local _ .vmem, ⟨1, _⟩ => ⟨S1x192x2048, .i8⟩
  | .local _ .vmem, ⟨2, _⟩ => ⟨S1x192x2048, .bf16⟩
  | .local _ .vmem, ⟨3, _⟩ => ⟨S1x192x2048, .bf16⟩
  | .local _ .vmem, ⟨4, _⟩ => ⟨S1x16x2880, .f32⟩
  | .local _ .vmem, ⟨5, _⟩ => ⟨S1x16x2880, .f32⟩
  | .local _ .vmem, ⟨6, _⟩ => ⟨S1x192x192, .f32⟩
  | .local _ .vmem, ⟨7, _⟩ => ⟨S1x192x192, .f32⟩
  | .local _ .vmem, ⟨8, _⟩ => ⟨S1x192x192, .f32⟩
  | .local _ .vmem, ⟨9, _⟩ => ⟨S1x192x192, .f32⟩
  | .local _ .vmem, ⟨10, _⟩ => ⟨S1x192x2048, .f32⟩
  | .local _ .vmem, ⟨11, _⟩ => ⟨S1x192x2048, .f32⟩
  | .local _ .vmem, ⟨12, _⟩ => ⟨S1x192x2048, .f32⟩
  | .local _ .vmem, ⟨13, _⟩ => ⟨S1x192x2048, .f32⟩
  | .local _ .vmem, ⟨14, _⟩ => ⟨S1x192x2048, .f32⟩
  | .local _ .vmem, ⟨15, _⟩ => ⟨S1x192x2048, .f32⟩
  | .local _ .vmem, ⟨16, _⟩ => ⟨S1x192x2048, .bf16⟩
  | .local _ .vmem, ⟨17, _⟩ => ⟨S1x192x2048, .bf16⟩
  | .local _ .vmem, ⟨18, _⟩ => ⟨S1x192x2048, .i8⟩
  | .local _ .vmem, ⟨19, _⟩ => ⟨S1x192x2048, .i8⟩
  | .local _ .vmem, ⟨20, _⟩ => ⟨S1x16x2880, .f32⟩
  | .local _ .vmem, ⟨21, _⟩ => ⟨S1x16x2880, .f32⟩
  | .local _ .vmem, ⟨22, _⟩ => ⟨S2880x16, .f32⟩
  | .local _ .vmem, ⟨23, _⟩ => ⟨S2880x16, .f32⟩
  | .local _ .vmem, ⟨24, _⟩ => ⟨S2880x2048, .f32⟩
  | .local _ .vmem, ⟨25, _⟩ => ⟨S2880x192, .bf16⟩
  | .local _ .vmem, ⟨26, _⟩ => ⟨S192x2048, .bf16⟩
  | .local _ .vmem, ⟨27, _⟩ => ⟨S192x2048, .f32⟩
  | .local _ .vmem, ⟨28, _⟩ => ⟨S192x2048, .bf16⟩
  | .local _ .vmem, ⟨29, _⟩ => ⟨S192x2048, .bf16⟩
  | _, _ => ⟨S12x2880x2048, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_scratch7 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![13, 15], ![false, false]⟩

def k0_mult1 (i : grid0.Coords) : BitVec 32 :=
  let arg1 : BitVec 32 := BitVec.ofNat 32 (i 1).val
  let c192_i32 : BitVec 32 := 192#32
  let v0 : BitVec 32 := Scalar.muli arg1 c192_i32
  v0
def k0_cond1 (i : grid0.Coords) : BitVec 1 :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .ne v3 c0_i32_0
  v4

def k0_off1 (i : grid0.Coords) : Fin 2 → Nat :=
  let arg1 : BitVec 32 := BitVec.ofNat 32 (i 1).val
  let c192_i32 : BitVec 32 := 192#32
  let v0 : BitVec 32 := Scalar.muli arg1 c192_i32
  let v1 : BitVec 32 := v0
  let v13 : Index := Scalar.indexCast v1
  let c0 : Index := 0#32
  ![v13.toNat, 0]
def k0_off2 (i : grid0.Coords) : Fin 2 → Nat :=
  let arg1 : BitVec 32 := BitVec.ofNat 32 (i 1).val
  let c192_i32 : BitVec 32 := 192#32
  let v0 : BitVec 32 := Scalar.muli arg1 c192_i32
  let v1 : BitVec 32 := v0
  let v32 : Index := Scalar.indexCast v1
  let c0_20 : Index := 0#32
  ![v32.toNat, 0]
def k0_off3 (i : grid0.Coords) : Fin 2 → Nat :=
  let arg1 : BitVec 32 := BitVec.ofNat 32 (i 1).val
  let c192_i32 : BitVec 32 := 192#32
  let v0 : BitVec 32 := Scalar.muli arg1 c192_i32
  let v1 : BitVec 32 := v0
  let v47 : Index := Scalar.indexCast v1
  let c0_26 : Index := 0#32
  ![v47.toNat, 0]
def k0_off4 (i : grid0.Coords) : Fin 2 → Nat :=
  let arg1 : BitVec 32 := BitVec.ofNat 32 (i 1).val
  let c192_i32 : BitVec 32 := 192#32
  let v0 : BitVec 32 := Scalar.muli arg1 c192_i32
  let v1 : BitVec 32 := v0
  let v62 : Index := Scalar.indexCast v1
  let c128 : Index := 128#32
  ![v62.toNat, 128]
def k0_off5 (i : grid0.Coords) : Fin 2 → Nat :=
  let arg1 : BitVec 32 := BitVec.ofNat 32 (i 1).val
  let c192_i32 : BitVec 32 := 192#32
  let v0 : BitVec 32 := Scalar.muli arg1 c192_i32
  let v1 : BitVec 32 := v0
  let v77 : Index := Scalar.indexCast v1
  let c1 : Index := 1#32
  ![v77.toNat, 1]
def k0_off6 (i : grid0.Coords) : Fin 2 → Nat :=
  let arg1 : BitVec 32 := BitVec.ofNat 32 (i 1).val
  let c192_i32 : BitVec 32 := 192#32
  let v0 : BitVec 32 := Scalar.muli arg1 c192_i32
  let v1 : BitVec 32 := v0
  let v109 : Index := Scalar.indexCast v1
  let c256_58 : Index := 256#32
  ![v109.toNat, 256]
def k0_off7 (i : grid0.Coords) : Fin 2 → Nat :=
  let arg1 : BitVec 32 := BitVec.ofNat 32 (i 1).val
  let c192_i32 : BitVec 32 := 192#32
  let v0 : BitVec 32 := Scalar.muli arg1 c192_i32
  let v1 : BitVec 32 := v0
  let v124 : Index := Scalar.indexCast v1
  let c2 : Index := 2#32
  ![v124.toNat, 2]
def k0_off8 (i : grid0.Coords) : Fin 2 → Nat :=
  let arg1 : BitVec 32 := BitVec.ofNat 32 (i 1).val
  let c192_i32 : BitVec 32 := 192#32
  let v0 : BitVec 32 := Scalar.muli arg1 c192_i32
  let v1 : BitVec 32 := v0
  let v139 : Index := Scalar.indexCast v1
  let c384 : Index := 384#32
  ![v139.toNat, 384]
def k0_off9 (i : grid0.Coords) : Fin 2 → Nat :=
  let arg1 : BitVec 32 := BitVec.ofNat 32 (i 1).val
  let c192_i32 : BitVec 32 := 192#32
  let v0 : BitVec 32 := Scalar.muli arg1 c192_i32
  let v1 : BitVec 32 := v0
  let v154 : Index := Scalar.indexCast v1
  let c3 : Index := 3#32
  ![v154.toNat, 3]
def k0_off10 (i : grid0.Coords) : Fin 2 → Nat :=
  let arg1 : BitVec 32 := BitVec.ofNat 32 (i 1).val
  let c192_i32 : BitVec 32 := 192#32
  let v0 : BitVec 32 := Scalar.muli arg1 c192_i32
  let v1 : BitVec 32 := v0
  let v186 : Index := Scalar.indexCast v1
  let c512_95 : Index := 512#32
  ![v186.toNat, 512]
def k0_off11 (i : grid0.Coords) : Fin 2 → Nat :=
  let arg1 : BitVec 32 := BitVec.ofNat 32 (i 1).val
  let c192_i32 : BitVec 32 := 192#32
  let v0 : BitVec 32 := Scalar.muli arg1 c192_i32
  let v1 : BitVec 32 := v0
  let v201 : Index := Scalar.indexCast v1
  let c4 : Index := 4#32
  ![v201.toNat, 4]
def k0_off12 (i : grid0.Coords) : Fin 2 → Nat :=
  let arg1 : BitVec 32 := BitVec.ofNat 32 (i 1).val
  let c192_i32 : BitVec 32 := 192#32
  let v0 : BitVec 32 := Scalar.muli arg1 c192_i32
  let v1 : BitVec 32 := v0
  let v216 : Index := Scalar.indexCast v1
  let c640 : Index := 640#32
  ![v216.toNat, 640]
def k0_off13 (i : grid0.Coords) : Fin 2 → Nat :=
  let arg1 : BitVec 32 := BitVec.ofNat 32 (i 1).val
  let c192_i32 : BitVec 32 := 192#32
  let v0 : BitVec 32 := Scalar.muli arg1 c192_i32
  let v1 : BitVec 32 := v0
  let v231 : Index := Scalar.indexCast v1
  let c5 : Index := 5#32
  ![v231.toNat, 5]
def k0_off14 (i : grid0.Coords) : Fin 2 → Nat :=
  let arg1 : BitVec 32 := BitVec.ofNat 32 (i 1).val
  let c192_i32 : BitVec 32 := 192#32
  let v0 : BitVec 32 := Scalar.muli arg1 c192_i32
  let v1 : BitVec 32 := v0
  let v263 : Index := Scalar.indexCast v1
  let c768_132 : Index := 768#32
  ![v263.toNat, 768]
def k0_off15 (i : grid0.Coords) : Fin 2 → Nat :=
  let arg1 : BitVec 32 := BitVec.ofNat 32 (i 1).val
  let c192_i32 : BitVec 32 := 192#32
  let v0 : BitVec 32 := Scalar.muli arg1 c192_i32
  let v1 : BitVec 32 := v0
  let v278 : Index := Scalar.indexCast v1
  let c6 : Index := 6#32
  ![v278.toNat, 6]
def k0_off16 (i : grid0.Coords) : Fin 2 → Nat :=
  let arg1 : BitVec 32 := BitVec.ofNat 32 (i 1).val
  let c192_i32 : BitVec 32 := 192#32
  let v0 : BitVec 32 := Scalar.muli arg1 c192_i32
  let v1 : BitVec 32 := v0
  let v293 : Index := Scalar.indexCast v1
  let c896 : Index := 896#32
  ![v293.toNat, 896]
def k0_off17 (i : grid0.Coords) : Fin 2 → Nat :=
  let arg1 : BitVec 32 := BitVec.ofNat 32 (i 1).val
  let c192_i32 : BitVec 32 := 192#32
  let v0 : BitVec 32 := Scalar.muli arg1 c192_i32
  let v1 : BitVec 32 := v0
  let v308 : Index := Scalar.indexCast v1
  let c7 : Index := 7#32
  ![v308.toNat, 7]
def k0_off18 (i : grid0.Coords) : Fin 2 → Nat :=
  let arg1 : BitVec 32 := BitVec.ofNat 32 (i 1).val
  let c192_i32 : BitVec 32 := 192#32
  let v0 : BitVec 32 := Scalar.muli arg1 c192_i32
  let v1 : BitVec 32 := v0
  let v340 : Index := Scalar.indexCast v1
  let c1024_169 : Index := 1024#32
  ![v340.toNat, 1024]
def k0_off19 (i : grid0.Coords) : Fin 2 → Nat :=
  let arg1 : BitVec 32 := BitVec.ofNat 32 (i 1).val
  let c192_i32 : BitVec 32 := 192#32
  let v0 : BitVec 32 := Scalar.muli arg1 c192_i32
  let v1 : BitVec 32 := v0
  let v355 : Index := Scalar.indexCast v1
  let c8 : Index := 8#32
  ![v355.toNat, 8]
def k0_off20 (i : grid0.Coords) : Fin 2 → Nat :=
  let arg1 : BitVec 32 := BitVec.ofNat 32 (i 1).val
  let c192_i32 : BitVec 32 := 192#32
  let v0 : BitVec 32 := Scalar.muli arg1 c192_i32
  let v1 : BitVec 32 := v0
  let v370 : Index := Scalar.indexCast v1
  let c1152 : Index := 1152#32
  ![v370.toNat, 1152]
def k0_off21 (i : grid0.Coords) : Fin 2 → Nat :=
  let arg1 : BitVec 32 := BitVec.ofNat 32 (i 1).val
  let c192_i32 : BitVec 32 := 192#32
  let v0 : BitVec 32 := Scalar.muli arg1 c192_i32
  let v1 : BitVec 32 := v0
  let v385 : Index := Scalar.indexCast v1
  let c9 : Index := 9#32
  ![v385.toNat, 9]
def k0_off22 (i : grid0.Coords) : Fin 2 → Nat :=
  let arg1 : BitVec 32 := BitVec.ofNat 32 (i 1).val
  let c192_i32 : BitVec 32 := 192#32
  let v0 : BitVec 32 := Scalar.muli arg1 c192_i32
  let v1 : BitVec 32 := v0
  let v417 : Index := Scalar.indexCast v1
  let c1280_206 : Index := 1280#32
  ![v417.toNat, 1280]
def k0_off23 (i : grid0.Coords) : Fin 2 → Nat :=
  let arg1 : BitVec 32 := BitVec.ofNat 32 (i 1).val
  let c192_i32 : BitVec 32 := 192#32
  let v0 : BitVec 32 := Scalar.muli arg1 c192_i32
  let v1 : BitVec 32 := v0
  let v432 : Index := Scalar.indexCast v1
  let c10 : Index := 10#32
  ![v432.toNat, 10]
def k0_off24 (i : grid0.Coords) : Fin 2 → Nat :=
  let arg1 : BitVec 32 := BitVec.ofNat 32 (i 1).val
  let c192_i32 : BitVec 32 := 192#32
  let v0 : BitVec 32 := Scalar.muli arg1 c192_i32
  let v1 : BitVec 32 := v0
  let v447 : Index := Scalar.indexCast v1
  let c1408 : Index := 1408#32
  ![v447.toNat, 1408]
def k0_off25 (i : grid0.Coords) : Fin 2 → Nat :=
  let arg1 : BitVec 32 := BitVec.ofNat 32 (i 1).val
  let c192_i32 : BitVec 32 := 192#32
  let v0 : BitVec 32 := Scalar.muli arg1 c192_i32
  let v1 : BitVec 32 := v0
  let v462 : Index := Scalar.indexCast v1
  let c11 : Index := 11#32
  ![v462.toNat, 11]
def k0_off26 (i : grid0.Coords) : Fin 2 → Nat :=
  let arg1 : BitVec 32 := BitVec.ofNat 32 (i 1).val
  let c192_i32 : BitVec 32 := 192#32
  let v0 : BitVec 32 := Scalar.muli arg1 c192_i32
  let v1 : BitVec 32 := v0
  let v494 : Index := Scalar.indexCast v1
  let c1536_243 : Index := 1536#32
  ![v494.toNat, 1536]
def k0_off27 (i : grid0.Coords) : Fin 2 → Nat :=
  let arg1 : BitVec 32 := BitVec.ofNat 32 (i 1).val
  let c192_i32 : BitVec 32 := 192#32
  let v0 : BitVec 32 := Scalar.muli arg1 c192_i32
  let v1 : BitVec 32 := v0
  let v509 : Index := Scalar.indexCast v1
  let c12 : Index := 12#32
  ![v509.toNat, 12]
def k0_off28 (i : grid0.Coords) : Fin 2 → Nat :=
  let arg1 : BitVec 32 := BitVec.ofNat 32 (i 1).val
  let c192_i32 : BitVec 32 := 192#32
  let v0 : BitVec 32 := Scalar.muli arg1 c192_i32
  let v1 : BitVec 32 := v0
  let v524 : Index := Scalar.indexCast v1
  let c1664 : Index := 1664#32
  ![v524.toNat, 1664]
def k0_off29 (i : grid0.Coords) : Fin 2 → Nat :=
  let arg1 : BitVec 32 := BitVec.ofNat 32 (i 1).val
  let c192_i32 : BitVec 32 := 192#32
  let v0 : BitVec 32 := Scalar.muli arg1 c192_i32
  let v1 : BitVec 32 := v0
  let v539 : Index := Scalar.indexCast v1
  let c13 : Index := 13#32
  ![v539.toNat, 13]
def k0_off30 (i : grid0.Coords) : Fin 2 → Nat :=
  let arg1 : BitVec 32 := BitVec.ofNat 32 (i 1).val
  let c192_i32 : BitVec 32 := 192#32
  let v0 : BitVec 32 := Scalar.muli arg1 c192_i32
  let v1 : BitVec 32 := v0
  let v571 : Index := Scalar.indexCast v1
  let c1792_280 : Index := 1792#32
  ![v571.toNat, 1792]
def k0_off31 (i : grid0.Coords) : Fin 2 → Nat :=
  let arg1 : BitVec 32 := BitVec.ofNat 32 (i 1).val
  let c192_i32 : BitVec 32 := 192#32
  let v0 : BitVec 32 := Scalar.muli arg1 c192_i32
  let v1 : BitVec 32 := v0
  let v586 : Index := Scalar.indexCast v1
  let c14 : Index := 14#32
  ![v586.toNat, 14]
def k0_off32 (i : grid0.Coords) : Fin 2 → Nat :=
  let arg1 : BitVec 32 := BitVec.ofNat 32 (i 1).val
  let c192_i32 : BitVec 32 := 192#32
  let v0 : BitVec 32 := Scalar.muli arg1 c192_i32
  let v1 : BitVec 32 := v0
  let v601 : Index := Scalar.indexCast v1
  let c1920 : Index := 1920#32
  ![v601.toNat, 1920]
def k0_off33 (i : grid0.Coords) : Fin 2 → Nat :=
  let arg1 : BitVec 32 := BitVec.ofNat 32 (i 1).val
  let c192_i32 : BitVec 32 := 192#32
  let v0 : BitVec 32 := Scalar.muli arg1 c192_i32
  let v1 : BitVec 32 := v0
  let v616 : Index := Scalar.indexCast v1
  let c15 : Index := 15#32
  ![v616.toNat, 15]
def k0_cond3 (i : grid0.Coords) : BitVec 1 :=
  let arg0 : BitVec 32 := BitVec.ofNat 32 (i 0).val
  let c12_i32 : BitVec 32 := 12#32
  let v10 : BitVec 1 := Scalar.cmpi .slt arg0 c12_i32
  let v11 : BitVec 32 := Scalar.extui v10
  let c0_i32_3 : BitVec 32 := 0#32
  let v12 : BitVec 1 := Scalar.cmpi .ne v11 c0_i32_3
  v12

def k0_off34 (i : grid0.Coords) : Fin 2 → Nat :=
  let arg1 : BitVec 32 := BitVec.ofNat 32 (i 1).val
  let c192_i32 : BitVec 32 := 192#32
  let v0 : BitVec 32 := Scalar.muli arg1 c192_i32
  let v1 : BitVec 32 := v0
  let v16 : Index := Scalar.indexCast v1
  let c0 : Index := 0#32
  ![v16.toNat, 0]
def k0_off35 (i : grid0.Coords) : Fin 2 → Nat :=
  let arg1 : BitVec 32 := BitVec.ofNat 32 (i 1).val
  let c192_i32 : BitVec 32 := 192#32
  let v0 : BitVec 32 := Scalar.muli arg1 c192_i32
  let v1 : BitVec 32 := v0
  let v28 : Index := Scalar.indexCast v1
  let c0_12 : Index := 0#32
  ![v28.toNat, 0]
def k0_off36 (i : grid0.Coords) : Fin 2 → Nat :=
  let arg1 : BitVec 32 := BitVec.ofNat 32 (i 1).val
  let c192_i32 : BitVec 32 := 192#32
  let v0 : BitVec 32 := Scalar.muli arg1 c192_i32
  let v1 : BitVec 32 := v0
  let v46 : Index := Scalar.indexCast v1
  let c128_20 : Index := 128#32
  ![v46.toNat, 128]
def k0_off37 (i : grid0.Coords) : Fin 2 → Nat :=
  let arg1 : BitVec 32 := BitVec.ofNat 32 (i 1).val
  let c192_i32 : BitVec 32 := 192#32
  let v0 : BitVec 32 := Scalar.muli arg1 c192_i32
  let v1 : BitVec 32 := v0
  let v64 : Index := Scalar.indexCast v1
  let c256_28 : Index := 256#32
  ![v64.toNat, 256]
def k0_off38 (i : grid0.Coords) : Fin 2 → Nat :=
  let arg1 : BitVec 32 := BitVec.ofNat 32 (i 1).val
  let c192_i32 : BitVec 32 := 192#32
  let v0 : BitVec 32 := Scalar.muli arg1 c192_i32
  let v1 : BitVec 32 := v0
  let v82 : Index := Scalar.indexCast v1
  let c384_36 : Index := 384#32
  ![v82.toNat, 384]
def k0_off39 (i : grid0.Coords) : Fin 2 → Nat :=
  let arg1 : BitVec 32 := BitVec.ofNat 32 (i 1).val
  let c192_i32 : BitVec 32 := 192#32
  let v0 : BitVec 32 := Scalar.muli arg1 c192_i32
  let v1 : BitVec 32 := v0
  let v100 : Index := Scalar.indexCast v1
  let c512_44 : Index := 512#32
  ![v100.toNat, 512]
def k0_off40 (i : grid0.Coords) : Fin 2 → Nat :=
  let arg1 : BitVec 32 := BitVec.ofNat 32 (i 1).val
  let c192_i32 : BitVec 32 := 192#32
  let v0 : BitVec 32 := Scalar.muli arg1 c192_i32
  let v1 : BitVec 32 := v0
  let v118 : Index := Scalar.indexCast v1
  let c640_52 : Index := 640#32
  ![v118.toNat, 640]
def k0_off41 (i : grid0.Coords) : Fin 2 → Nat :=
  let arg1 : BitVec 32 := BitVec.ofNat 32 (i 1).val
  let c192_i32 : BitVec 32 := 192#32
  let v0 : BitVec 32 := Scalar.muli arg1 c192_i32
  let v1 : BitVec 32 := v0
  let v136 : Index := Scalar.indexCast v1
  let c768_60 : Index := 768#32
  ![v136.toNat, 768]
def k0_off42 (i : grid0.Coords) : Fin 2 → Nat :=
  let arg1 : BitVec 32 := BitVec.ofNat 32 (i 1).val
  let c192_i32 : BitVec 32 := 192#32
  let v0 : BitVec 32 := Scalar.muli arg1 c192_i32
  let v1 : BitVec 32 := v0
  let v154 : Index := Scalar.indexCast v1
  let c896_68 : Index := 896#32
  ![v154.toNat, 896]
def k0_off43 (i : grid0.Coords) : Fin 2 → Nat :=
  let arg1 : BitVec 32 := BitVec.ofNat 32 (i 1).val
  let c192_i32 : BitVec 32 := 192#32
  let v0 : BitVec 32 := Scalar.muli arg1 c192_i32
  let v1 : BitVec 32 := v0
  let v172 : Index := Scalar.indexCast v1
  let c1024_76 : Index := 1024#32
  ![v172.toNat, 1024]
def k0_off44 (i : grid0.Coords) : Fin 2 → Nat :=
  let arg1 : BitVec 32 := BitVec.ofNat 32 (i 1).val
  let c192_i32 : BitVec 32 := 192#32
  let v0 : BitVec 32 := Scalar.muli arg1 c192_i32
  let v1 : BitVec 32 := v0
  let v190 : Index := Scalar.indexCast v1
  let c1152_84 : Index := 1152#32
  ![v190.toNat, 1152]
def k0_off45 (i : grid0.Coords) : Fin 2 → Nat :=
  let arg1 : BitVec 32 := BitVec.ofNat 32 (i 1).val
  let c192_i32 : BitVec 32 := 192#32
  let v0 : BitVec 32 := Scalar.muli arg1 c192_i32
  let v1 : BitVec 32 := v0
  let v208 : Index := Scalar.indexCast v1
  let c1280_92 : Index := 1280#32
  ![v208.toNat, 1280]
def k0_off46 (i : grid0.Coords) : Fin 2 → Nat :=
  let arg1 : BitVec 32 := BitVec.ofNat 32 (i 1).val
  let c192_i32 : BitVec 32 := 192#32
  let v0 : BitVec 32 := Scalar.muli arg1 c192_i32
  let v1 : BitVec 32 := v0
  let v226 : Index := Scalar.indexCast v1
  let c1408_100 : Index := 1408#32
  ![v226.toNat, 1408]
def k0_off47 (i : grid0.Coords) : Fin 2 → Nat :=
  let arg1 : BitVec 32 := BitVec.ofNat 32 (i 1).val
  let c192_i32 : BitVec 32 := 192#32
  let v0 : BitVec 32 := Scalar.muli arg1 c192_i32
  let v1 : BitVec 32 := v0
  let v244 : Index := Scalar.indexCast v1
  let c1536_108 : Index := 1536#32
  ![v244.toNat, 1536]
def k0_off48 (i : grid0.Coords) : Fin 2 → Nat :=
  let arg1 : BitVec 32 := BitVec.ofNat 32 (i 1).val
  let c192_i32 : BitVec 32 := 192#32
  let v0 : BitVec 32 := Scalar.muli arg1 c192_i32
  let v1 : BitVec 32 := v0
  let v262 : Index := Scalar.indexCast v1
  let c1664_116 : Index := 1664#32
  ![v262.toNat, 1664]
def k0_off49 (i : grid0.Coords) : Fin 2 → Nat :=
  let arg1 : BitVec 32 := BitVec.ofNat 32 (i 1).val
  let c192_i32 : BitVec 32 := 192#32
  let v0 : BitVec 32 := Scalar.muli arg1 c192_i32
  let v1 : BitVec 32 := v0
  let v280 : Index := Scalar.indexCast v1
  let c1792_124 : Index := 1792#32
  ![v280.toNat, 1792]
def k0_off50 (i : grid0.Coords) : Fin 2 → Nat :=
  let arg1 : BitVec 32 := BitVec.ofNat 32 (i 1).val
  let c192_i32 : BitVec 32 := 192#32
  let v0 : BitVec 32 := Scalar.muli arg1 c192_i32
  let v1 : BitVec 32 := v0
  let v298 : Index := Scalar.indexCast v1
  let c1920_132 : Index := 1920#32
  ![v298.toNat, 1920]
def k0_off51 (i : grid0.Coords) : Fin 2 → Nat :=
  let arg1 : BitVec 32 := BitVec.ofNat 32 (i 1).val
  let c192_i32 : BitVec 32 := 192#32
  let v0 : BitVec 32 := Scalar.muli arg1 c192_i32
  let v1 : BitVec 32 := v0
  let v312 : Index := Scalar.indexCast v1
  let c0_141 : Index := 0#32
  ![v312.toNat, 0]
def k0_cond5 (i : grid0.Coords) : BitVec 1 :=
  let arg1 : BitVec 32 := BitVec.ofNat 32 (i 1).val
  let c14_i32_198 : BitVec 32 := 14#32
  let v372 : BitVec 1 := Scalar.cmpi .eq arg1 c14_i32_198
  let v373 : BitVec 32 := Scalar.extui v372
  let c0_i32_199 : BitVec 32 := 0#32
  let v374 : BitVec 1 := Scalar.cmpi .ne v373 c0_i32_199
  v374

def k0_cond2 (i : grid0.Coords) : BitVec 1 :=
  let arg0 : BitVec 32 := BitVec.ofNat 32 (i 0).val
  let c0_i32_1 : BitVec 32 := 0#32
  let v5 : BitVec 1 := Scalar.cmpi .sgt arg0 c0_i32_1
  let arg1 : BitVec 32 := BitVec.ofNat 32 (i 1).val
  let c14_i32 : BitVec 32 := 14#32
  let v6 : BitVec 1 := Scalar.cmpi .eq arg1 c14_i32
  let v7 : BitVec 1 := Scalar.andi v5 v6
  let v8 : BitVec 32 := Scalar.extui v7
  let c0_i32_2 : BitVec 32 := 0#32
  let v9 : BitVec 1 := Scalar.cmpi .ne v8 c0_i32_2
  v9

def cc0_transform_0 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.minsi arg0 c11_i32
  let c12_i32 : BitVec 32 := 12#32
  let v1 : BitVec 1 := Scalar.cmpi .eq arg0 c12_i32
  let c14_i32 : BitVec 32 := 14#32
  let v2 : BitVec 32 := Scalar.select v1 c14_i32 arg1
  let c0_i32 : BitVec 32 := 0#32
  let c0_i32_0 : BitVec 32 := 0#32
  ![v0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.minsi arg0 c11_i32
  let c12_i32 : BitVec 32 := 12#32
  let v1 : BitVec 1 := Scalar.cmpi .eq arg0 c12_i32
  let c14_i32 : BitVec 32 := 14#32
  let v2 : BitVec 32 := Scalar.select v1 c14_i32 arg1
  let c0_i32 : BitVec 32 := 0#32
  let c0_i32_0 : BitVec 32 := 0#32
  ![v0.toNat, v2.toNat, c0_i32.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.minsi arg0 c11_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.minsi arg0 c11_i32
  let c12_i32 : BitVec 32 := 12#32
  let v1 : BitVec 1 := Scalar.cmpi .eq arg0 c12_i32
  let c14_i32 : BitVec 32 := 14#32
  let v2 : BitVec 32 := Scalar.select v1 c14_i32 arg1
  let c0_i32 : BitVec 32 := 0#32
  let c0_i32_0 : BitVec 32 := 0#32
  ![v0.toNat, v2.toNat, c0_i32.toNat]

def cc0_transform_4 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.minsi arg0 c11_i32
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c0_i32_1 : BitVec 32 := 0#32
  let v3 : BitVec 32 := Scalar.select v2 c0_i32_1 arg1
  let c0_i32_2 : BitVec 32 := 0#32
  let c0_i32_3 : BitVec 32 := 0#32
  ![v1.toNat, v3.toNat, c0_i32_2.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c0_i32_1 : BitVec 32 := 0#32
  let v3 : BitVec 32 := Scalar.select v2 c0_i32_1 arg1
  let c0_i32_2 : BitVec 32 := 0#32
  let c0_i32_3 : BitVec 32 := 0#32
  ![v1.toNat, v3.toNat, c0_i32_2.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c0_i32_1 : BitVec 32 := 0#32
  let v3 : BitVec 32 := Scalar.select v2 c0_i32_1 arg1
  let c0_i32_2 : BitVec 32 := 0#32
  let c0_i32_3 : BitVec 32 := 0#32
  ![v1.toNat, v3.toNat, c0_i32_2.toNat]

def cc0_transform_8 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.minsi arg0 c11_i32
  let c0_i32 : BitVec 32 := 0#32
  let c0_i32_0 : BitVec 32 := 0#32
  let c0_i32_1 : BitVec 32 := 0#32
  ![v0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c0_i32_1 : BitVec 32 := 0#32
  let v3 : BitVec 32 := Scalar.select v2 c0_i32_1 arg1
  let c0_i32_2 : BitVec 32 := 0#32
  let c0_i32_3 : BitVec 32 := 0#32
  ![v1.toNat, v3.toNat, c0_i32_2.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

abbrev stage0_0 : Fin 2 → Memref sig .tc .vmem S1x192x2048 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x192x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x2880 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x192x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x192x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x192x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x192x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x192x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x192x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x192x2048 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x16x2880 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceIdeal.lean ====
abbrev S12x2880x2048 : Shape := ⟨3, ![12, 2880, 2048]⟩
abbrev S12x2880x16 : Shape := ⟨3, ![12, 2880, 16]⟩
abbrev S12x2880x192 : Shape := ⟨3, ![12, 2880, 192]⟩
abbrev S12x192x192 : Shape := ⟨3, ![12, 192, 192]⟩
abbrev S12x192x2048 : Shape := ⟨3, ![12, 192, 2048]⟩
abbrev S12x16x2880 : Shape := ⟨3, ![12, 16, 2880]⟩
abbrev S12x2880x16x128 : Shape := ⟨4, ![12, 2880, 16, 128]⟩
abbrev S12x2880x16x1 : Shape := ⟨4, ![12, 2880, 16, 1]⟩
abbrev S12x2048x192 : Shape := ⟨3, ![12, 2048, 192]⟩
abbrev S12x192 : Shape := ⟨2, ![12, 192]⟩
abbrev S12x1x192 : Shape := ⟨3, ![12, 1, 192]⟩

abbrev nBuf : Space → Nat
  | .hbm => 11
  | .vmem => 11
  | .smem => 0
  | _ => 0

abbrev bufTy : (tb : Table) → Fin (tcTables nBuf tb) → BufTy
  | .hbm, ⟨0, _⟩ => ⟨S12x2880x2048, .i8⟩
  | .hbm, ⟨1, _⟩ => ⟨S12x2880x2048, .bf16⟩
  | .hbm, ⟨2, _⟩ => ⟨S12x2880x16, .f32⟩
  | .hbm, ⟨3, _⟩ => ⟨S12x2880x192, .f32⟩
  | .hbm, ⟨4, _⟩ => ⟨S12x192x192, .f32⟩
  | .hbm, ⟨5, _⟩ => ⟨S12x2880x2048, .f32⟩
  | .hbm, ⟨6, _⟩ => ⟨S12x2880x2048, .f32⟩
  | .hbm, ⟨7, _⟩ => ⟨S12x2880x2048, .f32⟩
  | .hbm, ⟨8, _⟩ => ⟨S12x192x2048, .bf16⟩
  | .hbm, ⟨9, _⟩ => ⟨S12x2880x2048, .i8⟩
  | .hbm, ⟨10, _⟩ => ⟨S12x16x2880, .f32⟩
  | .local _ .vmem, ⟨0, _⟩ => ⟨S12x2880x2048, .i8⟩
  | .local _ .vmem, ⟨1, _⟩ => ⟨S12x2880x2048, .bf16⟩
  | .local _ .vmem, ⟨2, _⟩ => ⟨S12x2880x16, .f32⟩
  | .local _ .vmem, ⟨3, _⟩ => ⟨S12x2880x192, .f32⟩
  | .local _ .vmem, ⟨4, _⟩ => ⟨S12x192x192, .f32⟩
  | .local _ .vmem, ⟨5, _⟩ => ⟨S12x2880x2048, .f32⟩
  | .local _ .vmem, ⟨6, _⟩ => ⟨S12x2880x2048, .f32⟩
  | .local _ .vmem, ⟨7, _⟩ => ⟨S12x2880x2048, .f32⟩
  | .local _ .vmem, ⟨8, _⟩ => ⟨S12x192x2048, .bf16⟩
  | .local _ .vmem, ⟨9, _⟩ => ⟨S12x2880x2048, .i8⟩
  | .local _ .vmem, ⟨10, _⟩ => ⟨S12x16x2880, .f32⟩
  | _, _ => ⟨S12x2880x2048, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S12x2880x2048 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x2880x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12x2880x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12x2880x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12x192x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12x2880x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12x2880x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S12x2880x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S12x192x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S12x2880x2048 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S12x16x2880 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Gram.lean ====
abbrev S12x2880x2048 : Shape := ⟨3, ![12, 2880, 2048]⟩
abbrev S12x2880x16 : Shape := ⟨3, ![12, 2880, 16]⟩
abbrev S12x2048x192 : Shape := ⟨3, ![12, 2048, 192]⟩
abbrev S12x16x2880 : Shape := ⟨3, ![12, 16, 2880]⟩
abbrev S12x192x2048 : Shape := ⟨3, ![12, 192, 2048]⟩
abbrev S12x2880x192 : Shape := ⟨3, ![12, 2880, 192]⟩
abbrev S12x192x192 : Shape := ⟨3, ![12, 192, 192]⟩
abbrev S1x192x2048 : Shape := ⟨3, ![1, 192, 2048]⟩
abbrev S1x16x2880 : Shape := ⟨3, ![1, 16, 2880]⟩
abbrev S1x192x192 : Shape := ⟨3, ![1, 192, 192]⟩
abbrev S2880x16 : Shape := ⟨2, ![2880, 16]⟩
abbrev S2048x192 : Shape := ⟨2, ![2048, 192]⟩
abbrev S192x2048 : Shape := ⟨2, ![192, 2048]⟩
abbrev S16x2880 : Shape := ⟨2, ![16, 2880]⟩
abbrev S16x128 : Shape := ⟨2, ![16, 128]⟩
abbrev S128x16 : Shape := ⟨2, ![128, 16]⟩
abbrev S16x64 : Shape := ⟨2, ![16, 64]⟩
abbrev S64x16 : Shape := ⟨2, ![64, 16]⟩
abbrev S192x128 : Shape := ⟨2, ![192, 128]⟩
abbrev S128x192 : Shape := ⟨2, ![128, 192]⟩
abbrev S192x16 : Shape := ⟨2, ![192, 16]⟩
abbrev S1x192x128 : Shape := ⟨3, ![1, 192, 128]⟩
abbrev S192x1 : Shape := ⟨2, ![192, 1]⟩
abbrev S192x192 : Shape := ⟨2, ![192, 192]⟩

abbrev nBuf : Space → Nat
  | .hbm => 8
  | .vmem => 15
  | .smem => 0
  | _ => 0

abbrev bufTy : (tb : Table) → Fin (tcTables nBuf tb) → BufTy
  | .hbm, ⟨0, _⟩ => ⟨S12x2880x2048, .i8⟩
  | .hbm, ⟨1, _⟩ => ⟨S12x2880x2048, .bf16⟩
  | .hbm, ⟨2, _⟩ => ⟨S12x2880x16, .f32⟩
  | .hbm, ⟨3, _⟩ => ⟨S12x2048x192, .bf16⟩
  | .hbm, ⟨4, _⟩ => ⟨S12x16x2880, .f32⟩
  | .hbm, ⟨5, _⟩ => ⟨S12x192x2048, .bf16⟩
  | .hbm, ⟨6, _⟩ => ⟨S12x2880x192, .f32⟩
  | .hbm, ⟨7, _⟩ => ⟨S12x192x192, .f32⟩
  | .local _ .vmem, ⟨0, _⟩ => ⟨S1x192x2048, .i8⟩
  | .local _ .vmem, ⟨1, _⟩ => ⟨S1x192x2048, .i8⟩
  | .local _ .vmem, ⟨2, _⟩ => ⟨S1x192x2048, .bf16⟩
  | .local _ .vmem, ⟨3, _⟩ => ⟨S1x192x2048, .bf16⟩
  | .local _ .vmem, ⟨4, _⟩ => ⟨S1x16x2880, .f32⟩
  | .local _ .vmem, ⟨5, _⟩ => ⟨S1x16x2880, .f32⟩
  | .local _ .vmem, ⟨6, _⟩ => ⟨S1x192x2048, .bf16⟩
  | .local _ .vmem, ⟨7, _⟩ => ⟨S1x192x2048, .bf16⟩
  | .local _ .vmem, ⟨8, _⟩ => ⟨S1x192x192, .f32⟩
  | .local _ .vmem, ⟨9, _⟩ => ⟨S1x192x192, .f32⟩
  | .local _ .vmem, ⟨10, _⟩ => ⟨S1x192x192, .f32⟩
  | .local _ .vmem, ⟨11, _⟩ => ⟨S1x192x192, .f32⟩
  | .local _ .vmem, ⟨12, _⟩ => ⟨S2880x16, .f32⟩
  | .local _ .vmem, ⟨13, _⟩ => ⟨S2048x192, .bf16⟩
  | .local _ .vmem, ⟨14, _⟩ => ⟨S192x2048, .bf16⟩
  | _, _ => ⟨S12x2880x2048, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![12, 15], ![false, false]⟩

def k0_mult1 (i : grid0.Coords) : BitVec 32 :=
  let arg1 : BitVec 32 := BitVec.ofNat 32 (i 1).val
  let c192_i32 : BitVec 32 := 192#32
  let v3 : BitVec 32 := Scalar.muli arg1 c192_i32
  v3
def k0_off1 (i : grid0.Coords) : Fin 2 → Nat :=
  let arg1 : BitVec 32 := BitVec.ofNat 32 (i 1).val
  let c192_i32 : BitVec 32 := 192#32
  let v3 : BitVec 32 := Scalar.muli arg1 c192_i32
  let v4 : BitVec 32 := v3
  let v5 : Index := Scalar.indexCast v4
  let c0 : Index := 0#32
  ![v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x192x2048 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x192x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x2880 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x192x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x192x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x192x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== GramRefIdeal.lean ====
abbrev S12x2880x2048 : Shape := ⟨3, ![12, 2880, 2048]⟩
abbrev S12x2880x16 : Shape := ⟨3, ![12, 2880, 16]⟩
abbrev S12x2048x192 : Shape := ⟨3, ![12, 2048, 192]⟩
abbrev S12x2880x192 : Shape := ⟨3, ![12, 2880, 192]⟩
abbrev S12x192x192 : Shape := ⟨3, ![12, 192, 192]⟩
abbrev S12x2880x16x128 : Shape := ⟨4, ![12, 2880, 16, 128]⟩
abbrev S12x2880x16x1 : Shape := ⟨4, ![12, 2880, 16, 1]⟩

abbrev nBuf : Space → Nat
  | .hbm => 6
  | .vmem => 6
  | .smem => 0
  | _ => 0

abbrev bufTy : (tb : Table) → Fin (tcTables nBuf tb) → BufTy
  | .hbm, ⟨0, _⟩ => ⟨S12x2880x2048, .i8⟩
  | .hbm, ⟨1, _⟩ => ⟨S12x2880x2048, .bf16⟩
  | .hbm, ⟨2, _⟩ => ⟨S12x2880x16, .f32⟩
  | .hbm, ⟨3, _⟩ => ⟨S12x2048x192, .bf16⟩
  | .hbm, ⟨4, _⟩ => ⟨S12x2880x192, .f32⟩
  | .hbm, ⟨5, _⟩ => ⟨S12x192x192, .f32⟩
  | .local _ .vmem, ⟨0, _⟩ => ⟨S12x2880x2048, .i8⟩
  | .local _ .vmem, ⟨1, _⟩ => ⟨S12x2880x2048, .bf16⟩
  | .local _ .vmem, ⟨2, _⟩ => ⟨S12x2880x16, .f32⟩
  | .local _ .vmem, ⟨3, _⟩ => ⟨S12x2048x192, .bf16⟩
  | .local _ .vmem, ⟨4, _⟩ => ⟨S12x2880x192, .f32⟩
  | .local _ .vmem, ⟨5, _⟩ => ⟨S12x192x192, .f32⟩
  | _, _ => ⟨S12x2880x2048, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S12x2880x2048 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x2880x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12x2880x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12x2048x192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12x2880x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12x192x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Kernel.Body.lean ====
/-
  The body of the main kernel cut at its three top-level branches: `fragA` applies the update and requantises the tile
  of the matrix one behind, `fragB` writes out the new scales of a finished matrix, `fragC` dequantises the tile of the
  current matrix and adds it to the product. `body_eq`: the printed body is the three branches in order.
-/
module

public import proofs.«01_k».proof.Proof.Gen.Kernel.Skeleton
public import proofs.«01_k».proof.Proof.Gen.Kernel.Frame
public import Idealize.ShloMosaic.Lib.Tactic
public import Idealize.ShloMosaic.Lib.Ring
public import Idealize.ShloMosaic.Lib.WordCmp
public import Idealize.ShloMosaic.Lib.Pipeline.FrameBody

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)

variable {F : FTy → Type} [FloatOps F]

local notation "𝕄" => MT nD τ sig Unit (Elt F) ℕ (UR sig nD τ) ℕ

/-- What the body does at a point past the first matrix, then `jp`. -/
def fragA (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (k0_h1 : k0_cond1 i = 1#1)
    (jp : PUnit.{1} → Prog (TpuEff nD τ sig (Elt F) Λ₀ .tc) PUnit) : Prog (TpuEff nD τ sig (Elt F) Λ₀ .tc) PUnit := do
  let arg1 : BitVec 32 := BitVec.ofNat 32 (i 1).val
  let v0 : BitVec 32 := Scalar.muli arg1 192#32
  let v1 : BitVec 32 := v0
  let ⟨v14, v16, v37, v46⟩ : Σ' (v14 : Vec F S192x192 .bf16) (v16 : FVec F S192x256 .f32) (v37 : FVec F S192x128 .f32), FVec F S192x1 .f32 ← k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 k0_h1
  let v88 : IVec S192x128 8 ← k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 k0_h1 v16 v37 v46
  let ⟨v93, v114, v117, v119, v120⟩ : Σ' (v93 : FVec F S192x256 .f32) (v114 : FVec F S192x128 .f32) (v117 : FVec F S192x1 .f32) (v119 : IVec S192x1 1), FVec F S192x1 .f32 ← k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 k0_h1 v14 v88
  let ⟨v160, cst_75, v161⟩ : Σ' (v160 : FVec F S192x128 .f32) (cst_75 : F .f32), FVec F S192x128 .f32 ← k0_part4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 k0_h1 v93 v114 v117 v119 v120
  let ⟨v170, v191, v194, cst_98⟩ : Σ' (v170 : FVec F S192x256 .f32) (v191 : FVec F S192x128 .f32) (v194 : FVec F S192x1 .f32), F .f32 ← k0_part5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 k0_h1 v14 v160 cst_75 v161
  let v236 : FVec F S192x128 .f32 ← k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 k0_h1 v170 v191 v194 cst_98
  let ⟨v247, v268, v269⟩ : Σ' (v247 : FVec F S192x256 .f32) (v268 : FVec F S192x128 .f32), FVec F S192x128 .f32 ← k0_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 k0_h1 v14 v236
  let ⟨v298, v307⟩ : Σ' (v298 : FVec F S192x128 .f32), FVec F S192x1 .f32 ← k0_part8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 k0_h1 v247 v268 v269
  let ⟨v324, v341, v342, cst_170⟩ : Σ' (v324 : FVec F S192x256 .f32) (v341 : Vec F S192x128 .f32) (v342 : FVec F S192x128 .f32), F .f32 ← k0_part9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 k0_h1 v14 v298 v307
  let ⟨v375, v384⟩ : Σ' (v375 : FVec F S192x128 .f32), FVec F S192x1 .f32 ← k0_part10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 k0_h1 v324 v341 v342 cst_170
  let v401 : FVec F S192x256 .f32 ← k0_part11 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 k0_h1 v14 v375 v384
  let ⟨v452, v455, v457, v458⟩ : Σ' (v452 : FVec F S192x128 .f32) (v455 : FVec F S192x1 .f32) (v457 : IVec S192x1 1), FVec F S192x1 .f32 ← k0_part12 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 k0_h1 v401
  let ⟨v478, v490, v491⟩ : Σ' (v478 : FVec F S192x256 .f32) (v490 : FVec F S192x256 .f32), Vec F S1x192x256 .f32 ← k0_part13 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 k0_h1 v14 v452 v455 v457 v458
  let ⟨v529, v532, cst_256⟩ : Σ' (v529 : FVec F S192x128 .f32) (v532 : FVec F S192x1 .f32), F .f32 ← k0_part14 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 k0_h1 v478 v490 v491
  let ⟨v555, v567⟩ : Σ' (v555 : FVec F S192x256 .f32), FVec F S192x256 .f32 ← k0_part15 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 k0_h1 v14 v529 v532 cst_256
  let ⟨v606, v607⟩ : Σ' (v606 : FVec F S192x128 .f32), FVec F S192x128 .f32 ← k0_part16 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 k0_h1 v555 v567
  let v617 : Vec F S192x1 .f32 ← Prog.lift (.load arg14 (Rect.unit (s := S2880x16) (k0_off33 i) S192x1.size (k0_off33_inb i k0_h1)).toLoadRect (View.loadsAt_vmem h_S192x1))
  Prog.lift (.store arg14 (Rect.unit (s := S2880x16) (k0_off33 i) S192x1.size (k0_off33_inb i k0_h1)) (k0_pay2 v607) Finset.univ (View.stores_vmem_bits_univ h_S192x1 rfl) (.inl rfl))
  let v628 : Vec F S1x192x128 .i8 ← Prog.lift (.load arg11 (Rect.unit (s := S1x192x2048) ![0, 0, 1920] S1x192x128.size inb_S1x192x2048_S1x192x128_0_0_1920).toLoadRect (View.loadsAt_vmem h_S1x192x128))
  Prog.lift (.store arg11 (Rect.unit (s := S1x192x2048) ![0, 0, 1920] S1x192x128.size inb_S1x192x2048_S1x192x128_0_0_1920) (k0_pay3 v606 v607) Finset.univ (View.stores_vmem h_S1x192x128 (harg11.storeExact_slice rfl _ packedi8_S1x192x2048_S1x192x128_0_0_1920) (fun _ => rfl)) (.inl rfl))
  jp ⟨⟩

/-- What the body does besides at such a matrix's last tile, then `jp`. -/
def fragB (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (k0_h2 : k0_cond2 i = 1#1)
    (jp : PUnit.{1} → Prog (TpuEff nD τ sig (Elt F) Λ₀ .tc) PUnit) : Prog (TpuEff nD τ sig (Elt F) Λ₀ .tc) PUnit := do
  let arg1 : BitVec 32 := BitVec.ofNat 32 (i 1).val
  let v0 : BitVec 32 := Scalar.muli arg1 192#32
  let v1 : BitVec 32 := v0
  let v39 : FVec F S16x128 .f32 ← k0_part17 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20
  let v67 : FVec F S1x16x128 .f32 ← k0_part18 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v39
  let v94 : FVec F S16x128 .f32 ← k0_part19 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v67
  let v119 : FVec F S16x128 .f32 ← k0_part20 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v94
  Prog.lift (.store arg12 (Rect.unit (s := S1x16x2880) ![0, 0, 2688] S1x16x128.size inb_S1x16x2880_S1x16x128_0_0_2688) (k0_pay4 v119) Finset.univ (View.stores_vmem_bits_univ h_S1x16x128 rfl) (.inl rfl))
  let v123 : Vec F S64x16 .f32 ← Prog.lift (.load arg14 (Rect.unit (s := S2880x16) ![2816, 0] S64x16.size inb_S2880x16_S64x16_2816_0).toLoadRect (View.loadsAt_vmem h_S64x16))
  let v125 : Vec F S1x16x64 .f32 ← Prog.lift (.load arg12 (Rect.unit (s := S1x16x2880) ![0, 0, 2816] S1x16x64.size inb_S1x16x2880_S1x16x64_0_0_2816).toLoadRect (View.loadsAt_vmem h_S1x16x64))
  Prog.lift (.store arg12 (Rect.unit (s := S1x16x2880) ![0, 0, 2816] S1x16x64.size inb_S1x16x2880_S1x16x64_0_0_2816) (k0_pay5 v123) Finset.univ (View.stores_vmem_bits_univ h_S1x16x64 rfl) (.inl rfl))
  jp ⟨⟩

/-- What the body does at a point before the extra last matrix, then `jp`. -/
def fragC (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (k0_h3 : k0_cond3 i = 1#1)
    (jp : PUnit.{1} → Prog (TpuEff nD τ sig (Elt F) Λ₀ .tc) PUnit) : Prog (TpuEff nD τ sig (Elt F) Λ₀ .tc) PUnit := do
  let arg1 : BitVec 32 := BitVec.ofNat 32 (i 1).val
  let v0 : BitVec 32 := Scalar.muli arg1 192#32
  let v1 : BitVec 32 := v0
  let ⟨v17, v45⟩ : Σ' (v17 : Vec F S192x16 .f32), FVec F S192x128 .f32 ← k0_part27 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 v1 k0_h3
  let v86 : FVec F S192x128 .bf16 ← k0_part28 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 k0_h3 v17 v45
  let ⟨v122, v123⟩ : Σ' (v122 : FVec F S192x128 .bf16), Vec F S192x128 .bf16 ← k0_part29 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 k0_h3 v17 v86
  let v161 : FVec F S192x128 .bf16 ← k0_part30 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 k0_h3 v17 v122 v123
  k0_part31 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 k0_h3 v17 v161
  k0_part32 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 k0_h3 v17
  let v271 : IVec S192x128 8 ← k0_part33 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 k0_h3 v17
  let v307 : FVec F S192x192 .f32 ← k0_part34 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 k0_h3 v17 v271
  let ⟨v311, v337⟩ : Σ' (v311 : FVec F S192x192 .bf16), Vec F S192x256 .f32 ← k0_part35 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 k0_h3 v307
  let v365 : Vec F S192x256 .f32 ← k0_part36 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v311 v337
  let v366 : Vec F S192x256 .bf16 ← Prog.lift (.load arg17 (Rect.unit (s := S192x2048) ![0, 1792] S192x256.size inb_S192x2048_S192x256_0_1792).toLoadRect (View.loadsAt_vmem h_S192x256))
  let v369 : Vec F S192x256 .f32 ← Prog.lift (.load arg18 (Rect.unit (s := S192x2048) ![0, 1792] S192x256.size inb_S192x2048_S192x256_0_1792).toLoadRect (View.loadsAt_vmem h_S192x256))
  Prog.lift (.store arg18 (Rect.unit (s := S192x2048) ![0, 1792] S192x256.size inb_S192x2048_S192x256_0_1792) (k0_pay6 v311 v365 v366) Finset.univ (View.stores_vmem_bits_univ h_S192x256 rfl) (.inl rfl))
  if k0_h5 : k0_cond5 i = 1#1 then do
    let v375 : Vec F S192x2048 .f32 ← Prog.lift (.load arg18 (Rect.unit (s := S192x2048) ![0, 0] S192x2048.size inb_S192x2048_S192x2048_0_0).toLoadRect (View.loadsAt_vmem h_S192x2048))
    let v377 : Vec F S192x2048 .bf16 ← Prog.lift (.load arg19 (Rect.unit (s := S192x2048) ![0, 0] S192x2048.size inb_S192x2048_S192x2048_0_0).toLoadRect (View.loadsAt_vmem h_S192x2048))
    Prog.lift (.store arg19 (Rect.unit (s := S192x2048) ![0, 0] S192x2048.size inb_S192x2048_S192x2048_0_0) (k0_pay7 v375) Finset.univ (View.stores_vmem h_S192x2048 (harg19.storeExact_slice rfl _ packedbf16_S192x2048_S192x2048_0_0) (fun _ => rfl)) (.inl rfl))
    let v387 : Vec F S192x2048 .bf16 ← Prog.lift (.load arg20 (Rect.unit (s := S192x2048) ![0, 0] S192x2048.size inb_S192x2048_S192x2048_0_0).toLoadRect (View.loadsAt_vmem h_S192x2048))
    Prog.lift (.store arg20 (Rect.unit (s := S192x2048) ![0, 0] S192x2048.size inb_S192x2048_S192x2048_0_0) (k0_pay9 v375) Finset.univ (View.stores_vmem h_S192x2048 (harg20.storeExact_slice rfl _ packedbf16_S192x2048_S192x2048_0_0) (fun _ => rfl)) (.inl rfl))
    let v390 : Vec F S1x192x2048 .bf16 ← Prog.lift (.load arg10 (Rect.unit (s := S1x192x2048) ![0, 0, 0] S1x192x2048.size inb_S1x192x2048_S1x192x2048_0_0_0).toLoadRect (View.loadsAt_vmem h_S1x192x2048))
    Prog.lift (.store arg10 (Rect.unit (s := S1x192x2048) ![0, 0, 0] S1x192x2048.size inb_S1x192x2048_S1x192x2048_0_0_0) (k0_pay10 v375) Finset.univ (View.stores_vmem h_S1x192x2048 (harg10.storeExact_slice rfl _ packedbf16_S1x192x2048_S1x192x2048_0_0_0) (fun _ => rfl)) (.inl rfl))
    pure ⟨⟩
  else do
    pure ⟨⟩
  jp ⟨⟩

set_option maxRecDepth 65536 in
/-- The printed body is its three branches in order. -/
theorem body_eq (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) :
    cc0_dion_main (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 =
      (let jp2 : PUnit.{1} → Prog (TpuEff nD τ sig (Elt F) Λ₀ .tc) PUnit := fun _ =>
        if h : k0_cond3 i = 1#1 then fragC i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h (fun _ => pure ⟨⟩) else pure ⟨⟩
      let jp1 : PUnit.{1} → Prog (TpuEff nD τ sig (Elt F) Λ₀ .tc) PUnit := fun _ =>
        if h : k0_cond2 i = 1#1 then fragB i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h jp2 else jp2 ⟨⟩
      if h : k0_cond1 i = 1#1 then fragA i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h jp1 else jp1 ⟨⟩) := by
  rw [cc0_dion_main_eq_skeleton]; rfl

/-- The start of a matrix: its scales transposed into the scratch and the product set to zero, then `jp`. -/
def fragC0 (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (k0_h3 : k0_cond3 i = 1#1)
    (jp : PUnit.{1} → Prog (TpuEff nD τ sig (Elt F) Λ₀ .tc) PUnit) : Prog (TpuEff nD τ sig (Elt F) Λ₀ .tc) PUnit := do
  let arg1 : BitVec 32 := BitVec.ofNat 32 (i 1).val
  let v0 : BitVec 32 := Scalar.muli arg1 192#32
  let v1 : BitVec 32 := v0
  let v403 : FVec F S128x16 .f32 ← k0_part21 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20
  let v433 : Vec F S16x128 .f32 ← k0_part22 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v403
  k0_part23 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v433
  k0_part24 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20
  let v523 : FVec F S128x16 .f32 ← k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20
  let v553 : Vec F S16x64 .f32 ← k0_part26 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v523
  let v556 : Vec F S64x16 .f32 ← Prog.lift (.load arg13 (Rect.unit (s := S2880x16) ![2816, 0] S64x16.size inb_S2880x16_S64x16_2816_0).toLoadRect (View.loadsAt_vmem h_S64x16))
  Prog.lift (.store arg13 (Rect.unit (s := S2880x16) ![2816, 0] S64x16.size inb_S2880x16_S64x16_2816_0) (k0_pay169 v553) Finset.univ (View.stores_vmem_bits_univ h_S64x16 rfl) (.inl rfl))
  let v560 : Vec F S192x2048 .f32 ← Prog.lift (.load arg18 (Rect.unit (s := S192x2048) ![0, 0] S192x2048.size inb_S192x2048_S192x2048_0_0).toLoadRect (View.loadsAt_vmem h_S192x2048))
  Prog.lift (.store arg18 (Rect.unit (s := S192x2048) ![0, 0] S192x2048.size inb_S192x2048_S192x2048_0_0) (k0_pay170 (F := F)) Finset.univ (View.stores_vmem_bits_univ h_S192x2048 rfl) (.inl rfl))
  jp ⟨⟩

/-- The tile of the current matrix dequantised, its block of p computed, and its share added to the product, then `jp`. -/
def fragCm (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (k0_h3 : k0_cond3 i = 1#1)
    (jp : PUnit.{1} → Prog (TpuEff nD τ sig (Elt F) Λ₀ .tc) PUnit) : Prog (TpuEff nD τ sig (Elt F) Λ₀ .tc) PUnit := do
  let arg1 : BitVec 32 := BitVec.ofNat 32 (i 1).val
  let v0 : BitVec 32 := Scalar.muli arg1 192#32
  let v1 : BitVec 32 := v0
  let v17 : Vec F S192x16 .f32 ← Prog.lift (.load arg13 (Rect.unit (s := S2880x16) (k0_off34 i) S192x16.size (k0_off34_inb i k0_h3)).toLoadRect (View.loadsAt_vmem h_S192x16))
  let v18 : Vec F S1x192x128 .i8 ← Prog.lift (.load arg2 (Rect.unit (s := S1x192x2048) ![0, 0, 0] S1x192x128.size inb_S1x192x2048_S1x192x128_0_0_0).toLoadRect (View.loadsAt_vmem h_S1x192x128))
  let v20 : Vec F S1x192x128 .bf16 ← Prog.lift (.load arg3 (Rect.unit (s := S1x192x2048) ![0, 0, 0] S1x192x128.size inb_S1x192x2048_S1x192x128_0_0_0).toLoadRect (View.loadsAt_vmem h_S1x192x128))
  let v29 : Vec F S192x128 .f32 ← Prog.lift (.load arg15 (Rect.unit (s := S2880x2048) (k0_off35 i) S192x128.size (k0_off35_inb i k0_h3)).toLoadRect (View.loadsAt_vmem h_S192x128))
  Prog.lift (.store arg15 (Rect.unit (s := S2880x2048) (k0_off35 i) S192x128.size (k0_off35_inb i k0_h3)) (k0_pay172 v17 v18 v20) Finset.univ (View.stores_vmem_bits_univ h_S192x128 rfl) (.inl rfl))
  let v33 : Vec F S192x128 .bf16 ← Prog.lift (.load arg17 (Rect.unit (s := S192x2048) ![0, 0] S192x128.size inb_S192x2048_S192x128_0_0).toLoadRect (View.loadsAt_vmem h_S192x128))
  Prog.lift (.store arg17 (Rect.unit (s := S192x2048) ![0, 0] S192x128.size inb_S192x2048_S192x128_0_0) (k0_pay173 v17 v18 v20) Finset.univ (View.stores_vmem h_S192x128 (harg17.storeExact_slice rfl _ packedbf16_S192x2048_S192x128_0_0) (fun _ => rfl)) (.inl rfl))
  let v36 : Vec F S1x192x128 .i8 ← Prog.lift (.load arg2 (Rect.unit (s := S1x192x2048) ![0, 0, 128] S1x192x128.size inb_S1x192x2048_S1x192x128_0_0_128).toLoadRect (View.loadsAt_vmem h_S1x192x128))
  let v38 : Vec F S1x192x128 .bf16 ← Prog.lift (.load arg3 (Rect.unit (s := S1x192x2048) ![0, 0, 128] S1x192x128.size inb_S1x192x2048_S1x192x128_0_0_128).toLoadRect (View.loadsAt_vmem h_S1x192x128))
  let v47 : Vec F S192x128 .f32 ← Prog.lift (.load arg15 (Rect.unit (s := S2880x2048) (k0_off36 i) S192x128.size (k0_off36_inb i k0_h3)).toLoadRect (View.loadsAt_vmem h_S192x128))
  Prog.lift (.store arg15 (Rect.unit (s := S2880x2048) (k0_off36 i) S192x128.size (k0_off36_inb i k0_h3)) (k0_pay175 v17 v36 v38) Finset.univ (View.stores_vmem_bits_univ h_S192x128 rfl) (.inl rfl))
  let v45 : FVec F S192x128 .f32 := k0_pay174 v17 v36 v38
  let v86 : FVec F S192x128 .bf16 ← k0_part28 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 k0_h3 v17 v45
  let ⟨v122, v123⟩ : Σ' (v122 : FVec F S192x128 .bf16), Vec F S192x128 .bf16 ← k0_part29 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 k0_h3 v17 v86
  let v161 : FVec F S192x128 .bf16 ← k0_part30 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 k0_h3 v17 v122 v123
  k0_part31 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 k0_h3 v17 v161
  k0_part32 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 k0_h3 v17
  let v271 : IVec S192x128 8 ← k0_part33 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 k0_h3 v17
  let v307 : FVec F S192x192 .f32 ← k0_part34 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 k0_h3 v17 v271
  let ⟨v311, v337⟩ : Σ' (v311 : FVec F S192x192 .bf16), Vec F S192x256 .f32 ← k0_part35 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 k0_h3 v307
  let v365 : Vec F S192x256 .f32 ← k0_part36 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v311 v337
  let v366 : Vec F S192x256 .bf16 ← Prog.lift (.load arg17 (Rect.unit (s := S192x2048) ![0, 1792] S192x256.size inb_S192x2048_S192x256_0_1792).toLoadRect (View.loadsAt_vmem h_S192x256))
  let v369 : Vec F S192x256 .f32 ← Prog.lift (.load arg18 (Rect.unit (s := S192x2048) ![0, 1792] S192x256.size inb_S192x2048_S192x256_0_1792).toLoadRect (View.loadsAt_vmem h_S192x256))
  Prog.lift (.store arg18 (Rect.unit (s := S192x2048) ![0, 1792] S192x256.size inb_S192x2048_S192x256_0_1792) (k0_pay6 v311 v365 v366) Finset.univ (View.stores_vmem_bits_univ h_S192x256 rfl) (.inl rfl))
  jp ⟨⟩

/-- The end of a matrix: the product and its normalised columns, then `jp`. -/
def fragCe (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (k0_h5 : k0_cond5 i = 1#1)
    (jp : PUnit.{1} → Prog (TpuEff nD τ sig (Elt F) Λ₀ .tc) PUnit) : Prog (TpuEff nD τ sig (Elt F) Λ₀ .tc) PUnit := do
  let arg1 : BitVec 32 := BitVec.ofNat 32 (i 1).val
  let v0 : BitVec 32 := Scalar.muli arg1 192#32
  let v1 : BitVec 32 := v0
  let v375 : Vec F S192x2048 .f32 ← Prog.lift (.load arg18 (Rect.unit (s := S192x2048) ![0, 0] S192x2048.size inb_S192x2048_S192x2048_0_0).toLoadRect (View.loadsAt_vmem h_S192x2048))
  let v377 : Vec F S192x2048 .bf16 ← Prog.lift (.load arg19 (Rect.unit (s := S192x2048) ![0, 0] S192x2048.size inb_S192x2048_S192x2048_0_0).toLoadRect (View.loadsAt_vmem h_S192x2048))
  Prog.lift (.store arg19 (Rect.unit (s := S192x2048) ![0, 0] S192x2048.size inb_S192x2048_S192x2048_0_0) (k0_pay7 v375) Finset.univ (View.stores_vmem h_S192x2048 (harg19.storeExact_slice rfl _ packedbf16_S192x2048_S192x2048_0_0) (fun _ => rfl)) (.inl rfl))
  let v387 : Vec F S192x2048 .bf16 ← Prog.lift (.load arg20 (Rect.unit (s := S192x2048) ![0, 0] S192x2048.size inb_S192x2048_S192x2048_0_0).toLoadRect (View.loadsAt_vmem h_S192x2048))
  Prog.lift (.store arg20 (Rect.unit (s := S192x2048) ![0, 0] S192x2048.size inb_S192x2048_S192x2048_0_0) (k0_pay9 v375) Finset.univ (View.stores_vmem h_S192x2048 (harg20.storeExact_slice rfl _ packedbf16_S192x2048_S192x2048_0_0) (fun _ => rfl)) (.inl rfl))
  let v390 : Vec F S1x192x2048 .bf16 ← Prog.lift (.load arg10 (Rect.unit (s := S1x192x2048) ![0, 0, 0] S1x192x2048.size inb_S1x192x2048_S1x192x2048_0_0_0).toLoadRect (View.loadsAt_vmem h_S1x192x2048))
  Prog.lift (.store arg10 (Rect.unit (s := S1x192x2048) ![0, 0, 0] S1x192x2048.size inb_S1x192x2048_S1x192x2048_0_0_0) (k0_pay10 v375) Finset.univ (View.stores_vmem h_S1x192x2048 (harg10.storeExact_slice rfl _ packedbf16_S1x192x2048_S1x192x2048_0_0_0) (fun _ => rfl)) (.inl rfl))
  jp ⟨⟩

/-- The printed condition of the start of a matrix. -/
def cond4 (i : grid0.Coords) : BitVec 1 := Scalar.cmpi .ne (Scalar.extui (Scalar.cmpi .eq (BitVec.ofNat 32 (i 1).val) 0#32) : BitVec 32) 0#32

/-- The third branch at a matrix's first tile. -/
theorem fragC_first (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (h3 : k0_cond3 i = 1#1) (h4 : cond4 i = 1#1)
    (jp : PUnit.{1} → Prog (TpuEff nD τ sig (Elt F) Λ₀ .tc) PUnit) :
    fragC (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h3 jp =
      (let jpe : PUnit.{1} → Prog (TpuEff nD τ sig (Elt F) Λ₀ .tc) PUnit := fun _ =>
        if h : k0_cond5 i = 1#1 then fragCe i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h jp else jp ⟨⟩
      fragC0 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h3 (fun _ => fragCm i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h3 jpe)) := by
  unfold fragC
  simp only [k0_part27_eq_skeleton]
  unfold k0_part27_skel
  have h4' := h4
  unfold cond4 at h4'
  simp only [dif_pos h4', bind_assoc, pure_bind]
  rfl

/-- The third branch at a matrix's later tiles. -/
theorem fragC_later (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (h3 : k0_cond3 i = 1#1) (h4 : ¬ cond4 i = 1#1)
    (jp : PUnit.{1} → Prog (TpuEff nD τ sig (Elt F) Λ₀ .tc) PUnit) :
    fragC (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h3 jp =
      (let jpe : PUnit.{1} → Prog (TpuEff nD τ sig (Elt F) Λ₀ .tc) PUnit := fun _ =>
        if h : k0_cond5 i = 1#1 then fragCe i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h jp else jp ⟨⟩
      fragCm i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h3 jpe) := by
  unfold fragC
  simp only [k0_part27_eq_skeleton]
  unfold k0_part27_skel
  have h4' := h4
  unfold cond4 at h4'
  simp only [dif_neg h4', bind_assoc, pure_bind]
  rfl

end Cert.Kernel.Hand

end
-- ==== Proof.Kernel.Own.lean ====
/-
  What the body owns at a point: its six inputs, five outputs and eight scratch buffers.
-/
module

public import proofs.«01_k».proof.Proof.Kernel.Body

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)

variable {F : FTy → Type} [FloatOps F]

local notation "𝕄" => MT nD τ sig Unit (Elt F) ℕ (UR sig nD τ) ℕ

/-- The body's buffers, the inputs at given contents and the rest at any. -/
def Own (c : Dev nD) (arg2 : Memref sig .tc .vmem S1x192x2048 .i8) (arg3 : Memref sig .tc .vmem S1x192x2048 .bf16) (arg4 : Memref sig .tc .vmem S1x16x2880 .f32) (arg5 : Memref sig .tc .vmem S1x192x192 .f32) (arg6 : Memref sig .tc .vmem S1x192x192 .f32) (arg7 : Memref sig .tc .vmem S1x192x2048 .f32) (arg8 : Memref sig .tc .vmem S1x192x2048 .f32) (arg9 : Memref sig .tc .vmem S1x192x2048 .f32) (arg10 : Memref sig .tc .vmem S1x192x2048 .bf16) (arg11 : Memref sig .tc .vmem S1x192x2048 .i8) (arg12 : Memref sig .tc .vmem S1x16x2880 .f32) (arg13 : Memref sig .tc .vmem S2880x16 .f32) (arg14 : Memref sig .tc .vmem S2880x16 .f32) (arg15 : Memref sig .tc .vmem S2880x2048 .f32) (arg16 : Memref sig .tc .vmem S2880x192 .bf16) (arg17 : Memref sig .tc .vmem S192x2048 .bf16) (arg18 : Memref sig .tc .vmem S192x2048 .f32) (arg19 : Memref sig .tc .vmem S192x2048 .bf16) (arg20 : Memref sig .tc .vmem S192x2048 .bf16)
    (x2 : Vec F S1x192x2048 .i8) (x3 : Vec F S1x192x2048 .bf16) (x4 : Vec F S1x16x2880 .f32) (x5 : Vec F S1x192x192 .f32) (x6 : Vec F S1x192x192 .f32) (x7 : Vec F S1x192x2048 .f32) : sProp 𝕄 :=
  iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d))

/-- A buffer some stores were made to is owned at what it reads. -/
theorem owns_of_writes {S : Shape} {t : EltTy} (c : Dev nD) (arg : Memref sig .tc .vmem S t) (f) (L : List (View.Piece (Elt F) S t)) (Z : Vec F S t)
    (h : View.read (Elt F) arg.view (arg.view.writes (Elt F) f L) = Z) :
    (arg.view.loc (c : Thread nD τ) ↦[arg.view.set]{fullShare} arg.view.writes (Elt F) f L : sProp 𝕄) ⊢ owns (c : Thread nD τ) arg fullShare Z := by
  unfold owns
  iintro H
  iexists _
  isplitr
  swap; · iexact H
  ipureintro; exact h

/-- The same of a buffer whose contents before the stores are not known. -/
theorem owns_of_writes_some {S : Shape} {t : EltTy} (c : Dev nD) (arg : Memref sig .tc .vmem S t) (L : List (View.Piece (Elt F) S t)) (Z : Vec F S t)
    (h : ∀ f, View.read (Elt F) arg.view (arg.view.writes (Elt F) f L) = Z) :
    iprop(∃ f, arg.view.loc (c : Thread nD τ) ↦[arg.view.set]{fullShare} arg.view.writes (Elt F) f L : sProp 𝕄) ⊢ owns (c : Thread nD τ) arg fullShare Z := by
  iintro ⟨%f, H⟩
  iapply owns_of_writes c arg f L Z (h f)
  iexact H

end Cert.Kernel.Hand

end
-- ==== Proof.Kernel.RunA.lean ====
/-
  The update branch, run once: what its stores leave, as pieces.
-/
module

public import proofs.«01_k».proof.Proof.Kernel.Body

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)

variable {F : FTy → Type} [FloatOps F]

local notation "𝕄" => MT nD τ sig Unit (Elt F) ℕ (UR sig nD τ) ℕ

set_option maxHeartbeats 4000000 in
/-- The update branch run once: the pieces its stores leave (last first), with the proof that it leaves them. -/
def runA (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (k0_h1 : k0_cond1 i = 1#1)
    (x7 : Vec F S1x192x2048 .f32) (x14 : Vec F S2880x16 .f32) (x15 : Vec F S2880x2048 .f32) (x16 : Vec F S2880x192 .bf16) (x19 : Vec F S192x2048 .bf16) (x20 : Vec F S192x2048 .bf16) :
    Σ' (L8 : List (View.Piece (Elt F) S1x192x2048 .f32)), Σ' (L9 : List (View.Piece (Elt F) S1x192x2048 .f32)), Σ' (L11 : List (View.Piece (Elt F) S1x192x2048 .i8)), { L14 : List (View.Piece (Elt F) S2880x16 .f32) //
      ∀ (jp : PUnit.{1} → Prog (TpuEff nD τ sig (Elt F) Λ₀ .tc) PUnit) (E : Set ℕ) (K : PUnit → sProp 𝕄),
        iprop(owns (c : Thread nD τ) arg7 fullShare x7 ∗ (∃ d, owns (c : Thread nD τ) arg8 fullShare d) ∗ (∃ d, owns (c : Thread nD τ) arg9 fullShare d) ∗ (∃ d, owns (c : Thread nD τ) arg11 fullShare d) ∗ owns (c : Thread nD τ) arg14 fullShare x14 ∗ owns (c : Thread nD τ) arg15 fullShare x15 ∗ owns (c : Thread nD τ) arg16 fullShare x16 ∗ owns (c : Thread nD τ) arg19 fullShare x19 ∗ owns (c : Thread nD τ) arg20 fullShare x20
            ∗ (iprop(owns (c : Thread nD τ) arg7 fullShare x7 ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg11.view.loc (c : Thread nD τ) ↦[arg11.view.set]{fullShare} arg11.view.writes (Elt F) f L11) ∗ (arg14.view.loc (c : Thread nD τ) ↦[arg14.view.set]{fullShare} arg14.view.writes (Elt F) (harg14.unread x14) L14) ∗ owns (c : Thread nD τ) arg15 fullShare x15 ∗ owns (c : Thread nD τ) arg16 fullShare x16 ∗ owns (c : Thread nD τ) arg19 fullShare x19 ∗ owns (c : Thread nD τ) arg20 fullShare x20) -∗ wp frame (wpE (defs₀ (F := F)) Variants.none c none) E (jp ⟨⟩) K))
          ⊢ wp frame (wpE (defs₀ (F := F)) Variants.none c none) E (fragA i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 jp) K } := by
  refine ⟨?_, ?_, ?_, ?_, fun jp E K => ?run⟩
  case run =>
    unfold fragA
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f7, %hf7, H7⟩, ⟨%d8, %f8, -, H8⟩, ⟨%d9, %f9, -, H9⟩, ⟨%d11, %f11, -, H11⟩, ⟨%f14, %hf14, H14⟩, ⟨%f15, %hf15, H15⟩, ⟨%f16, %hf16, H16⟩, ⟨%f19, %hf19, H19⟩, ⟨%f20, %hf20, H20⟩, Hk⟩
    obtain rfl := harg7.eq_unread hf7; obtain rfl := harg14.eq_unread hf14; obtain rfl := harg15.eq_unread hf15; obtain rfl := harg16.eq_unread hf16; obtain rfl := harg19.eq_unread hf19; obtain rfl := harg20.eq_unread hf20
    sl_exec
    iapply Hk
    isplitl [H7]
    · iexists _; isplitr; · ipureintro; exact harg7.read_unread _
      iexact H7
    isplitl [H8]
    · iexists _; iexact H8
    isplitl [H9]
    · iexists _; iexact H9
    isplitl [H11]
    · iexists _; iexact H11
    isplitl [H14]
    · iexact H14
    isplitl [H15]
    · iexists _; isplitr; · ipureintro; exact harg15.read_unread _
      iexact H15
    isplitl [H16]
    · iexists _; isplitr; · ipureintro; exact harg16.read_unread _
      iexact H16
    isplitl [H19]
    · iexists _; isplitr; · ipureintro; exact harg19.read_unread _
      iexact H19
    iexists _; isplitr; · ipureintro; exact harg20.read_unread _
    iexact H20

end Cert.Kernel.Hand

end
-- ==== Proof.Kernel.StepA.lean ====
/-
  The update branch: what it leaves in the body's buffers.
-/
module

public import proofs.«01_k».proof.Proof.Kernel.Own
public import proofs.«01_k».proof.Proof.Kernel.RunA

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)

variable {F : FTy → Type} [FloatOps F]

local notation "𝕄" => MT nD τ sig Unit (Elt F) ℕ (UR sig nD τ) ℕ

set_option maxHeartbeats 2000000 in
/-- The update branch: what it leaves in the body's buffers. -/
theorem stepA (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (h : k0_cond1 i = 1#1)
    (x2 : Vec F S1x192x2048 .i8) (x3 : Vec F S1x192x2048 .bf16) (x4 : Vec F S1x16x2880 .f32) (x5 : Vec F S1x192x192 .f32) (x6 : Vec F S1x192x192 .f32) (x7 : Vec F S1x192x2048 .f32)
    (jp : PUnit.{1} → Prog (TpuEff nD τ sig (Elt F) Λ₀ .tc) PUnit) (E : Set ℕ) (K : PUnit → sProp 𝕄) :
    iprop(Own c arg2 arg3 arg4 arg5 arg6 arg7 arg8 arg9 arg10 arg11 arg12 arg13 arg14 arg15 arg16 arg17 arg18 arg19 arg20 x2 x3 x4 x5 x6 x7
        ∗ (Own c arg2 arg3 arg4 arg5 arg6 arg7 arg8 arg9 arg10 arg11 arg12 arg13 arg14 arg15 arg16 arg17 arg18 arg19 arg20 x2 x3 x4 x5 x6 x7
          -∗ wp frame (wpE (defs₀ (F := F)) Variants.none c none) E (jp ⟨⟩) K))
      ⊢ wp frame (wpE (defs₀ (F := F)) Variants.none c none) E (fragA (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h jp) K := by
  unfold Own
  iintro ⟨⟨H2, H3, H4, H5, H6, H7, H8, H9, H10, H11, H12, H13, ⟨%x14, H14⟩, ⟨%x15, H15⟩, ⟨%x16, H16⟩, H17, H18, ⟨%x19, H19⟩, ⟨%x20, H20⟩⟩, Hk⟩
  iapply (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x7 x14 x15 x16 x19 x20).2.2.2.2 jp E K
  isplitl [H7]
  · iexact H7
  isplitl [H8]
  · iexact H8
  isplitl [H9]
  · iexact H9
  isplitl [H11]
  · iexact H11
  isplitl [H14]
  · iexact H14
  isplitl [H15]
  · iexact H15
  isplitl [H16]
  · iexact H16
  isplitl [H19]
  · iexact H19
  isplitl [H20]
  · iexact H20
  iintro ⟨H7, ⟨%f8, H8⟩, ⟨%f9, H9⟩, ⟨%f11, H11⟩, H14, H15, H16, H19, H20⟩
  iapply Hk
  isplitl [H2]
  · iexact H2
  isplitl [H3]
  · iexact H3
  isplitl [H4]
  · iexact H4
  isplitl [H5]
  · iexact H5
  isplitl [H6]
  · iexact H6
  isplitl [H7]
  · iexact H7
  isplitl [H8]
  · iexists _; iapply owns_of_writes c arg8 _ _ _ (rfl); iexact H8
  isplitl [H9]
  · iexists _; iapply owns_of_writes c arg9 _ _ _ (rfl); iexact H9
  isplitl [H10]
  · iexact H10
  isplitl [H11]
  · iexists _; iapply owns_of_writes c arg11 _ _ _ (rfl); iexact H11
  isplitl [H12]
  · iexact H12
  isplitl [H13]
  · iexact H13
  isplitl [H14]
  · iexists _; iapply owns_of_writes c arg14 _ _ _ (rfl); iexact H14
  isplitl [H15]
  · iexists _; iexact H15
  isplitl [H16]
  · iexists _; iexact H16
  isplitl [H17]
  · iexact H17
  isplitl [H18]
  · iexact H18
  isplitl [H19]
  · iexists _; iexact H19
  iexists _; iexact H20

end Cert.Kernel.Hand

end
-- ==== Proof.Kernel.RunB.lean ====
/-
  The branch that writes the new scales out, run once: what its stores leave, as pieces.
-/
module

public import proofs.«01_k».proof.Proof.Kernel.Body

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)

variable {F : FTy → Type} [FloatOps F]

local notation "𝕄" => MT nD τ sig Unit (Elt F) ℕ (UR sig nD τ) ℕ

set_option maxHeartbeats 4000000 in
/-- The branch that writes the new scales out run once: the pieces its stores leave (last first), with the proof that it leaves them. -/
def runB (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (k0_h2 : k0_cond2 i = 1#1)
    (x14 : Vec F S2880x16 .f32) :
    { L12 : List (View.Piece (Elt F) S1x16x2880 .f32) //
      ∀ (jp : PUnit.{1} → Prog (TpuEff nD τ sig (Elt F) Λ₀ .tc) PUnit) (E : Set ℕ) (K : PUnit → sProp 𝕄),
        iprop((∃ d, owns (c : Thread nD τ) arg12 fullShare d) ∗ owns (c : Thread nD τ) arg14 fullShare x14
            ∗ (iprop((∃ f, arg12.view.loc (c : Thread nD τ) ↦[arg12.view.set]{fullShare} arg12.view.writes (Elt F) f L12) ∗ owns (c : Thread nD τ) arg14 fullShare x14) -∗ wp frame (wpE (defs₀ (F := F)) Variants.none c none) E (jp ⟨⟩) K))
          ⊢ wp frame (wpE (defs₀ (F := F)) Variants.none c none) E (fragB i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h2 jp) K } := by
  refine ⟨?_, fun jp E K => ?run⟩
  case run =>
    unfold fragB
    simp only [k0_part17_eq_skeleton, k0_part18_eq_skeleton, k0_part19_eq_skeleton, k0_part20_eq_skeleton]
    unfold owns
    iintro ⟨⟨%d12, %f12, -, H12⟩, ⟨%f14, %hf14, H14⟩, Hk⟩
    obtain rfl := harg14.eq_unread hf14
    sl_exec
    iapply Hk
    isplitl [H12]
    · iexists _; iexact H12
    iexists _; isplitr; · ipureintro; exact harg14.read_unread _
    iexact H14

end Cert.Kernel.Hand

end
-- ==== Proof.Kernel.StepB.lean ====
/-
  The branch that writes the new scales out: what it leaves in the body's buffers.
-/
module

public import proofs.«01_k».proof.Proof.Kernel.Own
public import proofs.«01_k».proof.Proof.Kernel.RunB

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)

variable {F : FTy → Type} [FloatOps F]

local notation "𝕄" => MT nD τ sig Unit (Elt F) ℕ (UR sig nD τ) ℕ

set_option maxHeartbeats 2000000 in
/-- The branch that writes the new scales out: what it leaves in the body's buffers. -/
theorem stepB (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (h : k0_cond2 i = 1#1)
    (x2 : Vec F S1x192x2048 .i8) (x3 : Vec F S1x192x2048 .bf16) (x4 : Vec F S1x16x2880 .f32) (x5 : Vec F S1x192x192 .f32) (x6 : Vec F S1x192x192 .f32) (x7 : Vec F S1x192x2048 .f32)
    (jp : PUnit.{1} → Prog (TpuEff nD τ sig (Elt F) Λ₀ .tc) PUnit) (E : Set ℕ) (K : PUnit → sProp 𝕄) :
    iprop(Own c arg2 arg3 arg4 arg5 arg6 arg7 arg8 arg9 arg10 arg11 arg12 arg13 arg14 arg15 arg16 arg17 arg18 arg19 arg20 x2 x3 x4 x5 x6 x7
        ∗ (Own c arg2 arg3 arg4 arg5 arg6 arg7 arg8 arg9 arg10 arg11 arg12 arg13 arg14 arg15 arg16 arg17 arg18 arg19 arg20 x2 x3 x4 x5 x6 x7
          -∗ wp frame (wpE (defs₀ (F := F)) Variants.none c none) E (jp ⟨⟩) K))
      ⊢ wp frame (wpE (defs₀ (F := F)) Variants.none c none) E (fragB (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h jp) K := by
  unfold Own
  iintro ⟨⟨H2, H3, H4, H5, H6, H7, H8, H9, H10, H11, H12, H13, ⟨%x14, H14⟩, H15, H16, H17, H18, H19, H20⟩, Hk⟩
  iapply (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x14).2 jp E K
  isplitl [H12]
  · iexact H12
  isplitl [H14]
  · iexact H14
  iintro ⟨⟨%f12, H12⟩, H14⟩
  iapply Hk
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexists _; iapply owns_of_writes c arg12 _ _ _ (rfl); iexact H12
  isplitl [H13]
  · iexact H13
  isplitl [H14]
  · iexists _; iexact H14
  isplitl [H15]
  · iexact H15
  isplitl [H16]
  · iexact H16
  isplitl [H17]
  · iexact H17
  isplitl [H18]
  · iexact H18
  isplitl [H19]
  · iexact H19
  iexact H20

end Cert.Kernel.Hand

end
-- ==== Proof.Kernel.RunC0.lean ====
/-
  The start of a matrix, run once: what its stores leave, as pieces.
-/
module

public import proofs.«01_k».proof.Proof.Kernel.Body

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)

variable {F : FTy → Type} [FloatOps F]

local notation "𝕄" => MT nD τ sig Unit (Elt F) ℕ (UR sig nD τ) ℕ

set_option maxHeartbeats 4000000 in
/-- The start of a matrix run once: the pieces its stores leave (last first), with the proof that it leaves them. -/
def runC0 (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (k0_h3 : k0_cond3 i = 1#1)
    (x4 : Vec F S1x16x2880 .f32) :
    Σ' (L13 : List (View.Piece (Elt F) S2880x16 .f32)), { L18 : List (View.Piece (Elt F) S192x2048 .f32) //
      ∀ (jp : PUnit.{1} → Prog (TpuEff nD τ sig (Elt F) Λ₀ .tc) PUnit) (E : Set ℕ) (K : PUnit → sProp 𝕄),
        iprop(owns (c : Thread nD τ) arg4 fullShare x4 ∗ (∃ d, owns (c : Thread nD τ) arg13 fullShare d) ∗ (∃ d, owns (c : Thread nD τ) arg18 fullShare d)
            ∗ (iprop(owns (c : Thread nD τ) arg4 fullShare x4 ∗ (∃ f, arg13.view.loc (c : Thread nD τ) ↦[arg13.view.set]{fullShare} arg13.view.writes (Elt F) f L13) ∗ (∃ f, arg18.view.loc (c : Thread nD τ) ↦[arg18.view.set]{fullShare} arg18.view.writes (Elt F) f L18)) -∗ wp frame (wpE (defs₀ (F := F)) Variants.none c none) E (jp ⟨⟩) K))
          ⊢ wp frame (wpE (defs₀ (F := F)) Variants.none c none) E (fragC0 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h3 jp) K } := by
  refine ⟨?_, ?_, fun jp E K => ?run⟩
  case run =>
    unfold fragC0
    simp only [k0_part21_eq_skeleton, k0_part22_eq_skeleton, k0_part23_eq_skeleton, k0_part24_eq_skeleton, k0_part25_eq_skeleton, k0_part26_eq_skeleton]
    unfold owns
    iintro ⟨⟨%f4, %hf4, H4⟩, ⟨%d13, %f13, -, H13⟩, ⟨%d18, %f18, -, H18⟩, Hk⟩
    obtain rfl := harg4.eq_unread hf4
    sl_exec
    iapply Hk
    isplitl [H4]
    · iexists _; isplitr; · ipureintro; exact harg4.read_unread _
      iexact H4
    isplitl [H13]
    · iexists _; iexact H13
    iexists _; iexact H18

end Cert.Kernel.Hand

end
-- ==== Proof.Kernel.StepC0.lean ====
/-
  The start of a matrix: what it leaves in the body's buffers.
-/
module

public import proofs.«01_k».proof.Proof.Kernel.Own
public import proofs.«01_k».proof.Proof.Kernel.RunC0

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)

variable {F : FTy → Type} [FloatOps F]

local notation "𝕄" => MT nD τ sig Unit (Elt F) ℕ (UR sig nD τ) ℕ

set_option maxHeartbeats 2000000 in
/-- The start of a matrix: what it leaves in the body's buffers. -/
theorem stepC0 (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (h : k0_cond3 i = 1#1)
    (x2 : Vec F S1x192x2048 .i8) (x3 : Vec F S1x192x2048 .bf16) (x4 : Vec F S1x16x2880 .f32) (x5 : Vec F S1x192x192 .f32) (x6 : Vec F S1x192x192 .f32) (x7 : Vec F S1x192x2048 .f32)
    (jp : PUnit.{1} → Prog (TpuEff nD τ sig (Elt F) Λ₀ .tc) PUnit) (E : Set ℕ) (K : PUnit → sProp 𝕄) :
    iprop(Own c arg2 arg3 arg4 arg5 arg6 arg7 arg8 arg9 arg10 arg11 arg12 arg13 arg14 arg15 arg16 arg17 arg18 arg19 arg20 x2 x3 x4 x5 x6 x7
        ∗ (Own c arg2 arg3 arg4 arg5 arg6 arg7 arg8 arg9 arg10 arg11 arg12 arg13 arg14 arg15 arg16 arg17 arg18 arg19 arg20 x2 x3 x4 x5 x6 x7
          -∗ wp frame (wpE (defs₀ (F := F)) Variants.none c none) E (jp ⟨⟩) K))
      ⊢ wp frame (wpE (defs₀ (F := F)) Variants.none c none) E (fragC0 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h jp) K := by
  unfold Own
  iintro ⟨⟨H2, H3, H4, H5, H6, H7, H8, H9, H10, H11, H12, H13, H14, H15, H16, H17, H18, H19, H20⟩, Hk⟩
  iapply (runC0 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x4).2.2 jp E K
  isplitl [H4]
  · iexact H4
  isplitl [H13]
  · iexact H13
  isplitl [H18]
  · iexact H18
  iintro ⟨H4, ⟨%f13, H13⟩, ⟨%f18, H18⟩⟩
  iapply Hk
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexists _; iapply owns_of_writes c arg13 _ _ _ (rfl); iexact H13
  isplitl [H14]
  · iexact H14
  isplitl [H15]
  · iexact H15
  isplitl [H16]
  · iexact H16
  isplitl [H17]
  · iexact H17
  isplitl [H18]
  · iexists _; iapply owns_of_writes c arg18 _ _ _ (rfl); iexact H18
  isplitl [H19]
  · iexact H19
  iexact H20

end Cert.Kernel.Hand

end
-- ==== Proof.Kernel.RunCm.lean ====
/-
  The tile of the current matrix, run once: what its stores leave, as pieces.
-/
module

public import proofs.«01_k».proof.Proof.Kernel.Body

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)

variable {F : FTy → Type} [FloatOps F]

local notation "𝕄" => MT nD τ sig Unit (Elt F) ℕ (UR sig nD τ) ℕ

set_option maxHeartbeats 4000000 in
/-- The tile of the current matrix run once: the pieces its stores leave (last first), with the proof that it leaves them. -/
def runCm (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (k0_h3 : k0_cond3 i = 1#1)
    (x2 : Vec F S1x192x2048 .i8) (x3 : Vec F S1x192x2048 .bf16) (x5 : Vec F S1x192x192 .f32) (x6 : Vec F S1x192x192 .f32) (x13 : Vec F S2880x16 .f32) (x15 : Vec F S2880x2048 .f32) (x16 : Vec F S2880x192 .bf16) (x18 : Vec F S192x2048 .f32) :
    Σ' (L15 : List (View.Piece (Elt F) S2880x2048 .f32)), Σ' (L16 : List (View.Piece (Elt F) S2880x192 .bf16)), Σ' (L17 : List (View.Piece (Elt F) S192x2048 .bf16)), { L18 : List (View.Piece (Elt F) S192x2048 .f32) //
      ∀ (jp : PUnit.{1} → Prog (TpuEff nD τ sig (Elt F) Λ₀ .tc) PUnit) (E : Set ℕ) (K : PUnit → sProp 𝕄),
        iprop(owns (c : Thread nD τ) arg2 fullShare x2 ∗ owns (c : Thread nD τ) arg3 fullShare x3 ∗ owns (c : Thread nD τ) arg5 fullShare x5 ∗ owns (c : Thread nD τ) arg6 fullShare x6 ∗ owns (c : Thread nD τ) arg13 fullShare x13 ∗ owns (c : Thread nD τ) arg15 fullShare x15 ∗ owns (c : Thread nD τ) arg16 fullShare x16 ∗ (∃ d, owns (c : Thread nD τ) arg17 fullShare d) ∗ owns (c : Thread nD τ) arg18 fullShare x18
            ∗ (iprop(owns (c : Thread nD τ) arg2 fullShare x2 ∗ owns (c : Thread nD τ) arg3 fullShare x3 ∗ owns (c : Thread nD τ) arg5 fullShare x5 ∗ owns (c : Thread nD τ) arg6 fullShare x6 ∗ owns (c : Thread nD τ) arg13 fullShare x13 ∗ (arg15.view.loc (c : Thread nD τ) ↦[arg15.view.set]{fullShare} arg15.view.writes (Elt F) (harg15.unread x15) L15) ∗ (arg16.view.loc (c : Thread nD τ) ↦[arg16.view.set]{fullShare} arg16.view.writes (Elt F) (harg16.unread x16) L16) ∗ (∃ f, arg17.view.loc (c : Thread nD τ) ↦[arg17.view.set]{fullShare} arg17.view.writes (Elt F) f L17) ∗ (arg18.view.loc (c : Thread nD τ) ↦[arg18.view.set]{fullShare} arg18.view.writes (Elt F) (harg18.unread x18) L18)) -∗ wp frame (wpE (defs₀ (F := F)) Variants.none c none) E (jp ⟨⟩) K))
          ⊢ wp frame (wpE (defs₀ (F := F)) Variants.none c none) E (fragCm i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h3 jp) K } := by
  refine ⟨?_, ?_, ?_, ?_, fun jp E K => ?run⟩
  case run =>
    unfold fragCm
    simp only [k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton]
    unfold owns
    iintro ⟨⟨%f2, %hf2, H2⟩, ⟨%f3, %hf3, H3⟩, ⟨%f5, %hf5, H5⟩, ⟨%f6, %hf6, H6⟩, ⟨%f13, %hf13, H13⟩, ⟨%f15, %hf15, H15⟩, ⟨%f16, %hf16, H16⟩, ⟨%d17, %f17, -, H17⟩, ⟨%f18, %hf18, H18⟩, Hk⟩
    obtain rfl := harg2.eq_unread hf2; obtain rfl := harg3.eq_unread hf3; obtain rfl := harg5.eq_unread hf5; obtain rfl := harg6.eq_unread hf6; obtain rfl := harg13.eq_unread hf13; obtain rfl := harg15.eq_unread hf15; obtain rfl := harg16.eq_unread hf16; obtain rfl := harg18.eq_unread hf18
    sl_exec
    iapply Hk
    isplitl [H2]
    · iexists _; isplitr; · ipureintro; exact harg2.read_unread _
      iexact H2
    isplitl [H3]
    · iexists _; isplitr; · ipureintro; exact harg3.read_unread _
      iexact H3
    isplitl [H5]
    · iexists _; isplitr; · ipureintro; exact harg5.read_unread _
      iexact H5
    isplitl [H6]
    · iexists _; isplitr; · ipureintro; exact harg6.read_unread _
      iexact H6
    isplitl [H13]
    · iexists _; isplitr; · ipureintro; exact harg13.read_unread _
      iexact H13
    isplitl [H15]
    · iexact H15
    isplitl [H16]
    · iexact H16
    isplitl [H17]
    · iexists _; iexact H17
    iexact H18

end Cert.Kernel.Hand

end
-- ==== Proof.Kernel.StepCm.lean ====
/-
  The tile of the current matrix: what it leaves in the body's buffers.
-/
module

public import proofs.«01_k».proof.Proof.Kernel.Own
public import proofs.«01_k».proof.Proof.Kernel.RunCm

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)

variable {F : FTy → Type} [FloatOps F]

local notation "𝕄" => MT nD τ sig Unit (Elt F) ℕ (UR sig nD τ) ℕ

set_option maxHeartbeats 2000000 in
/-- The tile of the current matrix: what it leaves in the body's buffers. -/
theorem stepCm (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (h : k0_cond3 i = 1#1)
    (x2 : Vec F S1x192x2048 .i8) (x3 : Vec F S1x192x2048 .bf16) (x4 : Vec F S1x16x2880 .f32) (x5 : Vec F S1x192x192 .f32) (x6 : Vec F S1x192x192 .f32) (x7 : Vec F S1x192x2048 .f32)
    (jp : PUnit.{1} → Prog (TpuEff nD τ sig (Elt F) Λ₀ .tc) PUnit) (E : Set ℕ) (K : PUnit → sProp 𝕄) :
    iprop(Own c arg2 arg3 arg4 arg5 arg6 arg7 arg8 arg9 arg10 arg11 arg12 arg13 arg14 arg15 arg16 arg17 arg18 arg19 arg20 x2 x3 x4 x5 x6 x7
        ∗ (Own c arg2 arg3 arg4 arg5 arg6 arg7 arg8 arg9 arg10 arg11 arg12 arg13 arg14 arg15 arg16 arg17 arg18 arg19 arg20 x2 x3 x4 x5 x6 x7
          -∗ wp frame (wpE (defs₀ (F := F)) Variants.none c none) E (jp ⟨⟩) K))
      ⊢ wp frame (wpE (defs₀ (F := F)) Variants.none c none) E (fragCm (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h jp) K := by
  unfold Own
  iintro ⟨⟨H2, H3, H4, H5, H6, H7, H8, H9, H10, H11, H12, ⟨%x13, H13⟩, H14, ⟨%x15, H15⟩, ⟨%x16, H16⟩, H17, ⟨%x18, H18⟩, H19, H20⟩, Hk⟩
  iapply (runCm (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x2 x3 x5 x6 x13 x15 x16 x18).2.2.2.2 jp E K
  isplitl [H2]
  · iexact H2
  isplitl [H3]
  · iexact H3
  isplitl [H5]
  · iexact H5
  isplitl [H6]
  · iexact H6
  isplitl [H13]
  · iexact H13
  isplitl [H15]
  · iexact H15
  isplitl [H16]
  · iexact H16
  isplitl [H17]
  · iexact H17
  isplitl [H18]
  · iexact H18
  iintro ⟨H2, H3, H5, H6, H13, H15, H16, ⟨%f17, H17⟩, H18⟩
  iapply Hk
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexists _; iexact H13
  isplitl [H14]
  · iexact H14
  isplitl [H15]
  · iexists _; iapply owns_of_writes c arg15 _ _ _ (rfl); iexact H15
  isplitl [H16]
  · iexists _; iapply owns_of_writes c arg16 _ _ _ (rfl); iexact H16
  isplitl [H17]
  · iexists _; iapply owns_of_writes c arg17 _ _ _ (rfl); iexact H17
  isplitl [H18]
  · iexists _; iapply owns_of_writes c arg18 _ _ _ (rfl); iexact H18
  isplitl [H19]
  · iexact H19
  iexact H20

end Cert.Kernel.Hand

end
-- ==== Proof.Kernel.RunCe.lean ====
/-
  The end of a matrix, run once: what its stores leave, as pieces.
-/
module

public import proofs.«01_k».proof.Proof.Kernel.Body

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)

variable {F : FTy → Type} [FloatOps F]

local notation "𝕄" => MT nD τ sig Unit (Elt F) ℕ (UR sig nD τ) ℕ

set_option maxHeartbeats 4000000 in
/-- The end of a matrix run once: the pieces its stores leave (last first), with the proof that it leaves them. -/
def runCe (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (k0_h5 : k0_cond5 i = 1#1)
    (x18 : Vec F S192x2048 .f32) :
    Σ' (L10 : List (View.Piece (Elt F) S1x192x2048 .bf16)), Σ' (L19 : List (View.Piece (Elt F) S192x2048 .bf16)), { L20 : List (View.Piece (Elt F) S192x2048 .bf16) //
      ∀ (jp : PUnit.{1} → Prog (TpuEff nD τ sig (Elt F) Λ₀ .tc) PUnit) (E : Set ℕ) (K : PUnit → sProp 𝕄),
        iprop((∃ d, owns (c : Thread nD τ) arg10 fullShare d) ∗ owns (c : Thread nD τ) arg18 fullShare x18 ∗ (∃ d, owns (c : Thread nD τ) arg19 fullShare d) ∗ (∃ d, owns (c : Thread nD τ) arg20 fullShare d)
            ∗ (iprop((∃ f, arg10.view.loc (c : Thread nD τ) ↦[arg10.view.set]{fullShare} arg10.view.writes (Elt F) f L10) ∗ owns (c : Thread nD τ) arg18 fullShare x18 ∗ (∃ f, arg19.view.loc (c : Thread nD τ) ↦[arg19.view.set]{fullShare} arg19.view.writes (Elt F) f L19) ∗ (∃ f, arg20.view.loc (c : Thread nD τ) ↦[arg20.view.set]{fullShare} arg20.view.writes (Elt F) f L20)) -∗ wp frame (wpE (defs₀ (F := F)) Variants.none c none) E (jp ⟨⟩) K))
          ⊢ wp frame (wpE (defs₀ (F := F)) Variants.none c none) E (fragCe i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h5 jp) K } := by
  refine ⟨?_, ?_, ?_, fun jp E K => ?run⟩
  case run =>
    unfold fragCe
    unfold owns
    iintro ⟨⟨%d10, %f10, -, H10⟩, ⟨%f18, %hf18, H18⟩, ⟨%d19, %f19, -, H19⟩, ⟨%d20, %f20, -, H20⟩, Hk⟩
    obtain rfl := harg18.eq_unread hf18
    sl_exec
    iapply Hk
    isplitl [H10]
    · iexists _; iexact H10
    isplitl [H18]
    · iexists _; isplitr; · ipureintro; exact harg18.read_unread _
      iexact H18
    isplitl [H19]
    · iexists _; iexact H19
    iexists _; iexact H20

end Cert.Kernel.Hand

end
-- ==== Proof.Kernel.StepCe.lean ====
/-
  The end of a matrix: what it leaves in the body's buffers.
-/
module

public import proofs.«01_k».proof.Proof.Kernel.Own
public import proofs.«01_k».proof.Proof.Kernel.RunCe

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)

variable {F : FTy → Type} [FloatOps F]

local notation "𝕄" => MT nD τ sig Unit (Elt F) ℕ (UR sig nD τ) ℕ

set_option maxHeartbeats 2000000 in
/-- The end of a matrix: what it leaves in the body's buffers. -/
theorem stepCe (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (h : k0_cond5 i = 1#1)
    (x2 : Vec F S1x192x2048 .i8) (x3 : Vec F S1x192x2048 .bf16) (x4 : Vec F S1x16x2880 .f32) (x5 : Vec F S1x192x192 .f32) (x6 : Vec F S1x192x192 .f32) (x7 : Vec F S1x192x2048 .f32)
    (jp : PUnit.{1} → Prog (TpuEff nD τ sig (Elt F) Λ₀ .tc) PUnit) (E : Set ℕ) (K : PUnit → sProp 𝕄) :
    iprop(Own c arg2 arg3 arg4 arg5 arg6 arg7 arg8 arg9 arg10 arg11 arg12 arg13 arg14 arg15 arg16 arg17 arg18 arg19 arg20 x2 x3 x4 x5 x6 x7
        ∗ (Own c arg2 arg3 arg4 arg5 arg6 arg7 arg8 arg9 arg10 arg11 arg12 arg13 arg14 arg15 arg16 arg17 arg18 arg19 arg20 x2 x3 x4 x5 x6 x7
          -∗ wp frame (wpE (defs₀ (F := F)) Variants.none c none) E (jp ⟨⟩) K))
      ⊢ wp frame (wpE (defs₀ (F := F)) Variants.none c none) E (fragCe (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h jp) K := by
  unfold Own
  iintro ⟨⟨H2, H3, H4, H5, H6, H7, H8, H9, H10, H11, H12, H13, H14, H15, H16, H17, ⟨%x18, H18⟩, H19, H20⟩, Hk⟩
  iapply (runCe (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x18).2.2.2 jp E K
  isplitl [H10]
  · iexact H10
  isplitl [H18]
  · iexact H18
  isplitl [H19]
  · iexact H19
  isplitl [H20]
  · iexact H20
  iintro ⟨⟨%f10, H10⟩, H18, ⟨%f19, H19⟩, ⟨%f20, H20⟩⟩
  iapply Hk
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexists _; iapply owns_of_writes c arg10 _ _ _ (rfl); iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexact H17
  isplitl [H18]
  · iexists _; iexact H18
  isplitl [H19]
  · iexists _; iapply owns_of_writes c arg19 _ _ _ (rfl); iexact H19
  iexists _; iapply owns_of_writes c arg20 _ _ _ (rfl); iexact H20

end Cert.Kernel.Hand

end
-- ==== Proof.Kernel.BodyWp.lean ====
/-
  What one run of the main kernel's body does to its buffers.
-/
module

public import proofs.«01_k».proof.Proof.Kernel.StepA
public import proofs.«01_k».proof.Proof.Kernel.StepB
public import proofs.«01_k».proof.Proof.Kernel.StepC0
public import proofs.«01_k».proof.Proof.Kernel.StepCm
public import proofs.«01_k».proof.Proof.Kernel.StepCe

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)

variable {F : FTy → Type} [FloatOps F]

local notation "𝕄" => MT nD τ sig Unit (Elt F) ℕ (UR sig nD τ) ℕ

set_option maxHeartbeats 2000000 in
/-- The end of a matrix, if it is one, then nothing. -/
theorem tail_e (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole)
    (x2 : Vec F S1x192x2048 .i8) (x3 : Vec F S1x192x2048 .bf16) (x4 : Vec F S1x16x2880 .f32) (x5 : Vec F S1x192x192 .f32) (x6 : Vec F S1x192x192 .f32) (x7 : Vec F S1x192x2048 .f32)  (K : PUnit → sProp 𝕄) :
    iprop(Own c arg2 arg3 arg4 arg5 arg6 arg7 arg8 arg9 arg10 arg11 arg12 arg13 arg14 arg15 arg16 arg17 arg18 arg19 arg20 x2 x3 x4 x5 x6 x7
        ∗ (Own c arg2 arg3 arg4 arg5 arg6 arg7 arg8 arg9 arg10 arg11 arg12 arg13 arg14 arg15 arg16 arg17 arg18 arg19 arg20 x2 x3 x4 x5 x6 x7 -∗ K ⟨⟩))
      ⊢ wp frame (wpE (defs₀ (F := F)) Variants.none c none) Set.univ (if h : k0_cond5 i = 1#1 then fragCe (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h (fun _ => pure ⟨⟩) else pure ⟨⟩) K := by
  by_cases h : k0_cond5 i = 1#1
  · simp only [dif_pos h, if_pos h]
    iintro ⟨H, Hk⟩
    iapply stepCe c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x2 x3 x4 x5 x6 x7 (fun _ => pure ⟨⟩) Set.univ K
    isplitl [H]
    · iexact H
    iintro H
    rw [wp_pure]
    imodintro
    iapply Hk
    iexact H
  · simp only [dif_neg h, if_neg h]
    iintro ⟨H, Hk⟩
    rw [wp_pure]
    imodintro
    iapply Hk
    iexact H

set_option maxHeartbeats 2000000 in
/-- The third branch, if it is taken, then nothing. -/
theorem tail_C (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole)
    (x2 : Vec F S1x192x2048 .i8) (x3 : Vec F S1x192x2048 .bf16) (x4 : Vec F S1x16x2880 .f32) (x5 : Vec F S1x192x192 .f32) (x6 : Vec F S1x192x192 .f32) (x7 : Vec F S1x192x2048 .f32)  (K : PUnit → sProp 𝕄) :
    iprop(Own c arg2 arg3 arg4 arg5 arg6 arg7 arg8 arg9 arg10 arg11 arg12 arg13 arg14 arg15 arg16 arg17 arg18 arg19 arg20 x2 x3 x4 x5 x6 x7
        ∗ (Own c arg2 arg3 arg4 arg5 arg6 arg7 arg8 arg9 arg10 arg11 arg12 arg13 arg14 arg15 arg16 arg17 arg18 arg19 arg20 x2 x3 x4 x5 x6 x7 -∗ K ⟨⟩))
      ⊢ wp frame (wpE (defs₀ (F := F)) Variants.none c none) Set.univ (if h : k0_cond3 i = 1#1 then fragC (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h (fun _ => pure ⟨⟩) else pure ⟨⟩) K := by
  by_cases h : k0_cond3 i = 1#1
  · by_cases h4 : cond4 i = 1#1
    · simp only [dif_pos h, if_pos h, if_pos h4]
      rw [fragC_first i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h h4]
      dsimp only
      iintro ⟨H, Hk⟩
      iapply stepC0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x2 x3 x4 x5 x6 x7 _ Set.univ K
      isplitl [H]
      · iexact H
      iintro H
      iapply stepCm c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x2 x3 x4 x5 x6 x7 (fun _ => if h : k0_cond5 i = 1#1 then fragCe (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h (fun _ => pure ⟨⟩) else pure ⟨⟩) Set.univ K
      isplitl [H]
      · iexact H
      iintro H
      iapply tail_e c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 K
      isplitl [H]
      · iexact H
      iexact Hk
    · simp only [dif_pos h, if_pos h, if_neg h4]
      rw [fragC_later i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h h4]
      dsimp only
      iintro ⟨H, Hk⟩
      iapply stepCm c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x2 x3 x4 x5 x6 x7 (fun _ => if h : k0_cond5 i = 1#1 then fragCe (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h (fun _ => pure ⟨⟩) else pure ⟨⟩) Set.univ K
      isplitl [H]
      · iexact H
      iintro H
      iapply tail_e c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 K
      isplitl [H]
      · iexact H
      iexact Hk
  · simp only [dif_neg h, if_neg h]
    iintro ⟨H, Hk⟩
    rw [wp_pure]
    imodintro
    iapply Hk
    iexact H

set_option maxHeartbeats 2000000 in
/-- The second branch, if it is taken, and what follows. -/
theorem tail_B (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole)
    (x2 : Vec F S1x192x2048 .i8) (x3 : Vec F S1x192x2048 .bf16) (x4 : Vec F S1x16x2880 .f32) (x5 : Vec F S1x192x192 .f32) (x6 : Vec F S1x192x192 .f32) (x7 : Vec F S1x192x2048 .f32)  (K : PUnit → sProp 𝕄) :
    iprop(Own c arg2 arg3 arg4 arg5 arg6 arg7 arg8 arg9 arg10 arg11 arg12 arg13 arg14 arg15 arg16 arg17 arg18 arg19 arg20 x2 x3 x4 x5 x6 x7
        ∗ (Own c arg2 arg3 arg4 arg5 arg6 arg7 arg8 arg9 arg10 arg11 arg12 arg13 arg14 arg15 arg16 arg17 arg18 arg19 arg20 x2 x3 x4 x5 x6 x7 -∗ K ⟨⟩))
      ⊢ wp frame (wpE (defs₀ (F := F)) Variants.none c none) Set.univ (if h : k0_cond2 i = 1#1 then fragB (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h (fun _ => if h : k0_cond3 i = 1#1 then fragC (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h (fun _ => pure ⟨⟩) else pure ⟨⟩) else if h : k0_cond3 i = 1#1 then fragC (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h (fun _ => pure ⟨⟩) else pure ⟨⟩) K := by
  by_cases h : k0_cond2 i = 1#1
  · simp only [dif_pos h, if_pos h]
    iintro ⟨H, Hk⟩
    iapply stepB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x2 x3 x4 x5 x6 x7 (fun _ => if h : k0_cond3 i = 1#1 then fragC (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h (fun _ => pure ⟨⟩) else pure ⟨⟩) Set.univ K
    isplitl [H]
    · iexact H
    iintro H
    iapply tail_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 K
    isplitl [H]
    · iexact H
    iexact Hk
  · simp only [dif_neg h, if_neg h]
    exact tail_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 K

set_option maxHeartbeats 2000000 in
/-- The body: what it leaves in its buffers, from what they hold. -/
theorem body_wp (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole)
    (x2 : Vec F S1x192x2048 .i8) (x3 : Vec F S1x192x2048 .bf16) (x4 : Vec F S1x16x2880 .f32) (x5 : Vec F S1x192x192 .f32) (x6 : Vec F S1x192x192 .f32) (x7 : Vec F S1x192x2048 .f32)  (K : PUnit → sProp 𝕄) :
    iprop(Own c arg2 arg3 arg4 arg5 arg6 arg7 arg8 arg9 arg10 arg11 arg12 arg13 arg14 arg15 arg16 arg17 arg18 arg19 arg20 x2 x3 x4 x5 x6 x7
        ∗ (Own c arg2 arg3 arg4 arg5 arg6 arg7 arg8 arg9 arg10 arg11 arg12 arg13 arg14 arg15 arg16 arg17 arg18 arg19 arg20 x2 x3 x4 x5 x6 x7 -∗ K ⟨⟩))
      ⊢ wp frame (wpE (defs₀ (F := F)) Variants.none c none) Set.univ (cc0_dion_main (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  rw [body_eq]
  dsimp only
  by_cases h : k0_cond1 i = 1#1
  · simp only [dif_pos h, if_pos h]
    iintro ⟨H, Hk⟩
    iapply stepA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x2 x3 x4 x5 x6 x7 _ Set.univ K
    isplitl [H]
    · iexact H
    iintro H
    iapply tail_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 K
    isplitl [H]
    · iexact H
    iexact Hk
  · simp only [dif_neg h, if_neg h]
    exact tail_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 K

end Cert.Kernel.Hand

end
-- ==== Proof.Kernel.HandFrame.lean ====
/-
  The frame of the main kernel: it runs from any memory and leaves its arguments as they were.
-/
module

public import proofs.«01_k».proof.Proof.Kernel.BodyWp
public import Idealize.ShloMosaic.Lib.Claim

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Scratch buffer 0, whole. -/
abbrev scM0_0 : Memref sig .tc .vmem S2880x16 .f32 := Memref.whole cc0_scratch0
/-- Scratch buffer 1, whole. -/
abbrev scM0_1 : Memref sig .tc .vmem S2880x16 .f32 := Memref.whole cc0_scratch1
/-- Scratch buffer 2, whole. -/
abbrev scM0_2 : Memref sig .tc .vmem S2880x2048 .f32 := Memref.whole cc0_scratch2
/-- Scratch buffer 3, whole. -/
abbrev scM0_3 : Memref sig .tc .vmem S2880x192 .bf16 := Memref.whole cc0_scratch3
/-- Scratch buffer 4, whole. -/
abbrev scM0_4 : Memref sig .tc .vmem S192x2048 .bf16 := Memref.whole cc0_scratch4
/-- Scratch buffer 5, whole. -/
abbrev scM0_5 : Memref sig .tc .vmem S192x2048 .f32 := Memref.whole cc0_scratch5
/-- Scratch buffer 6, whole. -/
abbrev scM0_6 : Memref sig .tc .vmem S192x2048 .bf16 := Memref.whole cc0_scratch6
/-- Scratch buffer 7, whole. -/
abbrev scM0_7 : Memref sig .tc .vmem S192x2048 .bf16 := Memref.whole cc0_scratch7
/-- The current staging buffer of window 0. -/
abbrev ms0_0 (t : Fin cfg0.N) : Memref sig .tc .vmem S1x192x2048 .i8 := win0_0.stage (cfg0.slots t 0)
/-- The current staging buffer of window 1. -/
abbrev ms0_1 (t : Fin cfg0.N) : Memref sig .tc .vmem S1x192x2048 .bf16 := win0_1.stage (cfg0.slots t 1)
/-- The current staging buffer of window 2. -/
abbrev ms0_2 (t : Fin cfg0.N) : Memref sig .tc .vmem S1x16x2880 .f32 := win0_2.stage (cfg0.slots t 2)
/-- The current staging buffer of window 3. -/
abbrev ms0_3 (t : Fin cfg0.N) : Memref sig .tc .vmem S1x192x192 .f32 := win0_3.stage (cfg0.slots t 3)
/-- The current staging buffer of window 4. -/
abbrev ms0_4 (t : Fin cfg0.N) : Memref sig .tc .vmem S1x192x192 .f32 := win0_4.stage (cfg0.slots t 4)
/-- The current staging buffer of window 5. -/
abbrev ms0_5 (t : Fin cfg0.N) : Memref sig .tc .vmem S1x192x2048 .f32 := win0_5.stage (cfg0.slots t 5)
/-- The current staging buffer of window 6. -/
abbrev ms0_6 (t : Fin cfg0.N) : Memref sig .tc .vmem S1x192x2048 .f32 := win0_6.stage (cfg0.slots t 6)
/-- The current staging buffer of window 7. -/
abbrev ms0_7 (t : Fin cfg0.N) : Memref sig .tc .vmem S1x192x2048 .f32 := win0_7.stage (cfg0.slots t 7)
/-- The current staging buffer of window 8. -/
abbrev ms0_8 (t : Fin cfg0.N) : Memref sig .tc .vmem S1x192x2048 .bf16 := win0_8.stage (cfg0.slots t 8)
/-- The current staging buffer of window 9. -/
abbrev ms0_9 (t : Fin cfg0.N) : Memref sig .tc .vmem S1x192x2048 .i8 := win0_9.stage (cfg0.slots t 9)
/-- The current staging buffer of window 10. -/
abbrev ms0_10 (t : Fin cfg0.N) : Memref sig .tc .vmem S1x16x2880 .f32 := win0_10.stage (cfg0.slots t 10)

/-- The launch's invariant, conjunct by conjunct. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := by
  unfold Pipeline.ΦA; rw [scopedRest0_eq]; simp only [scM0_0, scM0_1, scM0_2, scM0_3, scM0_4, scM0_5, scM0_6, scM0_7, owns_whole]; try rfl

/-- The output windows are held to a predicate or forgotten, the inputs are exact. -/
def fgt0 : Fin 11 → Bool := fun w => decide (6 ≤ w.val)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The proof data: inputs leave their blocks in place, the outputs are forgotten, the scratch holds anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => Pipeline.Dat.unnamed (cfg := cfg0) 6 t
    | ⟨7, _⟩ => Pipeline.Dat.unnamed (cfg := cfg0) 7 t
    | ⟨8, _⟩ => Pipeline.Dat.unnamed (cfg := cfg0) 8 t
    | ⟨9, _⟩ => Pipeline.Dat.unnamed (cfg := cfg0) 9 t
    | ⟨10, _⟩ => Pipeline.Dat.unnamed (cfg := cfg0) 10 t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

set_option maxHeartbeats 2000000 in
/-- The body at a point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5,
    show (dats m 0 c).Φ t.succ = Pipeline.ΦA spec0 c from rfl, show (dats m 0 c).Φ t.castSucc = Pipeline.ΦA spec0 c from rfl, PhiA0_eq]
  iintro ⟨⟨⟨S0, S1, S2, S3, S4, S5, S6, S7⟩, Hg⟩, Ho, ⟨%d0, H0⟩, ⟨%d1, H1⟩, ⟨%d2, H2⟩, ⟨%d3, H3⟩, ⟨%d4, H4⟩, ⟨%d5, H5⟩, H6, H7, H8, H9, H10⟩
  iapply body_wp c (grid0.coords t) _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) _
  unfold Own
  isplitl [H0 H1 H2 H3 H4 H5 H6 H7 H8 H9 H10 S0 S1 S2 S3 S4 S5 S6 S7]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  iintro ⟨H0, H1, H2, H3, H4, H5, H6, H7, H8, H9, H10, S0, S1, S2, S3, S4, S5, S6, S7⟩
  isplitl [S0 S1 S2 S3 S4 S5 S6 S7 Hg]
  · isplitl [S0 S1 S2 S3 S4 S5 S6 S7]
    · isplitl [S0]; · iexact S0
      isplitl [S1]; · iexact S1
      isplitl [S2]; · iexact S2
      isplitl [S3]; · iexact S3
      isplitl [S4]; · iexact S4
      isplitl [S5]; · iexact S5
      isplitl [S6]; · iexact S6
      iexact S7
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation. -/
theorem body_obligation (c : Dev nD) : BodyObligation (dats (F := F) m 0 c) (defs₀ (F := F)) Variants.none () Set.univ fgt0 := fun t => by
  rw [bigSep_W0, bigSep_W0, defs₀_row]
  exact triple_restated (sound_body m c t) rfl .rfl fun _ => .rfl

set_option backward.isDefEq.respectTransparency.types false in
/-- The launch: every execution terminates with every counter at zero, the arrays at what the library computes. -/
theorem run_main_quiescent : θ_run defs (onTc (τ := τ) (main (F := F))) (s₀ m ρ)
    (fun r => Pipeline.RDat.FramePost (cfgs 0) (fun c => (dats m 0 c).toRForget fgt0) (V m) r ∧ r.2.sem = fun _ => 0) :=
  Pipeline.θ_run_frame_track_forget (Q' := _) cfgs (dats m) (0 : Fin 1) launch0 defs₀ Variants.none fgt0 m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- The frame: the kernel runs, its arguments end unchanged and every semaphore counter reads zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r hr => ⟨fun c =>
    ⟨(hr.1.arr_in c 0 rfl).trans ((A_eq m c 0).trans (V_main_arg0 m c)),
      (hr.1.arr_in c 1 rfl).trans ((A_eq m c 1).trans (V_main_arg1 m c)),
      ((hr.1 c).2 main_arg2 (Pipeline.mem_restRefs_of main_arg2 (by decide) (by decide))).trans (V_main_arg2 m c),
      (hr.1.arr_in c 3 rfl).trans ((A_eq m c 3).trans (V_main_arg3 m c)),
      (hr.1.arr_in c 4 rfl).trans ((A_eq m c 4).trans (V_main_arg4 m c)),
      (hr.1.arr_in c 5 rfl).trans ((A_eq m c 5).trans (V_main_arg5 m c))⟩, hr.2⟩) (run_main_quiescent m ρ)

end Cert.Kernel.Hand

end
-- ==== Proof.KernelIdeal.Body.lean ====
/-
  The body of the main kernel cut at its three top-level branches: `fragA` applies the update and requantises the tile
  of the matrix one behind, `fragB` writes out the new scales of a finished matrix, `fragC` dequantises the tile of the
  current matrix and adds it to the product. `body_eq`: the printed body is the three branches in order.
-/
module

public import proofs.«01_k».proof.Proof.Gen.KernelIdeal.Skeleton
public import proofs.«01_k».proof.Proof.Gen.KernelIdeal.Frame
public import Idealize.ShloMosaic.Lib.Tactic
public import Idealize.ShloMosaic.Lib.Ring
public import Idealize.ShloMosaic.Lib.WordCmp
public import Idealize.ShloMosaic.Lib.Pipeline.FrameBody

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)

variable {F : FTy → Type} [FloatOps F]

local notation "𝕄" => MT nD τ sig Unit (Elt F) ℕ (UR sig nD τ) ℕ

/-- What the body does at a point past the first matrix, then `jp`. -/
def fragA (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (k0_h1 : k0_cond1 i = 1#1)
    (jp : PUnit.{1} → Prog (TpuEff nD τ sig (Elt F) Λ₀ .tc) PUnit) : Prog (TpuEff nD τ sig (Elt F) Λ₀ .tc) PUnit := do
  let arg1 : BitVec 32 := BitVec.ofNat 32 (i 1).val
  let v0 : BitVec 32 := Scalar.muli arg1 192#32
  let v1 : BitVec 32 := v0
  let ⟨v14, v16, v37, v46⟩ : Σ' (v14 : Vec F S192x192 .bf16) (v16 : FVec F S192x256 .f32) (v37 : FVec F S192x128 .f32), FVec F S192x1 .f32 ← k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 k0_h1
  let v88 : IVec S192x128 8 ← k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 k0_h1 v16 v37 v46
  let ⟨v93, v114, v117, v119, v120⟩ : Σ' (v93 : FVec F S192x256 .f32) (v114 : FVec F S192x128 .f32) (v117 : FVec F S192x1 .f32) (v119 : IVec S192x1 1), FVec F S192x1 .f32 ← k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 k0_h1 v14 v88
  let ⟨v160, cst_75, v161⟩ : Σ' (v160 : FVec F S192x128 .f32) (cst_75 : F .f32), FVec F S192x128 .f32 ← k0_part4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 k0_h1 v93 v114 v117 v119 v120
  let ⟨v170, v191, v194, cst_98⟩ : Σ' (v170 : FVec F S192x256 .f32) (v191 : FVec F S192x128 .f32) (v194 : FVec F S192x1 .f32), F .f32 ← k0_part5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 k0_h1 v14 v160 cst_75 v161
  let v236 : FVec F S192x128 .f32 ← k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 k0_h1 v170 v191 v194 cst_98
  let ⟨v247, v268, v269⟩ : Σ' (v247 : FVec F S192x256 .f32) (v268 : FVec F S192x128 .f32), FVec F S192x128 .f32 ← k0_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 k0_h1 v14 v236
  let ⟨v298, v307⟩ : Σ' (v298 : FVec F S192x128 .f32), FVec F S192x1 .f32 ← k0_part8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 k0_h1 v247 v268 v269
  let ⟨v324, v341, v342, cst_170⟩ : Σ' (v324 : FVec F S192x256 .f32) (v341 : Vec F S192x128 .f32) (v342 : FVec F S192x128 .f32), F .f32 ← k0_part9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 k0_h1 v14 v298 v307
  let ⟨v375, v384⟩ : Σ' (v375 : FVec F S192x128 .f32), FVec F S192x1 .f32 ← k0_part10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 k0_h1 v324 v341 v342 cst_170
  let v401 : FVec F S192x256 .f32 ← k0_part11 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 k0_h1 v14 v375 v384
  let ⟨v452, v455, v457, v458⟩ : Σ' (v452 : FVec F S192x128 .f32) (v455 : FVec F S192x1 .f32) (v457 : IVec S192x1 1), FVec F S192x1 .f32 ← k0_part12 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 k0_h1 v401
  let ⟨v478, v490, v491⟩ : Σ' (v478 : FVec F S192x256 .f32) (v490 : FVec F S192x256 .f32), Vec F S1x192x256 .f32 ← k0_part13 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 k0_h1 v14 v452 v455 v457 v458
  let ⟨v529, v532, cst_256⟩ : Σ' (v529 : FVec F S192x128 .f32) (v532 : FVec F S192x1 .f32), F .f32 ← k0_part14 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 k0_h1 v478 v490 v491
  let ⟨v555, v567⟩ : Σ' (v555 : FVec F S192x256 .f32), FVec F S192x256 .f32 ← k0_part15 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 k0_h1 v14 v529 v532 cst_256
  let ⟨v606, v607⟩ : Σ' (v606 : FVec F S192x128 .f32), FVec F S192x128 .f32 ← k0_part16 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 k0_h1 v555 v567
  let v617 : Vec F S192x1 .f32 ← Prog.lift (.load arg14 (Rect.unit (s := S2880x16) (k0_off33 i) S192x1.size (k0_off33_inb i k0_h1)).toLoadRect (View.loadsAt_vmem h_S192x1))
  Prog.lift (.store arg14 (Rect.unit (s := S2880x16) (k0_off33 i) S192x1.size (k0_off33_inb i k0_h1)) (k0_pay2 v607) Finset.univ (View.stores_vmem_bits_univ h_S192x1 rfl) (.inl rfl))
  let v628 : Vec F S1x192x128 .i8 ← Prog.lift (.load arg11 (Rect.unit (s := S1x192x2048) ![0, 0, 1920] S1x192x128.size inb_S1x192x2048_S1x192x128_0_0_1920).toLoadRect (View.loadsAt_vmem h_S1x192x128))
  Prog.lift (.store arg11 (Rect.unit (s := S1x192x2048) ![0, 0, 1920] S1x192x128.size inb_S1x192x2048_S1x192x128_0_0_1920) (k0_pay3 v606 v607) Finset.univ (View.stores_vmem h_S1x192x128 (harg11.storeExact_slice rfl _ packedi8_S1x192x2048_S1x192x128_0_0_1920) (fun _ => rfl)) (.inl rfl))
  jp ⟨⟩

/-- What the body does besides at such a matrix's last tile, then `jp`. -/
def fragB (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (k0_h2 : k0_cond2 i = 1#1)
    (jp : PUnit.{1} → Prog (TpuEff nD τ sig (Elt F) Λ₀ .tc) PUnit) : Prog (TpuEff nD τ sig (Elt F) Λ₀ .tc) PUnit := do
  let arg1 : BitVec 32 := BitVec.ofNat 32 (i 1).val
  let v0 : BitVec 32 := Scalar.muli arg1 192#32
  let v1 : BitVec 32 := v0
  let v39 : FVec F S16x128 .f32 ← k0_part17 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20
  let v67 : FVec F S1x16x128 .f32 ← k0_part18 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v39
  let v94 : FVec F S16x128 .f32 ← k0_part19 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v67
  let v119 : FVec F S16x128 .f32 ← k0_part20 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v94
  Prog.lift (.store arg12 (Rect.unit (s := S1x16x2880) ![0, 0, 2688] S1x16x128.size inb_S1x16x2880_S1x16x128_0_0_2688) (k0_pay4 v119) Finset.univ (View.stores_vmem_bits_univ h_S1x16x128 rfl) (.inl rfl))
  let v123 : Vec F S64x16 .f32 ← Prog.lift (.load arg14 (Rect.unit (s := S2880x16) ![2816, 0] S64x16.size inb_S2880x16_S64x16_2816_0).toLoadRect (View.loadsAt_vmem h_S64x16))
  let v125 : Vec F S1x16x64 .f32 ← Prog.lift (.load arg12 (Rect.unit (s := S1x16x2880) ![0, 0, 2816] S1x16x64.size inb_S1x16x2880_S1x16x64_0_0_2816).toLoadRect (View.loadsAt_vmem h_S1x16x64))
  Prog.lift (.store arg12 (Rect.unit (s := S1x16x2880) ![0, 0, 2816] S1x16x64.size inb_S1x16x2880_S1x16x64_0_0_2816) (k0_pay5 v123) Finset.univ (View.stores_vmem_bits_univ h_S1x16x64 rfl) (.inl rfl))
  jp ⟨⟩

/-- What the body does at a point before the extra last matrix, then `jp`. -/
def fragC (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (k0_h3 : k0_cond3 i = 1#1)
    (jp : PUnit.{1} → Prog (TpuEff nD τ sig (Elt F) Λ₀ .tc) PUnit) : Prog (TpuEff nD τ sig (Elt F) Λ₀ .tc) PUnit := do
  let arg1 : BitVec 32 := BitVec.ofNat 32 (i 1).val
  let v0 : BitVec 32 := Scalar.muli arg1 192#32
  let v1 : BitVec 32 := v0
  let ⟨v17, v45⟩ : Σ' (v17 : Vec F S192x16 .f32), FVec F S192x128 .f32 ← k0_part27 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 v1 k0_h3
  let v86 : FVec F S192x128 .bf16 ← k0_part28 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 k0_h3 v17 v45
  let ⟨v122, v123⟩ : Σ' (v122 : FVec F S192x128 .bf16), Vec F S192x128 .bf16 ← k0_part29 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 k0_h3 v17 v86
  let v161 : FVec F S192x128 .bf16 ← k0_part30 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 k0_h3 v17 v122 v123
  k0_part31 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 k0_h3 v17 v161
  k0_part32 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 k0_h3 v17
  let v271 : IVec S192x128 8 ← k0_part33 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 k0_h3 v17
  let v307 : FVec F S192x192 .f32 ← k0_part34 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 k0_h3 v17 v271
  let ⟨v311, v337⟩ : Σ' (v311 : FVec F S192x192 .bf16), Vec F S192x256 .f32 ← k0_part35 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 k0_h3 v307
  let v365 : Vec F S192x256 .f32 ← k0_part36 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v311 v337
  let v366 : Vec F S192x256 .bf16 ← Prog.lift (.load arg17 (Rect.unit (s := S192x2048) ![0, 1792] S192x256.size inb_S192x2048_S192x256_0_1792).toLoadRect (View.loadsAt_vmem h_S192x256))
  let v369 : Vec F S192x256 .f32 ← Prog.lift (.load arg18 (Rect.unit (s := S192x2048) ![0, 1792] S192x256.size inb_S192x2048_S192x256_0_1792).toLoadRect (View.loadsAt_vmem h_S192x256))
  Prog.lift (.store arg18 (Rect.unit (s := S192x2048) ![0, 1792] S192x256.size inb_S192x2048_S192x256_0_1792) (k0_pay6 v311 v365 v366) Finset.univ (View.stores_vmem_bits_univ h_S192x256 rfl) (.inl rfl))
  if k0_h5 : k0_cond5 i = 1#1 then do
    let v375 : Vec F S192x2048 .f32 ← Prog.lift (.load arg18 (Rect.unit (s := S192x2048) ![0, 0] S192x2048.size inb_S192x2048_S192x2048_0_0).toLoadRect (View.loadsAt_vmem h_S192x2048))
    let v377 : Vec F S192x2048 .bf16 ← Prog.lift (.load arg19 (Rect.unit (s := S192x2048) ![0, 0] S192x2048.size inb_S192x2048_S192x2048_0_0).toLoadRect (View.loadsAt_vmem h_S192x2048))
    Prog.lift (.store arg19 (Rect.unit (s := S192x2048) ![0, 0] S192x2048.size inb_S192x2048_S192x2048_0_0) (k0_pay7 v375) Finset.univ (View.stores_vmem h_S192x2048 (harg19.storeExact_slice rfl _ packedbf16_S192x2048_S192x2048_0_0) (fun _ => rfl)) (.inl rfl))
    let v387 : Vec F S192x2048 .bf16 ← Prog.lift (.load arg20 (Rect.unit (s := S192x2048) ![0, 0] S192x2048.size inb_S192x2048_S192x2048_0_0).toLoadRect (View.loadsAt_vmem h_S192x2048))
    Prog.lift (.store arg20 (Rect.unit (s := S192x2048) ![0, 0] S192x2048.size inb_S192x2048_S192x2048_0_0) (k0_pay9 v375) Finset.univ (View.stores_vmem h_S192x2048 (harg20.storeExact_slice rfl _ packedbf16_S192x2048_S192x2048_0_0) (fun _ => rfl)) (.inl rfl))
    let v390 : Vec F S1x192x2048 .bf16 ← Prog.lift (.load arg10 (Rect.unit (s := S1x192x2048) ![0, 0, 0] S1x192x2048.size inb_S1x192x2048_S1x192x2048_0_0_0).toLoadRect (View.loadsAt_vmem h_S1x192x2048))
    Prog.lift (.store arg10 (Rect.unit (s := S1x192x2048) ![0, 0, 0] S1x192x2048.size inb_S1x192x2048_S1x192x2048_0_0_0) (k0_pay10 v375) Finset.univ (View.stores_vmem h_S1x192x2048 (harg10.storeExact_slice rfl _ packedbf16_S1x192x2048_S1x192x2048_0_0_0) (fun _ => rfl)) (.inl rfl))
    pure ⟨⟩
  else do
    pure ⟨⟩
  jp ⟨⟩

set_option maxRecDepth 65536 in
/-- The printed body is its three branches in order. -/
theorem body_eq (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) :
    cc0_dion_main (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 =
      (let jp2 : PUnit.{1} → Prog (TpuEff nD τ sig (Elt F) Λ₀ .tc) PUnit := fun _ =>
        if h : k0_cond3 i = 1#1 then fragC i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h (fun _ => pure ⟨⟩) else pure ⟨⟩
      let jp1 : PUnit.{1} → Prog (TpuEff nD τ sig (Elt F) Λ₀ .tc) PUnit := fun _ =>
        if h : k0_cond2 i = 1#1 then fragB i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h jp2 else jp2 ⟨⟩
      if h : k0_cond1 i = 1#1 then fragA i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h jp1 else jp1 ⟨⟩) := by
  rw [cc0_dion_main_eq_skeleton]; rfl

/-- The start of a matrix: its scales transposed into the scratch and the product set to zero, then `jp`. -/
def fragC0 (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (k0_h3 : k0_cond3 i = 1#1)
    (jp : PUnit.{1} → Prog (TpuEff nD τ sig (Elt F) Λ₀ .tc) PUnit) : Prog (TpuEff nD τ sig (Elt F) Λ₀ .tc) PUnit := do
  let arg1 : BitVec 32 := BitVec.ofNat 32 (i 1).val
  let v0 : BitVec 32 := Scalar.muli arg1 192#32
  let v1 : BitVec 32 := v0
  let v403 : FVec F S128x16 .f32 ← k0_part21 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20
  let v433 : Vec F S16x128 .f32 ← k0_part22 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v403
  k0_part23 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v433
  k0_part24 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20
  let v523 : FVec F S128x16 .f32 ← k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20
  let v553 : Vec F S16x64 .f32 ← k0_part26 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v523
  let v556 : Vec F S64x16 .f32 ← Prog.lift (.load arg13 (Rect.unit (s := S2880x16) ![2816, 0] S64x16.size inb_S2880x16_S64x16_2816_0).toLoadRect (View.loadsAt_vmem h_S64x16))
  Prog.lift (.store arg13 (Rect.unit (s := S2880x16) ![2816, 0] S64x16.size inb_S2880x16_S64x16_2816_0) (k0_pay169 v553) Finset.univ (View.stores_vmem_bits_univ h_S64x16 rfl) (.inl rfl))
  let v560 : Vec F S192x2048 .f32 ← Prog.lift (.load arg18 (Rect.unit (s := S192x2048) ![0, 0] S192x2048.size inb_S192x2048_S192x2048_0_0).toLoadRect (View.loadsAt_vmem h_S192x2048))
  Prog.lift (.store arg18 (Rect.unit (s := S192x2048) ![0, 0] S192x2048.size inb_S192x2048_S192x2048_0_0) (k0_pay170 (F := F)) Finset.univ (View.stores_vmem_bits_univ h_S192x2048 rfl) (.inl rfl))
  jp ⟨⟩

/-- The tile of the current matrix dequantised, its block of p computed, and its share added to the product, then `jp`. -/
def fragCm (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (k0_h3 : k0_cond3 i = 1#1)
    (jp : PUnit.{1} → Prog (TpuEff nD τ sig (Elt F) Λ₀ .tc) PUnit) : Prog (TpuEff nD τ sig (Elt F) Λ₀ .tc) PUnit := do
  let arg1 : BitVec 32 := BitVec.ofNat 32 (i 1).val
  let v0 : BitVec 32 := Scalar.muli arg1 192#32
  let v1 : BitVec 32 := v0
  let v17 : Vec F S192x16 .f32 ← Prog.lift (.load arg13 (Rect.unit (s := S2880x16) (k0_off34 i) S192x16.size (k0_off34_inb i k0_h3)).toLoadRect (View.loadsAt_vmem h_S192x16))
  let v18 : Vec F S1x192x128 .i8 ← Prog.lift (.load arg2 (Rect.unit (s := S1x192x2048) ![0, 0, 0] S1x192x128.size inb_S1x192x2048_S1x192x128_0_0_0).toLoadRect (View.loadsAt_vmem h_S1x192x128))
  let v20 : Vec F S1x192x128 .bf16 ← Prog.lift (.load arg3 (Rect.unit (s := S1x192x2048) ![0, 0, 0] S1x192x128.size inb_S1x192x2048_S1x192x128_0_0_0).toLoadRect (View.loadsAt_vmem h_S1x192x128))
  let v29 : Vec F S192x128 .f32 ← Prog.lift (.load arg15 (Rect.unit (s := S2880x2048) (k0_off35 i) S192x128.size (k0_off35_inb i k0_h3)).toLoadRect (View.loadsAt_vmem h_S192x128))
  Prog.lift (.store arg15 (Rect.unit (s := S2880x2048) (k0_off35 i) S192x128.size (k0_off35_inb i k0_h3)) (k0_pay172 v17 v18 v20) Finset.univ (View.stores_vmem_bits_univ h_S192x128 rfl) (.inl rfl))
  let v33 : Vec F S192x128 .bf16 ← Prog.lift (.load arg17 (Rect.unit (s := S192x2048) ![0, 0] S192x128.size inb_S192x2048_S192x128_0_0).toLoadRect (View.loadsAt_vmem h_S192x128))
  Prog.lift (.store arg17 (Rect.unit (s := S192x2048) ![0, 0] S192x128.size inb_S192x2048_S192x128_0_0) (k0_pay173 v17 v18 v20) Finset.univ (View.stores_vmem h_S192x128 (harg17.storeExact_slice rfl _ packedbf16_S192x2048_S192x128_0_0) (fun _ => rfl)) (.inl rfl))
  let v36 : Vec F S1x192x128 .i8 ← Prog.lift (.load arg2 (Rect.unit (s := S1x192x2048) ![0, 0, 128] S1x192x128.size inb_S1x192x2048_S1x192x128_0_0_128).toLoadRect (View.loadsAt_vmem h_S1x192x128))
  let v38 : Vec F S1x192x128 .bf16 ← Prog.lift (.load arg3 (Rect.unit (s := S1x192x2048) ![0, 0, 128] S1x192x128.size inb_S1x192x2048_S1x192x128_0_0_128).toLoadRect (View.loadsAt_vmem h_S1x192x128))
  let v47 : Vec F S192x128 .f32 ← Prog.lift (.load arg15 (Rect.unit (s := S2880x2048) (k0_off36 i) S192x128.size (k0_off36_inb i k0_h3)).toLoadRect (View.loadsAt_vmem h_S192x128))
  Prog.lift (.store arg15 (Rect.unit (s := S2880x2048) (k0_off36 i) S192x128.size (k0_off36_inb i k0_h3)) (k0_pay175 v17 v36 v38) Finset.univ (View.stores_vmem_bits_univ h_S192x128 rfl) (.inl rfl))
  let v45 : FVec F S192x128 .f32 := k0_pay174 v17 v36 v38
  let v86 : FVec F S192x128 .bf16 ← k0_part28 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 k0_h3 v17 v45
  let ⟨v122, v123⟩ : Σ' (v122 : FVec F S192x128 .bf16), Vec F S192x128 .bf16 ← k0_part29 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 k0_h3 v17 v86
  let v161 : FVec F S192x128 .bf16 ← k0_part30 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 k0_h3 v17 v122 v123
  k0_part31 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 k0_h3 v17 v161
  k0_part32 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 k0_h3 v17
  let v271 : IVec S192x128 8 ← k0_part33 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 k0_h3 v17
  let v307 : FVec F S192x192 .f32 ← k0_part34 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 k0_h3 v17 v271
  let ⟨v311, v337⟩ : Σ' (v311 : FVec F S192x192 .bf16), Vec F S192x256 .f32 ← k0_part35 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1 k0_h3 v307
  let v365 : Vec F S192x256 .f32 ← k0_part36 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v311 v337
  let v366 : Vec F S192x256 .bf16 ← Prog.lift (.load arg17 (Rect.unit (s := S192x2048) ![0, 1792] S192x256.size inb_S192x2048_S192x256_0_1792).toLoadRect (View.loadsAt_vmem h_S192x256))
  let v369 : Vec F S192x256 .f32 ← Prog.lift (.load arg18 (Rect.unit (s := S192x2048) ![0, 1792] S192x256.size inb_S192x2048_S192x256_0_1792).toLoadRect (View.loadsAt_vmem h_S192x256))
  Prog.lift (.store arg18 (Rect.unit (s := S192x2048) ![0, 1792] S192x256.size inb_S192x2048_S192x256_0_1792) (k0_pay6 v311 v365 v366) Finset.univ (View.stores_vmem_bits_univ h_S192x256 rfl) (.inl rfl))
  jp ⟨⟩

/-- The end of a matrix: the product and its normalised columns, then `jp`. -/
def fragCe (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (k0_h5 : k0_cond5 i = 1#1)
    (jp : PUnit.{1} → Prog (TpuEff nD τ sig (Elt F) Λ₀ .tc) PUnit) : Prog (TpuEff nD τ sig (Elt F) Λ₀ .tc) PUnit := do
  let arg1 : BitVec 32 := BitVec.ofNat 32 (i 1).val
  let v0 : BitVec 32 := Scalar.muli arg1 192#32
  let v1 : BitVec 32 := v0
  let v375 : Vec F S192x2048 .f32 ← Prog.lift (.load arg18 (Rect.unit (s := S192x2048) ![0, 0] S192x2048.size inb_S192x2048_S192x2048_0_0).toLoadRect (View.loadsAt_vmem h_S192x2048))
  let v377 : Vec F S192x2048 .bf16 ← Prog.lift (.load arg19 (Rect.unit (s := S192x2048) ![0, 0] S192x2048.size inb_S192x2048_S192x2048_0_0).toLoadRect (View.loadsAt_vmem h_S192x2048))
  Prog.lift (.store arg19 (Rect.unit (s := S192x2048) ![0, 0] S192x2048.size inb_S192x2048_S192x2048_0_0) (k0_pay7 v375) Finset.univ (View.stores_vmem h_S192x2048 (harg19.storeExact_slice rfl _ packedbf16_S192x2048_S192x2048_0_0) (fun _ => rfl)) (.inl rfl))
  let v387 : Vec F S192x2048 .bf16 ← Prog.lift (.load arg20 (Rect.unit (s := S192x2048) ![0, 0] S192x2048.size inb_S192x2048_S192x2048_0_0).toLoadRect (View.loadsAt_vmem h_S192x2048))
  Prog.lift (.store arg20 (Rect.unit (s := S192x2048) ![0, 0] S192x2048.size inb_S192x2048_S192x2048_0_0) (k0_pay9 v375) Finset.univ (View.stores_vmem h_S192x2048 (harg20.storeExact_slice rfl _ packedbf16_S192x2048_S192x2048_0_0) (fun _ => rfl)) (.inl rfl))
  let v390 : Vec F S1x192x2048 .bf16 ← Prog.lift (.load arg10 (Rect.unit (s := S1x192x2048) ![0, 0, 0] S1x192x2048.size inb_S1x192x2048_S1x192x2048_0_0_0).toLoadRect (View.loadsAt_vmem h_S1x192x2048))
  Prog.lift (.store arg10 (Rect.unit (s := S1x192x2048) ![0, 0, 0] S1x192x2048.size inb_S1x192x2048_S1x192x2048_0_0_0) (k0_pay10 v375) Finset.univ (View.stores_vmem h_S1x192x2048 (harg10.storeExact_slice rfl _ packedbf16_S1x192x2048_S1x192x2048_0_0_0) (fun _ => rfl)) (.inl rfl))
  jp ⟨⟩

/-- The printed condition of the start of a matrix. -/
def cond4 (i : grid0.Coords) : BitVec 1 := Scalar.cmpi .ne (Scalar.extui (Scalar.cmpi .eq (BitVec.ofNat 32 (i 1).val) 0#32) : BitVec 32) 0#32

/-- The third branch at a matrix's first tile. -/
theorem fragC_first (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (h3 : k0_cond3 i = 1#1) (h4 : cond4 i = 1#1)
    (jp : PUnit.{1} → Prog (TpuEff nD τ sig (Elt F) Λ₀ .tc) PUnit) :
    fragC (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h3 jp =
      (let jpe : PUnit.{1} → Prog (TpuEff nD τ sig (Elt F) Λ₀ .tc) PUnit := fun _ =>
        if h : k0_cond5 i = 1#1 then fragCe i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h jp else jp ⟨⟩
      fragC0 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h3 (fun _ => fragCm i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h3 jpe)) := by
  unfold fragC
  simp only [k0_part27_eq_skeleton]
  unfold k0_part27_skel
  have h4' := h4
  unfold cond4 at h4'
  simp only [dif_pos h4', bind_assoc, pure_bind]
  rfl

/-- The third branch at a matrix's later tiles. -/
theorem fragC_later (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (h3 : k0_cond3 i = 1#1) (h4 : ¬ cond4 i = 1#1)
    (jp : PUnit.{1} → Prog (TpuEff nD τ sig (Elt F) Λ₀ .tc) PUnit) :
    fragC (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h3 jp =
      (let jpe : PUnit.{1} → Prog (TpuEff nD τ sig (Elt F) Λ₀ .tc) PUnit := fun _ =>
        if h : k0_cond5 i = 1#1 then fragCe i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h jp else jp ⟨⟩
      fragCm i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h3 jpe) := by
  unfold fragC
  simp only [k0_part27_eq_skeleton]
  unfold k0_part27_skel
  have h4' := h4
  unfold cond4 at h4'
  simp only [dif_neg h4', bind_assoc, pure_bind]
  rfl

end Cert.KernelIdeal.Hand

end
-- ==== Proof.KernelIdeal.Coords.lean ====
/-
  Offsets of the row blocks, and reads of whole buffers at natural-number coordinates.
-/
module

public import proofs.«01_k».proof.Proof.KernelIdeal.Body
public import Idealize.ShloMosaic.Lib.Pointwise
public import Idealize.ShloMosaic.Lib.WholeRead

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)

variable {F : FTy → Type} [FloatOps F]

local notation "𝕄" => MT nD τ sig Unit (Elt F) ℕ (UR sig nD τ) ℕ

theorem off_val : ∀ n : Fin 15, (Scalar.indexCast (Scalar.muli (BitVec.ofNat 32 n.val) 192#32) : Index).toNat = 192 * n.val := by decide +kernel

/-- An entry of a matrix at natural-number coordinates. -/
def at2 {a b : ℕ} {α : Type} [Zero α] (X : (⟨2, ![a, b]⟩ : Shape).Idx → α) (i j : ℕ) : α :=
  if h : i < a ∧ j < b then X (ix2 ⟨i, h.1⟩ ⟨j, h.2⟩) else 0

/-- An entry of a one-matrix tile at natural-number coordinates. -/
def at3 {a b : ℕ} {α : Type} [Zero α] (X : (⟨3, ![1, a, b]⟩ : Shape).Idx → α) (i j : ℕ) : α :=
  if h : i < a ∧ j < b then X (ix3 0 ⟨i, h.1⟩ ⟨j, h.2⟩) else 0

theorem eq_at2 {a b : ℕ} {α : Type} [Zero α] (X : (⟨2, ![a, b]⟩ : Shape).Idx → α) (y : (⟨2, ![a, b]⟩ : Shape).Idx) :
    X y = at2 X (y 0).val (y 1).val := by
  unfold at2
  rw [dif_pos ⟨(y 0).isLt, (y 1).isLt⟩]
  exact congrArg X (eq_ix2 y)

theorem eq_at3 {a b : ℕ} {α : Type} [Zero α] (X : (⟨3, ![1, a, b]⟩ : Shape).Idx → α) (y : (⟨3, ![1, a, b]⟩ : Shape).Idx) :
    X y = at3 X (y 1).val (y 2).val := by
  unfold at3
  rw [dif_pos ⟨(y 1).isLt, (y 2).isLt⟩]
  refine congrArg X ((eq_ix3 y).trans ?_)
  have h0 : y 0 = (0 : Fin 1) := @Subsingleton.elim (Fin 1) _ _ _
  rw [h0]; rfl

theorem at2_congr {a b : ℕ} {α : Type} [Zero α] (X : (⟨2, ![a, b]⟩ : Shape).Idx → α) {i i' j j' : ℕ} (hi : i = i') (hj : j = j') :
    at2 X i j = at2 X i' j' := by rw [hi, hj]

theorem at3_congr {a b : ℕ} {α : Type} [Zero α] (X : (⟨3, ![1, a, b]⟩ : Shape).Idx → α) {i i' j j' : ℕ} (hi : i = i') (hj : j = j') :
    at3 X i j = at3 X i' j' := by rw [hi, hj]

/-- A coordinate of a unit-stride block's entry is the offset plus the coordinate in the block. -/
theorem emb_val {s : Shape} (off size : Fin s.rank → Nat) (inb) (j : (Rect.unit off size inb).shape.Idx) (a : Fin s.rank) :
    ((Rect.unit off size inb).emb j a : Nat) = off a + j a := by
  rw [Rect.emb_apply]; show off a + 1 * (j a : Nat) = _; omega

/-- Which indices lie in a unit-stride block of a matrix. -/
theorem mem_unit2 {a b : ℕ} (off size : Fin 2 → ℕ) (inb) (y : (⟨2, ![a, b]⟩ : Shape).Idx) :
    y ∈ (Rect.unit (s := ⟨2, ![a, b]⟩) off size inb).set ↔ (off 0 ≤ (y 0).val ∧ (y 0).val < off 0 + size 0) ∧ off 1 ≤ (y 1).val ∧ (y 1).val < off 1 + size 1 := by
  rw [LoadRect.mem_set]
  constructor
  · intro h
    obtain ⟨j, hj, e⟩ := h 0
    obtain ⟨j', hj', e'⟩ := h 1
    have e : (y 0).val = off 0 + 1 * j := e
    have e' : (y 1).val = off 1 + 1 * j' := e'
    have hj : j < size 0 := hj
    have hj' : j' < size 1 := hj'
    omega
  · rintro ⟨⟨h0, h1⟩, h2, h3⟩ x
    match x with
    | ⟨0, _⟩ => exact ⟨(y 0).val - off 0, (by show _ < size 0; omega), (by show (y 0).val = off 0 + 1 * _; omega)⟩
    | ⟨1, _⟩ => exact ⟨(y 1).val - off 1, (by show _ < size 1; omega), (by show (y 1).val = off 1 + 1 * _; omega)⟩

/-- Which indices lie in a unit-stride block of a one-matrix tile. -/
theorem mem_unit3 {n a b : ℕ} (off size : Fin 3 → ℕ) (inb) (y : (⟨3, ![n, a, b]⟩ : Shape).Idx) :
    y ∈ (Rect.unit (s := ⟨3, ![n, a, b]⟩) off size inb).set ↔ (off 0 ≤ (y 0).val ∧ (y 0).val < off 0 + size 0) ∧ (off 1 ≤ (y 1).val ∧ (y 1).val < off 1 + size 1) ∧ off 2 ≤ (y 2).val ∧ (y 2).val < off 2 + size 2 := by
  rw [LoadRect.mem_set]
  constructor
  · intro h
    obtain ⟨j, hj, e⟩ := h 0
    obtain ⟨j', hj', e'⟩ := h 1
    obtain ⟨j2, hj2, e2⟩ := h 2
    have e : (y 0).val = off 0 + 1 * j := e
    have e' : (y 1).val = off 1 + 1 * j' := e'
    have e2 : (y 2).val = off 2 + 1 * j2 := e2
    have hj : j < size 0 := hj
    have hj' : j' < size 1 := hj'
    have hj2 : j2 < size 2 := hj2
    omega
  · rintro ⟨⟨h0, h1⟩, ⟨h2, h3⟩, h4, h5⟩ x
    match x with
    | ⟨0, _⟩ => exact ⟨(y 0).val - off 0, (by show _ < size 0; omega), (by show (y 0).val = off 0 + 1 * _; omega)⟩
    | ⟨1, _⟩ => exact ⟨(y 1).val - off 1, (by show _ < size 1; omega), (by show (y 1).val = off 1 + 1 * _; omega)⟩
    | ⟨2, _⟩ => exact ⟨(y 2).val - off 2, (by show _ < size 2; omega), (by show (y 2).val = off 2 + 1 * _; omega)⟩

/-- A matrix with the rows of tile `t` replaced. -/
def updRows {a b : ℕ} {α : Type} (t : ℕ) (G X : (⟨2, ![a, b]⟩ : Shape).Idx → α) : (⟨2, ![a, b]⟩ : Shape).Idx → α := fun y =>
  if 192 * t ≤ (y 0).val ∧ (y 0).val < 192 * t + 192 then G y else X y

theorem off1 (i : grid0.Coords) : k0_off1 i = ![192 * (i 1).val, 0] := by
  unfold k0_off1; exact congrArg (fun z => ![z, 0]) (off_val (i 1))
theorem off2 (i : grid0.Coords) : k0_off2 i = ![192 * (i 1).val, 0] := by
  unfold k0_off2; exact congrArg (fun z => ![z, 0]) (off_val (i 1))
theorem off3 (i : grid0.Coords) : k0_off3 i = ![192 * (i 1).val, 0] := by
  unfold k0_off3; exact congrArg (fun z => ![z, 0]) (off_val (i 1))
theorem off4 (i : grid0.Coords) : k0_off4 i = ![192 * (i 1).val, 128] := by
  unfold k0_off4; exact congrArg (fun z => ![z, 128]) (off_val (i 1))
theorem off5 (i : grid0.Coords) : k0_off5 i = ![192 * (i 1).val, 1] := by
  unfold k0_off5; exact congrArg (fun z => ![z, 1]) (off_val (i 1))
theorem off6 (i : grid0.Coords) : k0_off6 i = ![192 * (i 1).val, 256] := by
  unfold k0_off6; exact congrArg (fun z => ![z, 256]) (off_val (i 1))
theorem off7 (i : grid0.Coords) : k0_off7 i = ![192 * (i 1).val, 2] := by
  unfold k0_off7; exact congrArg (fun z => ![z, 2]) (off_val (i 1))
theorem off8 (i : grid0.Coords) : k0_off8 i = ![192 * (i 1).val, 384] := by
  unfold k0_off8; exact congrArg (fun z => ![z, 384]) (off_val (i 1))
theorem off9 (i : grid0.Coords) : k0_off9 i = ![192 * (i 1).val, 3] := by
  unfold k0_off9; exact congrArg (fun z => ![z, 3]) (off_val (i 1))
theorem off10 (i : grid0.Coords) : k0_off10 i = ![192 * (i 1).val, 512] := by
  unfold k0_off10; exact congrArg (fun z => ![z, 512]) (off_val (i 1))
theorem off11 (i : grid0.Coords) : k0_off11 i = ![192 * (i 1).val, 4] := by
  unfold k0_off11; exact congrArg (fun z => ![z, 4]) (off_val (i 1))
theorem off12 (i : grid0.Coords) : k0_off12 i = ![192 * (i 1).val, 640] := by
  unfold k0_off12; exact congrArg (fun z => ![z, 640]) (off_val (i 1))
theorem off13 (i : grid0.Coords) : k0_off13 i = ![192 * (i 1).val, 5] := by
  unfold k0_off13; exact congrArg (fun z => ![z, 5]) (off_val (i 1))
theorem off14 (i : grid0.Coords) : k0_off14 i = ![192 * (i 1).val, 768] := by
  unfold k0_off14; exact congrArg (fun z => ![z, 768]) (off_val (i 1))
theorem off15 (i : grid0.Coords) : k0_off15 i = ![192 * (i 1).val, 6] := by
  unfold k0_off15; exact congrArg (fun z => ![z, 6]) (off_val (i 1))
theorem off16 (i : grid0.Coords) : k0_off16 i = ![192 * (i 1).val, 896] := by
  unfold k0_off16; exact congrArg (fun z => ![z, 896]) (off_val (i 1))
theorem off17 (i : grid0.Coords) : k0_off17 i = ![192 * (i 1).val, 7] := by
  unfold k0_off17; exact congrArg (fun z => ![z, 7]) (off_val (i 1))
theorem off18 (i : grid0.Coords) : k0_off18 i = ![192 * (i 1).val, 1024] := by
  unfold k0_off18; exact congrArg (fun z => ![z, 1024]) (off_val (i 1))
theorem off19 (i : grid0.Coords) : k0_off19 i = ![192 * (i 1).val, 8] := by
  unfold k0_off19; exact congrArg (fun z => ![z, 8]) (off_val (i 1))
theorem off20 (i : grid0.Coords) : k0_off20 i = ![192 * (i 1).val, 1152] := by
  unfold k0_off20; exact congrArg (fun z => ![z, 1152]) (off_val (i 1))
theorem off21 (i : grid0.Coords) : k0_off21 i = ![192 * (i 1).val, 9] := by
  unfold k0_off21; exact congrArg (fun z => ![z, 9]) (off_val (i 1))
theorem off22 (i : grid0.Coords) : k0_off22 i = ![192 * (i 1).val, 1280] := by
  unfold k0_off22; exact congrArg (fun z => ![z, 1280]) (off_val (i 1))
theorem off23 (i : grid0.Coords) : k0_off23 i = ![192 * (i 1).val, 10] := by
  unfold k0_off23; exact congrArg (fun z => ![z, 10]) (off_val (i 1))
theorem off24 (i : grid0.Coords) : k0_off24 i = ![192 * (i 1).val, 1408] := by
  unfold k0_off24; exact congrArg (fun z => ![z, 1408]) (off_val (i 1))
theorem off25 (i : grid0.Coords) : k0_off25 i = ![192 * (i 1).val, 11] := by
  unfold k0_off25; exact congrArg (fun z => ![z, 11]) (off_val (i 1))
theorem off26 (i : grid0.Coords) : k0_off26 i = ![192 * (i 1).val, 1536] := by
  unfold k0_off26; exact congrArg (fun z => ![z, 1536]) (off_val (i 1))
theorem off27 (i : grid0.Coords) : k0_off27 i = ![192 * (i 1).val, 12] := by
  unfold k0_off27; exact congrArg (fun z => ![z, 12]) (off_val (i 1))
theorem off28 (i : grid0.Coords) : k0_off28 i = ![192 * (i 1).val, 1664] := by
  unfold k0_off28; exact congrArg (fun z => ![z, 1664]) (off_val (i 1))
theorem off29 (i : grid0.Coords) : k0_off29 i = ![192 * (i 1).val, 13] := by
  unfold k0_off29; exact congrArg (fun z => ![z, 13]) (off_val (i 1))
theorem off30 (i : grid0.Coords) : k0_off30 i = ![192 * (i 1).val, 1792] := by
  unfold k0_off30; exact congrArg (fun z => ![z, 1792]) (off_val (i 1))
theorem off31 (i : grid0.Coords) : k0_off31 i = ![192 * (i 1).val, 14] := by
  unfold k0_off31; exact congrArg (fun z => ![z, 14]) (off_val (i 1))
theorem off32 (i : grid0.Coords) : k0_off32 i = ![192 * (i 1).val, 1920] := by
  unfold k0_off32; exact congrArg (fun z => ![z, 1920]) (off_val (i 1))
theorem off33 (i : grid0.Coords) : k0_off33 i = ![192 * (i 1).val, 15] := by
  unfold k0_off33; exact congrArg (fun z => ![z, 15]) (off_val (i 1))
theorem off34 (i : grid0.Coords) : k0_off34 i = ![192 * (i 1).val, 0] := by
  unfold k0_off34; exact congrArg (fun z => ![z, 0]) (off_val (i 1))
theorem off35 (i : grid0.Coords) : k0_off35 i = ![192 * (i 1).val, 0] := by
  unfold k0_off35; exact congrArg (fun z => ![z, 0]) (off_val (i 1))
theorem off36 (i : grid0.Coords) : k0_off36 i = ![192 * (i 1).val, 128] := by
  unfold k0_off36; exact congrArg (fun z => ![z, 128]) (off_val (i 1))
theorem off37 (i : grid0.Coords) : k0_off37 i = ![192 * (i 1).val, 256] := by
  unfold k0_off37; exact congrArg (fun z => ![z, 256]) (off_val (i 1))
theorem off38 (i : grid0.Coords) : k0_off38 i = ![192 * (i 1).val, 384] := by
  unfold k0_off38; exact congrArg (fun z => ![z, 384]) (off_val (i 1))
theorem off39 (i : grid0.Coords) : k0_off39 i = ![192 * (i 1).val, 512] := by
  unfold k0_off39; exact congrArg (fun z => ![z, 512]) (off_val (i 1))
theorem off40 (i : grid0.Coords) : k0_off40 i = ![192 * (i 1).val, 640] := by
  unfold k0_off40; exact congrArg (fun z => ![z, 640]) (off_val (i 1))
theorem off41 (i : grid0.Coords) : k0_off41 i = ![192 * (i 1).val, 768] := by
  unfold k0_off41; exact congrArg (fun z => ![z, 768]) (off_val (i 1))
theorem off42 (i : grid0.Coords) : k0_off42 i = ![192 * (i 1).val, 896] := by
  unfold k0_off42; exact congrArg (fun z => ![z, 896]) (off_val (i 1))
theorem off43 (i : grid0.Coords) : k0_off43 i = ![192 * (i 1).val, 1024] := by
  unfold k0_off43; exact congrArg (fun z => ![z, 1024]) (off_val (i 1))
theorem off44 (i : grid0.Coords) : k0_off44 i = ![192 * (i 1).val, 1152] := by
  unfold k0_off44; exact congrArg (fun z => ![z, 1152]) (off_val (i 1))
theorem off45 (i : grid0.Coords) : k0_off45 i = ![192 * (i 1).val, 1280] := by
  unfold k0_off45; exact congrArg (fun z => ![z, 1280]) (off_val (i 1))
theorem off46 (i : grid0.Coords) : k0_off46 i = ![192 * (i 1).val, 1408] := by
  unfold k0_off46; exact congrArg (fun z => ![z, 1408]) (off_val (i 1))
theorem off47 (i : grid0.Coords) : k0_off47 i = ![192 * (i 1).val, 1536] := by
  unfold k0_off47; exact congrArg (fun z => ![z, 1536]) (off_val (i 1))
theorem off48 (i : grid0.Coords) : k0_off48 i = ![192 * (i 1).val, 1664] := by
  unfold k0_off48; exact congrArg (fun z => ![z, 1664]) (off_val (i 1))
theorem off49 (i : grid0.Coords) : k0_off49 i = ![192 * (i 1).val, 1792] := by
  unfold k0_off49; exact congrArg (fun z => ![z, 1792]) (off_val (i 1))
theorem off50 (i : grid0.Coords) : k0_off50 i = ![192 * (i 1).val, 1920] := by
  unfold k0_off50; exact congrArg (fun z => ![z, 1920]) (off_val (i 1))
theorem off51 (i : grid0.Coords) : k0_off51 i = ![192 * (i 1).val, 0] := by
  unfold k0_off51; exact congrArg (fun z => ![z, 0]) (off_val (i 1))

end Cert.KernelIdeal.Hand

end
-- ==== Proof.KernelIdeal.Spec.lean ====
/-
  The values of one grid point as plain formulas over the contents it reads, at natural-number coordinates.
-/
module

public import proofs.«01_k».proof.Proof.KernelIdeal.Coords

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)

/-- The exact reading of the floating-point types. -/
abbrev F : FTy → Type := Idealize.ShloMosaic.Ideal

local notation "𝕄" => MT nD τ sig Unit (Elt F) ℕ (UR sig nD τ) ℕ

/-- A code times its scale, plus a gradient entry. -/
def deq (c : BitVec 8) (s g : EReal) : EReal := (FloatOps.sitofp (F := F) .f32 c : EReal) * s + g

/-- An entry of the update: gain times the product of left and right factor. -/
def updV (t : ℕ) (x16 : Vec F S2880x192 .bf16) (x20 : Vec F S192x2048 .bf16) (r c : ℕ) : EReal :=
  Ideal.ofBits FTy.f32 0x3F97CA11#32 * ∑ k : Fin 192, at2 (α := EReal) x16 (192 * t + r) k.val * at2 (α := EReal) x20 k.val c

/-- An entry of the momentum after the error feedback. -/
def momV (t : ℕ) (x15 : Vec F S2880x2048 .f32) (x16 : Vec F S2880x192 .bf16) (x19 : Vec F S192x2048 .bf16) (r c : ℕ) : EReal :=
  at2 (α := EReal) x15 (192 * t + r) c - Ideal.ofBits FTy.f32 0x3D4CCCCD#32 * ∑ k : Fin 192, at2 (α := EReal) x16 (192 * t + r) k.val * at2 (α := EReal) x19 k.val c

/-- The largest magnitude of 128 entries. -/
def amax (f : ℕ → EReal) : EReal :=
  Finset.fold max (Ideal.ofBits FTy.f32 0xFF800000#32) (fun x : Fin 128 => (FloatOps.absf (F := F) (φ := .f32) (f x.val) : EReal)) Finset.univ

/-- The scale of 128 entries. -/
def scl (f : ℕ → EReal) : EReal :=
  if amax f = 0 then 1 else Ideal.div (amax f) (Ideal.ofBits FTy.f32 0x42FE0000#32)

/-- The code of an entry under a scale. -/
def quant (m s : EReal) : BitVec 8 :=
  FloatOps.fptosi (F := F) (φ := .f32) 8 (min (Ideal.ofBits FTy.f32 0x42FE0000#32) (max (Ideal.ofBits FTy.f32 0xC2FE0000#32) (Ideal.liftRound Ideal.roundHalfEven (Ideal.div m s))))

/-- The scale of lane block `q` of row `r` of the momentum. -/
def sclV (t : ℕ) (x15 : Vec F S2880x2048 .f32) (x16 : Vec F S2880x192 .bf16) (x19 : Vec F S192x2048 .bf16) (r q : ℕ) : EReal :=
  scl fun x => momV t x15 x16 x19 r (128 * q + x)

/-- The update tile. -/
def G9 (t : ℕ) (x16 : Vec F S2880x192 .bf16) (x20 : Vec F S192x2048 .bf16) : Vec F S1x192x2048 .f32 := fun y =>
  updV t x16 x20 (y 1).val (y 2).val

/-- The tile of the new weights. -/
def G8 (t : ℕ) (x7 : Vec F S1x192x2048 .f32) (x16 : Vec F S2880x192 .bf16) (x20 : Vec F S192x2048 .bf16) : Vec F S1x192x2048 .f32 := fun y =>
  at3 (α := EReal) x7 (y 1).val (y 2).val - Ideal.ofBits FTy.f32 0x3C23D70A#32 * updV t x16 x20 (y 1).val (y 2).val

/-- The tile of the new codes. -/
def G11 (t : ℕ) (x15 : Vec F S2880x2048 .f32) (x16 : Vec F S2880x192 .bf16) (x19 : Vec F S192x2048 .bf16) : Vec F S1x192x2048 .i8 := fun y =>
  quant (momV t x15 x16 x19 (y 1).val (y 2).val) (sclV t x15 x16 x19 (y 1).val ((y 2).val / 128))

/-- The new scales, at the rows of tile `t`. -/
def G14 (t : ℕ) (x15 : Vec F S2880x2048 .f32) (x16 : Vec F S2880x192 .bf16) (x19 : Vec F S192x2048 .bf16) : Vec F S2880x16 .f32 := fun y =>
  sclV t x15 x16 x19 ((y 0).val - 192 * t) (y 1).val

/-- The scales of a finished matrix, transposed back. -/
def G12 (x14 : Vec F S2880x16 .f32) : Vec F S1x16x2880 .f32 := fun y => at2 (α := EReal) x14 (y 2).val (y 1).val

/-- The scales of a starting matrix, transposed. -/
def G13 (x4 : Vec F S1x16x2880 .f32) : Vec F S2880x16 .f32 := fun y => at3 (α := EReal) x4 (y 1).val (y 0).val

/-- The cleared accumulator. -/
def G18z : Vec F S192x2048 .f32 := fun _ => (0 : EReal)

/-- The dequantised tile plus the gradient. -/
def G17 (t : ℕ) (x2 : Vec F S1x192x2048 .i8) (x3 : Vec F S1x192x2048 .bf16) (x13 : Vec F S2880x16 .f32) : Vec F S192x2048 .bf16 := fun y =>
  deq (at3 (α := BitVec 8) x2 (y 0).val (y 1).val) (at2 (α := EReal) x13 (192 * t + (y 0).val) ((y 1).val / 128)) (at3 (α := EReal) x3 (y 0).val (y 1).val)

/-- The same tile at its rows of the whole momentum. -/
def G15 (t : ℕ) (x2 : Vec F S1x192x2048 .i8) (x3 : Vec F S1x192x2048 .bf16) (x13 : Vec F S2880x16 .f32) : Vec F S2880x2048 .f32 := fun y =>
  deq (at3 (α := BitVec 8) x2 ((y 0).val - 192 * t) (y 1).val) (at2 (α := EReal) x13 (y 0).val ((y 1).val / 128)) (at3 (α := EReal) x3 ((y 0).val - 192 * t) (y 1).val)

/-- An entry of a tile of the left factor. -/
def pbV (x5 x6 : Vec F S1x192x192 .f32) (r c : ℕ) : EReal := ∑ k : Fin 192, at3 (α := EReal) x5 r k.val * at3 (α := EReal) x6 c k.val

/-- The left factor, at the rows of tile `t`. -/
def G16 (t : ℕ) (x5 x6 : Vec F S1x192x192 .f32) : Vec F S2880x192 .bf16 := fun y => pbV x5 x6 ((y 0).val - 192 * t) (y 1).val

/-- The accumulated right factor after one more tile. -/
def G18 (t : ℕ) (x2 : Vec F S1x192x2048 .i8) (x3 : Vec F S1x192x2048 .bf16) (x5 x6 : Vec F S1x192x192 .f32) (x13 : Vec F S2880x16 .f32) (x18 : Vec F S192x2048 .f32) : Vec F S192x2048 .f32 := fun y =>
  at2 (α := EReal) x18 (y 0).val (y 1).val + ∑ k : Fin 192, pbV x5 x6 k.val (y 0).val * deq (at3 (α := BitVec 8) x2 k.val (y 1).val) (at2 (α := EReal) x13 (192 * t + k.val) ((y 1).val / 128)) (at3 (α := EReal) x3 k.val (y 1).val)

/-- An entry of a matrix with rows of length one. -/
def nrmV (x18 : Vec F S192x2048 .f32) (r c : ℕ) : EReal :=
  Ideal.div (at2 (α := EReal) x18 r c) (Ideal.sqrt (∑ x : Fin 2048, at2 (α := EReal) x18 r x.val * at2 (α := EReal) x18 r x.val))

/-- The new right factor. -/
def G10 (x18 : Vec F S192x2048 .f32) : Vec F S1x192x2048 .bf16 := fun y => nrmV x18 (y 1).val (y 2).val

/-- The rounded accumulator. -/
def G19 (x18 : Vec F S192x2048 .f32) : Vec F S192x2048 .bf16 := fun y => at2 (α := EReal) x18 (y 0).val (y 1).val

/-- The rounded new right factor. -/
def G20 (x18 : Vec F S192x2048 .f32) : Vec F S192x2048 .bf16 := fun y => nrmV x18 (y 0).val (y 1).val

theorem dv0 (x : Fin 128) : x.val / 128 = 0 := by omega
theorem dv1 (x : Fin 128) : (128 + x.val) / 128 = 1 := by omega
theorem dv2 (x : Fin 128) : (256 + x.val) / 128 = 2 := by omega
theorem dv3 (x : Fin 128) : (384 + x.val) / 128 = 3 := by omega
theorem dv4 (x : Fin 128) : (512 + x.val) / 128 = 4 := by omega
theorem dv5 (x : Fin 128) : (640 + x.val) / 128 = 5 := by omega
theorem dv6 (x : Fin 128) : (768 + x.val) / 128 = 6 := by omega
theorem dv7 (x : Fin 128) : (896 + x.val) / 128 = 7 := by omega
theorem dv8 (x : Fin 128) : (1024 + x.val) / 128 = 8 := by omega
theorem dv9 (x : Fin 128) : (1152 + x.val) / 128 = 9 := by omega
theorem dv10 (x : Fin 128) : (1280 + x.val) / 128 = 10 := by omega
theorem dv11 (x : Fin 128) : (1408 + x.val) / 128 = 11 := by omega
theorem dv12 (x : Fin 128) : (1536 + x.val) / 128 = 12 := by omega
theorem dv13 (x : Fin 128) : (1664 + x.val) / 128 = 13 := by omega
theorem dv14 (x : Fin 128) : (1792 + x.val) / 128 = 14 := by omega
theorem dv15 (x : Fin 128) : (1920 + x.val) / 128 = 15 := by omega
theorem dv16 (x : Fin 128) : (2048 + x.val) / 128 = 16 := by omega
theorem dv17 (x : Fin 128) : (2176 + x.val) / 128 = 17 := by omega
theorem dv18 (x : Fin 128) : (2304 + x.val) / 128 = 18 := by omega
theorem dv19 (x : Fin 128) : (2432 + x.val) / 128 = 19 := by omega
theorem dv20 (x : Fin 128) : (2560 + x.val) / 128 = 20 := by omega
theorem dv21 (x : Fin 128) : (2688 + x.val) / 128 = 21 := by omega
theorem dv22 (x : Fin 128) : (2816 + x.val) / 128 = 22 := by omega

end Cert.KernelIdeal.Hand

end
-- ==== Proof.KernelIdeal.Own.lean ====
/-
  What the body owns at a point: its six inputs, five outputs and eight scratch buffers.
-/
module

public import proofs.«01_k».proof.Proof.KernelIdeal.Body
public import proofs.«01_k».proof.Proof.KernelIdeal.Spec

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)

local notation "𝕄" => MT nD τ sig Unit (Elt F) ℕ (UR sig nD τ) ℕ

/-- The body's buffers, each at given contents. -/
def Own (c : Dev nD) (arg2 : Memref sig .tc .vmem S1x192x2048 .i8) (arg3 : Memref sig .tc .vmem S1x192x2048 .bf16) (arg4 : Memref sig .tc .vmem S1x16x2880 .f32) (arg5 : Memref sig .tc .vmem S1x192x192 .f32) (arg6 : Memref sig .tc .vmem S1x192x192 .f32) (arg7 : Memref sig .tc .vmem S1x192x2048 .f32) (arg8 : Memref sig .tc .vmem S1x192x2048 .f32) (arg9 : Memref sig .tc .vmem S1x192x2048 .f32) (arg10 : Memref sig .tc .vmem S1x192x2048 .bf16) (arg11 : Memref sig .tc .vmem S1x192x2048 .i8) (arg12 : Memref sig .tc .vmem S1x16x2880 .f32) (arg13 : Memref sig .tc .vmem S2880x16 .f32) (arg14 : Memref sig .tc .vmem S2880x16 .f32) (arg15 : Memref sig .tc .vmem S2880x2048 .f32) (arg16 : Memref sig .tc .vmem S2880x192 .bf16) (arg17 : Memref sig .tc .vmem S192x2048 .bf16) (arg18 : Memref sig .tc .vmem S192x2048 .f32) (arg19 : Memref sig .tc .vmem S192x2048 .bf16) (arg20 : Memref sig .tc .vmem S192x2048 .bf16)
    (x2 : Vec F S1x192x2048 .i8) (x3 : Vec F S1x192x2048 .bf16) (x4 : Vec F S1x16x2880 .f32) (x5 : Vec F S1x192x192 .f32) (x6 : Vec F S1x192x192 .f32) (x7 : Vec F S1x192x2048 .f32) (x8 : Vec F S1x192x2048 .f32) (x9 : Vec F S1x192x2048 .f32) (x10 : Vec F S1x192x2048 .bf16) (x11 : Vec F S1x192x2048 .i8) (x12 : Vec F S1x16x2880 .f32) (x13 : Vec F S2880x16 .f32) (x14 : Vec F S2880x16 .f32) (x15 : Vec F S2880x2048 .f32) (x16 : Vec F S2880x192 .bf16) (x17 : Vec F S192x2048 .bf16) (x18 : Vec F S192x2048 .f32) (x19 : Vec F S192x2048 .bf16) (x20 : Vec F S192x2048 .bf16) : sProp 𝕄 :=
  iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20)

/-- A buffer some stores were made to is owned at what it reads. -/
theorem owns_of_writes {S : Shape} {t : EltTy} (c : Dev nD) (arg : Memref sig .tc .vmem S t) (f) (L : List (View.Piece (Elt F) S t)) (Z : Vec F S t)
    (h : View.read (Elt F) arg.view (arg.view.writes (Elt F) f L) = Z) :
    (arg.view.loc (c : Thread nD τ) ↦[arg.view.set]{fullShare} arg.view.writes (Elt F) f L : sProp 𝕄) ⊢ owns (c : Thread nD τ) arg fullShare Z := by
  unfold owns
  iintro H
  iexists _
  isplitr
  swap; · iexact H
  ipureintro; exact h

/-- The same of a buffer whose contents before the stores are not known. -/
theorem owns_of_writes_some {S : Shape} {t : EltTy} (c : Dev nD) (arg : Memref sig .tc .vmem S t) (L : List (View.Piece (Elt F) S t)) (Z : Vec F S t)
    (h : ∀ f, View.read (Elt F) arg.view (arg.view.writes (Elt F) f L) = Z) :
    iprop(∃ f, arg.view.loc (c : Thread nD τ) ↦[arg.view.set]{fullShare} arg.view.writes (Elt F) f L : sProp 𝕄) ⊢ owns (c : Thread nD τ) arg fullShare Z := by
  iintro ⟨%f, H⟩
  iapply owns_of_writes c arg f L Z (h f)
  iexact H

end Cert.KernelIdeal.Hand

end
-- ==== Proof.KernelIdeal.RunA.lean ====
/-
  The update branch, run once: what its stores leave, as pieces.
-/
module

public import proofs.«01_k».proof.Proof.KernelIdeal.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)

variable {F : FTy → Type} [FloatOps F]

local notation "𝕄" => MT nD τ sig Unit (Elt F) ℕ (UR sig nD τ) ℕ

set_option maxHeartbeats 4000000 in
/-- The update branch run once: the pieces its stores leave (last first), with the proof that it leaves them. -/
def runA (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (k0_h1 : k0_cond1 i = 1#1)
    (x7 : Vec F S1x192x2048 .f32) (x14 : Vec F S2880x16 .f32) (x15 : Vec F S2880x2048 .f32) (x16 : Vec F S2880x192 .bf16) (x19 : Vec F S192x2048 .bf16) (x20 : Vec F S192x2048 .bf16) :
    Σ' (L8 : List (View.Piece (Elt F) S1x192x2048 .f32)), Σ' (L9 : List (View.Piece (Elt F) S1x192x2048 .f32)), Σ' (L11 : List (View.Piece (Elt F) S1x192x2048 .i8)), { L14 : List (View.Piece (Elt F) S2880x16 .f32) //
      ∀ (jp : PUnit.{1} → Prog (TpuEff nD τ sig (Elt F) Λ₀ .tc) PUnit) (E : Set ℕ) (K : PUnit → sProp 𝕄),
        iprop(owns (c : Thread nD τ) arg7 fullShare x7 ∗ (∃ d, owns (c : Thread nD τ) arg8 fullShare d) ∗ (∃ d, owns (c : Thread nD τ) arg9 fullShare d) ∗ (∃ d, owns (c : Thread nD τ) arg11 fullShare d) ∗ owns (c : Thread nD τ) arg14 fullShare x14 ∗ owns (c : Thread nD τ) arg15 fullShare x15 ∗ owns (c : Thread nD τ) arg16 fullShare x16 ∗ owns (c : Thread nD τ) arg19 fullShare x19 ∗ owns (c : Thread nD τ) arg20 fullShare x20
            ∗ (iprop(owns (c : Thread nD τ) arg7 fullShare x7 ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg11.view.loc (c : Thread nD τ) ↦[arg11.view.set]{fullShare} arg11.view.writes (Elt F) f L11) ∗ (arg14.view.loc (c : Thread nD τ) ↦[arg14.view.set]{fullShare} arg14.view.writes (Elt F) (harg14.unread x14) L14) ∗ owns (c : Thread nD τ) arg15 fullShare x15 ∗ owns (c : Thread nD τ) arg16 fullShare x16 ∗ owns (c : Thread nD τ) arg19 fullShare x19 ∗ owns (c : Thread nD τ) arg20 fullShare x20) -∗ wp frame (wpE (defs₀ (F := F)) Variants.none c none) E (jp ⟨⟩) K))
          ⊢ wp frame (wpE (defs₀ (F := F)) Variants.none c none) E (fragA i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 jp) K } := by
  refine ⟨?_, ?_, ?_, ?_, fun jp E K => ?run⟩
  case run =>
    unfold fragA
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f7, %hf7, H7⟩, ⟨%d8, %f8, -, H8⟩, ⟨%d9, %f9, -, H9⟩, ⟨%d11, %f11, -, H11⟩, ⟨%f14, %hf14, H14⟩, ⟨%f15, %hf15, H15⟩, ⟨%f16, %hf16, H16⟩, ⟨%f19, %hf19, H19⟩, ⟨%f20, %hf20, H20⟩, Hk⟩
    obtain rfl := harg7.eq_unread hf7; obtain rfl := harg14.eq_unread hf14; obtain rfl := harg15.eq_unread hf15; obtain rfl := harg16.eq_unread hf16; obtain rfl := harg19.eq_unread hf19; obtain rfl := harg20.eq_unread hf20
    sl_exec
    iapply Hk
    isplitl [H7]
    · iexists _; isplitr; · ipureintro; exact harg7.read_unread _
      iexact H7
    isplitl [H8]
    · iexists _; iexact H8
    isplitl [H9]
    · iexists _; iexact H9
    isplitl [H11]
    · iexists _; iexact H11
    isplitl [H14]
    · iexact H14
    isplitl [H15]
    · iexists _; isplitr; · ipureintro; exact harg15.read_unread _
      iexact H15
    isplitl [H16]
    · iexists _; isplitr; · ipureintro; exact harg16.read_unread _
      iexact H16
    isplitl [H19]
    · iexists _; isplitr; · ipureintro; exact harg19.read_unread _
      iexact H19
    iexists _; isplitr; · ipureintro; exact harg20.read_unread _
    iexact H20

end Cert.KernelIdeal.Hand

end
-- ==== Proof.KernelIdeal.PiecesA.lean ====
/-
  The pieces each fragment stores, as entries of plain formulas.
-/
module

public import proofs.«01_k».proof.Proof.KernelIdeal.RunA
public import proofs.«01_k».proof.Proof.KernelIdeal.Spec

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)

local notation "𝕄" => MT nD τ sig Unit (Elt F) ℕ (UR sig nD τ) ℕ

set_option maxHeartbeats 4000000 in
set_option maxRecDepth 16384 in
/-- What the stores to argument 8 hold. -/
theorem pieces8 (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (h : k0_cond1 i = 1#1) x7 x14 x15 x16 x19 x20 : ∀ q ∈ (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x7 x14 x15 x16 x19 x20).1, ∀ x : q.1.shape.Idx, q.2 x = (G8 (i 1).val x7 x16 x20) (q.1.emb x) := by
  unfold runA; dsimp only
  simp only [List.forall_mem_cons]
  repeat' apply And.intro
  rotate_right
  · intro q hq; cases hq
  all_goals
    intro x
    idx_vars x
    try simp only [runA.sl.r_19, runA.sl.cst_170, runA.sl.r_30, runA.sl.r_31, runA.sl.r_4, runA.sl.r_17, runA.sl.r_2, runA.sl.r_15, runA.sl.r_7, runA.sl.r_22, runA.sl.r_26, runA.sl.r_3, runA.sl.v491, runA.sl.r_23, runA.sl.r_18, runA.sl.r_16, runA.sl.r_24, runA.sl.r_32, runA.sl.r_28, runA.sl.r_10, runA.sl.r_33, runA.sl.r_13, runA.sl.r_9, runA.sl.r, runA.sl.r_5, runA.sl.r_12, runA.sl.r_6, runA.sl.r_11, runA.sl.r_25, runA.sl.r_27, runA.sl.r_35, runA.sl.r_34, runA.sl.r_21, runA.sl.r_8, runA.sl.r_20, runA.sl.r_14, runA.sl.cst_75, runA.sl.cst_98, runA.sl.r_29, runA.sl.r_1]
    unfold_payloads
    pointwise [Memref.IsWhole.readAt_unread]
    skip
    try simp [G8, updV, eq_at3 x7, eq_at2 x16, eq_at2 x20, emb_val, off1, off2, off3, off4, off5, off6, off7, off8, off9, off10, off11, off12, off13, off14, off15, off16, off17, off18, off19, off20, off21, off22, off23, off24, off25, off26, off27, off28, off29, off30, off31, off32, off33, ← Nat.add_assoc, dv0, dv1, dv2, dv3, dv4, dv5, dv6, dv7, dv8, dv9, dv10, dv11, dv12, dv13, dv14, dv15, ix2, ix3]

set_option maxHeartbeats 4000000 in
set_option maxRecDepth 16384 in
/-- What the stores to argument 9 hold. -/
theorem pieces9 (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (h : k0_cond1 i = 1#1) x7 x14 x15 x16 x19 x20 : ∀ q ∈ (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x7 x14 x15 x16 x19 x20).2.1, ∀ x : q.1.shape.Idx, q.2 x = (G9 (i 1).val x16 x20) (q.1.emb x) := by
  unfold runA; dsimp only
  simp only [List.forall_mem_cons]
  repeat' apply And.intro
  rotate_right
  · intro q hq; cases hq
  all_goals
    intro x
    idx_vars x
    try simp only [runA.sl.r_19, runA.sl.cst_170, runA.sl.r_30, runA.sl.r_31, runA.sl.r_4, runA.sl.r_17, runA.sl.r_2, runA.sl.r_15, runA.sl.r_7, runA.sl.r_22, runA.sl.r_26, runA.sl.r_3, runA.sl.v491, runA.sl.r_23, runA.sl.r_18, runA.sl.r_16, runA.sl.r_24, runA.sl.r_32, runA.sl.r_28, runA.sl.r_10, runA.sl.r_33, runA.sl.r_13, runA.sl.r_9, runA.sl.r, runA.sl.r_5, runA.sl.r_12, runA.sl.r_6, runA.sl.r_11, runA.sl.r_25, runA.sl.r_27, runA.sl.r_35, runA.sl.r_34, runA.sl.r_21, runA.sl.r_8, runA.sl.r_20, runA.sl.r_14, runA.sl.cst_75, runA.sl.cst_98, runA.sl.r_29, runA.sl.r_1]
    unfold_payloads
    pointwise [Memref.IsWhole.readAt_unread]
    skip
    try simp [G9, updV, eq_at2 x16, eq_at2 x20, emb_val, off1, off2, off3, off4, off5, off6, off7, off8, off9, off10, off11, off12, off13, off14, off15, off16, off17, off18, off19, off20, off21, off22, off23, off24, off25, off26, off27, off28, off29, off30, off31, off32, off33, ← Nat.add_assoc, dv0, dv1, dv2, dv3, dv4, dv5, dv6, dv7, dv8, dv9, dv10, dv11, dv12, dv13, dv14, dv15, ix2, ix3]

set_option maxHeartbeats 4000000 in
set_option maxRecDepth 16384 in
/-- What the stores to argument 11 hold. -/
theorem pieces11 (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (h : k0_cond1 i = 1#1) x7 x14 x15 x16 x19 x20 : ∀ q ∈ (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x7 x14 x15 x16 x19 x20).2.2.1, ∀ x : q.1.shape.Idx, q.2 x = (G11 (i 1).val x15 x16 x19) (q.1.emb x) := by
  unfold runA; dsimp only
  simp only [List.forall_mem_cons]
  repeat' apply And.intro
  rotate_right
  · intro q hq; cases hq
  all_goals
    intro x
    idx_vars x
    try simp only [runA.sl.r_19, runA.sl.cst_170, runA.sl.r_30, runA.sl.r_31, runA.sl.r_4, runA.sl.r_17, runA.sl.r_2, runA.sl.r_15, runA.sl.r_7, runA.sl.r_22, runA.sl.r_26, runA.sl.r_3, runA.sl.v491, runA.sl.r_23, runA.sl.r_18, runA.sl.r_16, runA.sl.r_24, runA.sl.r_32, runA.sl.r_28, runA.sl.r_10, runA.sl.r_33, runA.sl.r_13, runA.sl.r_9, runA.sl.r, runA.sl.r_5, runA.sl.r_12, runA.sl.r_6, runA.sl.r_11, runA.sl.r_25, runA.sl.r_27, runA.sl.r_35, runA.sl.r_34, runA.sl.r_21, runA.sl.r_8, runA.sl.r_20, runA.sl.r_14, runA.sl.cst_75, runA.sl.cst_98, runA.sl.r_29, runA.sl.r_1]
    unfold_payloads
    pointwise [Memref.IsWhole.readAt_unread]
    skip
    try simp [G11, quant, sclV, scl, amax, momV, eq_at2 x15, eq_at2 x16, eq_at2 x19, emb_val, off1, off2, off3, off4, off5, off6, off7, off8, off9, off10, off11, off12, off13, off14, off15, off16, off17, off18, off19, off20, off21, off22, off23, off24, off25, off26, off27, off28, off29, off30, off31, off32, off33, ← Nat.add_assoc, dv0, dv1, dv2, dv3, dv4, dv5, dv6, dv7, dv8, dv9, dv10, dv11, dv12, dv13, dv14, dv15, ix2, ix3]

set_option maxHeartbeats 4000000 in
set_option maxRecDepth 16384 in
/-- What the stores to argument 14 hold. -/
theorem pieces14 (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (h : k0_cond1 i = 1#1) x7 x14 x15 x16 x19 x20 : ∀ q ∈ (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x7 x14 x15 x16 x19 x20).2.2.2.1, ∀ x : q.1.shape.Idx, q.2 x = (G14 (i 1).val x15 x16 x19) (q.1.emb x) := by
  unfold runA; dsimp only
  simp only [List.forall_mem_cons]
  repeat' apply And.intro
  rotate_right
  · intro q hq; cases hq
  all_goals
    intro x
    idx_vars x
    try simp only [runA.sl.r_19, runA.sl.cst_170, runA.sl.r_30, runA.sl.r_31, runA.sl.r_4, runA.sl.r_17, runA.sl.r_2, runA.sl.r_15, runA.sl.r_7, runA.sl.r_22, runA.sl.r_26, runA.sl.r_3, runA.sl.v491, runA.sl.r_23, runA.sl.r_18, runA.sl.r_16, runA.sl.r_24, runA.sl.r_32, runA.sl.r_28, runA.sl.r_10, runA.sl.r_33, runA.sl.r_13, runA.sl.r_9, runA.sl.r, runA.sl.r_5, runA.sl.r_12, runA.sl.r_6, runA.sl.r_11, runA.sl.r_25, runA.sl.r_27, runA.sl.r_35, runA.sl.r_34, runA.sl.r_21, runA.sl.r_8, runA.sl.r_20, runA.sl.r_14, runA.sl.cst_75, runA.sl.cst_98, runA.sl.r_29, runA.sl.r_1]
    unfold_payloads
    pointwise [Memref.IsWhole.readAt_unread]
    skip
    try simp [G14, sclV, scl, amax, momV, eq_at2 x15, eq_at2 x16, eq_at2 x19, emb_val, off1, off2, off3, off4, off5, off6, off7, off8, off9, off10, off11, off12, off13, off14, off15, off16, off17, off18, off19, off20, off21, off22, off23, off24, off25, off26, off27, off28, off29, off30, off31, off32, off33, ← Nat.add_assoc, dv0, dv1, dv2, dv3, dv4, dv5, dv6, dv7, dv8, dv9, dv10, dv11, dv12, dv13, dv14, dv15, ix2, ix3]

end Cert.KernelIdeal.Hand

end
-- ==== Proof.KernelIdeal.ReadsA.lean ====
/-
  What the stores of a fragment leave: the whole tile, or the rows of one tile.
-/
module

public import proofs.«01_k».proof.Proof.KernelIdeal.PiecesA

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)

local notation "𝕄" => MT nD τ sig Unit (Elt F) ℕ (UR sig nD τ) ℕ

set_option maxHeartbeats 4000000 in
/-- The stores to argument 8 cover it. -/
theorem cover8 (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (h : k0_cond1 i = 1#1) x7 x14 x15 x16 x19 x20 (y : S1x192x2048.Idx) : ∃ q ∈ (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x7 x14 x15 x16 x19 x20).1, y ∈ q.1.set := by
  have b0 : (y 0).val < 1 := (y 0).isLt
  have b1 : (y 1).val < 192 := (y 1).isLt
  have b2 : (y 2).val < 2048 := (y 2).isLt
  unfold runA; dsimp only
  simp only [List.exists_mem_cons_iff, mem_unit3]
  simp
  omega

/-- Argument 8 after the stores. -/
theorem reads8 (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (h : k0_cond1 i = 1#1) x7 x14 x15 x16 x19 x20 (f) : View.read (Elt F) arg8.view (arg8.view.writes (Elt F) f (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x7 x14 x15 x16 x19 x20).1) = G8 (i 1).val x7 x16 x20 :=
  funext fun y => View.read_writes_apply_of_pieces _ f _ _ (pieces8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x7 x14 x15 x16 x19 x20) y (cover8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x7 x14 x15 x16 x19 x20 y)

set_option maxHeartbeats 4000000 in
/-- The stores to argument 9 cover it. -/
theorem cover9 (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (h : k0_cond1 i = 1#1) x7 x14 x15 x16 x19 x20 (y : S1x192x2048.Idx) : ∃ q ∈ (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x7 x14 x15 x16 x19 x20).2.1, y ∈ q.1.set := by
  have b0 : (y 0).val < 1 := (y 0).isLt
  have b1 : (y 1).val < 192 := (y 1).isLt
  have b2 : (y 2).val < 2048 := (y 2).isLt
  unfold runA; dsimp only
  simp only [List.exists_mem_cons_iff, mem_unit3]
  simp
  omega

/-- Argument 9 after the stores. -/
theorem reads9 (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (h : k0_cond1 i = 1#1) x7 x14 x15 x16 x19 x20 (f) : View.read (Elt F) arg9.view (arg9.view.writes (Elt F) f (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x7 x14 x15 x16 x19 x20).2.1) = G9 (i 1).val x16 x20 :=
  funext fun y => View.read_writes_apply_of_pieces _ f _ _ (pieces9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x7 x14 x15 x16 x19 x20) y (cover9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x7 x14 x15 x16 x19 x20 y)

set_option maxHeartbeats 4000000 in
/-- The stores to argument 11 cover it. -/
theorem cover11 (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (h : k0_cond1 i = 1#1) x7 x14 x15 x16 x19 x20 (y : S1x192x2048.Idx) : ∃ q ∈ (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x7 x14 x15 x16 x19 x20).2.2.1, y ∈ q.1.set := by
  have b0 : (y 0).val < 1 := (y 0).isLt
  have b1 : (y 1).val < 192 := (y 1).isLt
  have b2 : (y 2).val < 2048 := (y 2).isLt
  unfold runA; dsimp only
  simp only [List.exists_mem_cons_iff, mem_unit3]
  simp
  omega

/-- Argument 11 after the stores. -/
theorem reads11 (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (h : k0_cond1 i = 1#1) x7 x14 x15 x16 x19 x20 (f) : View.read (Elt F) arg11.view (arg11.view.writes (Elt F) f (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x7 x14 x15 x16 x19 x20).2.2.1) = G11 (i 1).val x15 x16 x19 :=
  funext fun y => View.read_writes_apply_of_pieces _ f _ _ (pieces11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x7 x14 x15 x16 x19 x20) y (cover11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x7 x14 x15 x16 x19 x20 y)

set_option maxHeartbeats 4000000 in
/-- The stores to argument 14 cover the rows of the tile, -/
theorem cover14 (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (h : k0_cond1 i = 1#1) x7 x14 x15 x16 x19 x20 (y : S2880x16.Idx) (hy : 192 * (i 1).val ≤ (y 0).val ∧ (y 0).val < 192 * (i 1).val + 192) : ∃ q ∈ (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x7 x14 x15 x16 x19 x20).2.2.2.1, y ∈ q.1.set := by
  have b0 : (y 0).val < 2880 := (y 0).isLt
  have b1 : (y 1).val < 16 := (y 1).isLt
  unfold runA; dsimp only
  simp only [List.exists_mem_cons_iff, mem_unit2, off1, off2, off3, off4, off5, off6, off7, off8, off9, off10, off11, off12, off13, off14, off15, off16, off17, off18, off19, off20, off21, off22, off23, off24, off25, off26, off27, off28, off29, off30, off31, off32, off33]
  simp
  omega

set_option maxHeartbeats 4000000 in
/-- and no other row. -/
theorem miss14 (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (h : k0_cond1 i = 1#1) x7 x14 x15 x16 x19 x20 (y : S2880x16.Idx) (hy : ¬ (192 * (i 1).val ≤ (y 0).val ∧ (y 0).val < 192 * (i 1).val + 192)) : ∀ q ∈ (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x7 x14 x15 x16 x19 x20).2.2.2.1, y ∉ q.1.set := by
  unfold runA; dsimp only
  simp only [List.forall_mem_cons, mem_unit2, off1, off2, off3, off4, off5, off6, off7, off8, off9, off10, off11, off12, off13, off14, off15, off16, off17, off18, off19, off20, off21, off22, off23, off24, off25, off26, off27, off28, off29, off30, off31, off32, off33]
  repeat' apply And.intro
  rotate_right
  · intro q hq; cases hq
  all_goals
    intro hh
    exact hy hh.1

/-- Argument 14 after the stores. -/
theorem reads14 (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (h : k0_cond1 i = 1#1) x7 x14 x15 x16 x19 x20 : View.read (Elt F) arg14.view (arg14.view.writes (Elt F) (harg14.unread x14) (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x7 x14 x15 x16 x19 x20).2.2.2.1) = updRows (i 1).val (G14 (i 1).val x15 x16 x19) x14 := by
  funext y
  unfold updRows
  split
  · next hy => exact View.read_writes_apply_of_pieces _ _ _ _ (pieces14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x7 x14 x15 x16 x19 x20) y (cover14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x7 x14 x15 x16 x19 x20 y hy)
  · next hy => exact (View.read_writes_apply_of_forall_not_mem _ _ y _ (miss14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x7 x14 x15 x16 x19 x20 y hy)).trans (congrFun (harg14.read_unread x14) y)

end Cert.KernelIdeal.Hand

end
-- ==== Proof.KernelIdeal.StepA.lean ====
/-
  The update branch: what it leaves in the body's buffers.
-/
module

public import proofs.«01_k».proof.Proof.KernelIdeal.Own
public import proofs.«01_k».proof.Proof.KernelIdeal.RunA
public import proofs.«01_k».proof.Proof.KernelIdeal.ReadsA

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)

local notation "𝕄" => MT nD τ sig Unit (Elt F) ℕ (UR sig nD τ) ℕ

set_option maxHeartbeats 2000000 in
/-- The update branch: what it leaves in the body's buffers. -/
theorem stepA (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (h : k0_cond1 i = 1#1)
    (x2 : Vec F S1x192x2048 .i8) (x3 : Vec F S1x192x2048 .bf16) (x4 : Vec F S1x16x2880 .f32) (x5 : Vec F S1x192x192 .f32) (x6 : Vec F S1x192x192 .f32) (x7 : Vec F S1x192x2048 .f32) (x8 : Vec F S1x192x2048 .f32) (x9 : Vec F S1x192x2048 .f32) (x10 : Vec F S1x192x2048 .bf16) (x11 : Vec F S1x192x2048 .i8) (x12 : Vec F S1x16x2880 .f32) (x13 : Vec F S2880x16 .f32) (x14 : Vec F S2880x16 .f32) (x15 : Vec F S2880x2048 .f32) (x16 : Vec F S2880x192 .bf16) (x17 : Vec F S192x2048 .bf16) (x18 : Vec F S192x2048 .f32) (x19 : Vec F S192x2048 .bf16) (x20 : Vec F S192x2048 .bf16)
    (jp : PUnit.{1} → Prog (TpuEff nD τ sig (Elt F) Λ₀ .tc) PUnit) (E : Set ℕ) (K : PUnit → sProp 𝕄) :
    iprop(Own c arg2 arg3 arg4 arg5 arg6 arg7 arg8 arg9 arg10 arg11 arg12 arg13 arg14 arg15 arg16 arg17 arg18 arg19 arg20 x2 x3 x4 x5 x6 x7 x8 x9 x10 x11 x12 x13 x14 x15 x16 x17 x18 x19 x20
        ∗ (Own c arg2 arg3 arg4 arg5 arg6 arg7 arg8 arg9 arg10 arg11 arg12 arg13 arg14 arg15 arg16 arg17 arg18 arg19 arg20 x2 x3 x4 x5 x6 x7 (G8 (i 1).val x7 x16 x20) (G9 (i 1).val x16 x20) x10 (G11 (i 1).val x15 x16 x19) x12 x13 (updRows (i 1).val (G14 (i 1).val x15 x16 x19) x14) x15 x16 x17 x18 x19 x20
          -∗ wp frame (wpE (defs₀ (F := F)) Variants.none c none) E (jp ⟨⟩) K))
      ⊢ wp frame (wpE (defs₀ (F := F)) Variants.none c none) E (fragA (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h jp) K := by
  unfold Own
  iintro ⟨⟨H2, H3, H4, H5, H6, H7, H8, H9, H10, H11, H12, H13, H14, H15, H16, H17, H18, H19, H20⟩, Hk⟩
  iapply (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x7 x14 x15 x16 x19 x20).2.2.2.2 jp E K
  isplitl [H7]
  · iexact H7
  isplitl [H8]
  · iexists _; iexact H8
  isplitl [H9]
  · iexists _; iexact H9
  isplitl [H11]
  · iexists _; iexact H11
  isplitl [H14]
  · iexact H14
  isplitl [H15]
  · iexact H15
  isplitl [H16]
  · iexact H16
  isplitl [H19]
  · iexact H19
  isplitl [H20]
  · iexact H20
  iintro ⟨H7, ⟨%f8, H8⟩, ⟨%f9, H9⟩, ⟨%f11, H11⟩, H14, H15, H16, H19, H20⟩
  iapply Hk
  isplitl [H2]
  · iexact H2
  isplitl [H3]
  · iexact H3
  isplitl [H4]
  · iexact H4
  isplitl [H5]
  · iexact H5
  isplitl [H6]
  · iexact H6
  isplitl [H7]
  · iexact H7
  isplitl [H8]
  · iapply owns_of_writes c arg8 _ _ _ (reads8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x7 x14 x15 x16 x19 x20 f8); iexact H8
  isplitl [H9]
  · iapply owns_of_writes c arg9 _ _ _ (reads9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x7 x14 x15 x16 x19 x20 f9); iexact H9
  isplitl [H10]
  · iexact H10
  isplitl [H11]
  · iapply owns_of_writes c arg11 _ _ _ (reads11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x7 x14 x15 x16 x19 x20 f11); iexact H11
  isplitl [H12]
  · iexact H12
  isplitl [H13]
  · iexact H13
  isplitl [H14]
  · iapply owns_of_writes c arg14 _ _ _ (reads14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x7 x14 x15 x16 x19 x20); iexact H14
  isplitl [H15]
  · iexact H15
  isplitl [H16]
  · iexact H16
  isplitl [H17]
  · iexact H17
  isplitl [H18]
  · iexact H18
  isplitl [H19]
  · iexact H19
  iexact H20

end Cert.KernelIdeal.Hand

end
-- ==== Proof.KernelIdeal.RunB.lean ====
/-
  The branch that writes the new scales out, run once: what its stores leave, as pieces.
-/
module

public import proofs.«01_k».proof.Proof.KernelIdeal.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)

variable {F : FTy → Type} [FloatOps F]

local notation "𝕄" => MT nD τ sig Unit (Elt F) ℕ (UR sig nD τ) ℕ

set_option maxHeartbeats 4000000 in
/-- The branch that writes the new scales out run once: the pieces its stores leave (last first), with the proof that it leaves them. -/
def runB (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (k0_h2 : k0_cond2 i = 1#1)
    (x14 : Vec F S2880x16 .f32) :
    { L12 : List (View.Piece (Elt F) S1x16x2880 .f32) //
      ∀ (jp : PUnit.{1} → Prog (TpuEff nD τ sig (Elt F) Λ₀ .tc) PUnit) (E : Set ℕ) (K : PUnit → sProp 𝕄),
        iprop((∃ d, owns (c : Thread nD τ) arg12 fullShare d) ∗ owns (c : Thread nD τ) arg14 fullShare x14
            ∗ (iprop((∃ f, arg12.view.loc (c : Thread nD τ) ↦[arg12.view.set]{fullShare} arg12.view.writes (Elt F) f L12) ∗ owns (c : Thread nD τ) arg14 fullShare x14) -∗ wp frame (wpE (defs₀ (F := F)) Variants.none c none) E (jp ⟨⟩) K))
          ⊢ wp frame (wpE (defs₀ (F := F)) Variants.none c none) E (fragB i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h2 jp) K } := by
  refine ⟨?_, fun jp E K => ?run⟩
  case run =>
    unfold fragB
    simp only [k0_part17_eq_skeleton, k0_part18_eq_skeleton, k0_part19_eq_skeleton, k0_part20_eq_skeleton]
    unfold owns
    iintro ⟨⟨%d12, %f12, -, H12⟩, ⟨%f14, %hf14, H14⟩, Hk⟩
    obtain rfl := harg14.eq_unread hf14
    sl_exec
    iapply Hk
    isplitl [H12]
    · iexists _; iexact H12
    iexists _; isplitr; · ipureintro; exact harg14.read_unread _
    iexact H14

end Cert.KernelIdeal.Hand

end
-- ==== Proof.KernelIdeal.PiecesB.lean ====
/-
  The pieces each fragment stores, as entries of plain formulas.
-/
module

public import proofs.«01_k».proof.Proof.KernelIdeal.RunB
public import proofs.«01_k».proof.Proof.KernelIdeal.Spec

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)

local notation "𝕄" => MT nD τ sig Unit (Elt F) ℕ (UR sig nD τ) ℕ

set_option maxHeartbeats 4000000 in
set_option maxRecDepth 16384 in
/-- What the stores to argument 12 hold. -/
theorem pieces12 (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (h : k0_cond2 i = 1#1) x14 : ∀ q ∈ (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x14).1, ∀ x : q.1.shape.Idx, q.2 x = (G12 x14) (q.1.emb x) := by
  unfold runB; dsimp only
  simp only [List.forall_mem_cons]
  repeat' apply And.intro
  rotate_right
  · intro q hq; cases hq
  all_goals
    intro x
    idx_vars x
    try simp only [runB.sl.r_3, runB.sl.r, runB.sl.r_2, runB.sl.r_1]
    unfold_payloads
    pointwise [Memref.IsWhole.readAt_unread]
    skip
    try simp [G12, eq_at2 x14, emb_val, ix2, ix3]

end Cert.KernelIdeal.Hand

end
-- ==== Proof.KernelIdeal.ReadsB.lean ====
/-
  What the stores of a fragment leave: the whole tile, or the rows of one tile.
-/
module

public import proofs.«01_k».proof.Proof.KernelIdeal.PiecesB

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)

local notation "𝕄" => MT nD τ sig Unit (Elt F) ℕ (UR sig nD τ) ℕ

set_option maxHeartbeats 4000000 in
/-- The stores to argument 12 cover it. -/
theorem cover12 (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (h : k0_cond2 i = 1#1) x14 (y : S1x16x2880.Idx) : ∃ q ∈ (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x14).1, y ∈ q.1.set := by
  have b0 : (y 0).val < 1 := (y 0).isLt
  have b1 : (y 1).val < 16 := (y 1).isLt
  have b2 : (y 2).val < 2880 := (y 2).isLt
  unfold runB; dsimp only
  simp only [List.exists_mem_cons_iff, mem_unit3]
  simp
  omega

/-- Argument 12 after the stores. -/
theorem reads12 (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (h : k0_cond2 i = 1#1) x14 (f) : View.read (Elt F) arg12.view (arg12.view.writes (Elt F) f (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x14).1) = G12 x14 :=
  funext fun y => View.read_writes_apply_of_pieces _ f _ _ (pieces12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x14) y (cover12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x14 y)

end Cert.KernelIdeal.Hand

end
-- ==== Proof.KernelIdeal.StepB.lean ====
/-
  The branch that writes the new scales out: what it leaves in the body's buffers.
-/
module

public import proofs.«01_k».proof.Proof.KernelIdeal.Own
public import proofs.«01_k».proof.Proof.KernelIdeal.RunB
public import proofs.«01_k».proof.Proof.KernelIdeal.ReadsB

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)

local notation "𝕄" => MT nD τ sig Unit (Elt F) ℕ (UR sig nD τ) ℕ

set_option maxHeartbeats 2000000 in
/-- The branch that writes the new scales out: what it leaves in the body's buffers. -/
theorem stepB (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (h : k0_cond2 i = 1#1)
    (x2 : Vec F S1x192x2048 .i8) (x3 : Vec F S1x192x2048 .bf16) (x4 : Vec F S1x16x2880 .f32) (x5 : Vec F S1x192x192 .f32) (x6 : Vec F S1x192x192 .f32) (x7 : Vec F S1x192x2048 .f32) (x8 : Vec F S1x192x2048 .f32) (x9 : Vec F S1x192x2048 .f32) (x10 : Vec F S1x192x2048 .bf16) (x11 : Vec F S1x192x2048 .i8) (x12 : Vec F S1x16x2880 .f32) (x13 : Vec F S2880x16 .f32) (x14 : Vec F S2880x16 .f32) (x15 : Vec F S2880x2048 .f32) (x16 : Vec F S2880x192 .bf16) (x17 : Vec F S192x2048 .bf16) (x18 : Vec F S192x2048 .f32) (x19 : Vec F S192x2048 .bf16) (x20 : Vec F S192x2048 .bf16)
    (jp : PUnit.{1} → Prog (TpuEff nD τ sig (Elt F) Λ₀ .tc) PUnit) (E : Set ℕ) (K : PUnit → sProp 𝕄) :
    iprop(Own c arg2 arg3 arg4 arg5 arg6 arg7 arg8 arg9 arg10 arg11 arg12 arg13 arg14 arg15 arg16 arg17 arg18 arg19 arg20 x2 x3 x4 x5 x6 x7 x8 x9 x10 x11 x12 x13 x14 x15 x16 x17 x18 x19 x20
        ∗ (Own c arg2 arg3 arg4 arg5 arg6 arg7 arg8 arg9 arg10 arg11 arg12 arg13 arg14 arg15 arg16 arg17 arg18 arg19 arg20 x2 x3 x4 x5 x6 x7 x8 x9 x10 x11 (G12 x14) x13 x14 x15 x16 x17 x18 x19 x20
          -∗ wp frame (wpE (defs₀ (F := F)) Variants.none c none) E (jp ⟨⟩) K))
      ⊢ wp frame (wpE (defs₀ (F := F)) Variants.none c none) E (fragB (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h jp) K := by
  unfold Own
  iintro ⟨⟨H2, H3, H4, H5, H6, H7, H8, H9, H10, H11, H12, H13, H14, H15, H16, H17, H18, H19, H20⟩, Hk⟩
  iapply (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x14).2 jp E K
  isplitl [H12]
  · iexists _; iexact H12
  isplitl [H14]
  · iexact H14
  iintro ⟨⟨%f12, H12⟩, H14⟩
  iapply Hk
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iapply owns_of_writes c arg12 _ _ _ (reads12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x14 f12); iexact H12
  isplitl [H13]
  · iexact H13
  isplitl [H14]
  · iexact H14
  isplitl [H15]
  · iexact H15
  isplitl [H16]
  · iexact H16
  isplitl [H17]
  · iexact H17
  isplitl [H18]
  · iexact H18
  isplitl [H19]
  · iexact H19
  iexact H20

end Cert.KernelIdeal.Hand

end
-- ==== Proof.KernelIdeal.RunC0.lean ====
/-
  The start of a matrix, run once: what its stores leave, as pieces.
-/
module

public import proofs.«01_k».proof.Proof.KernelIdeal.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)

variable {F : FTy → Type} [FloatOps F]

local notation "𝕄" => MT nD τ sig Unit (Elt F) ℕ (UR sig nD τ) ℕ

set_option maxHeartbeats 4000000 in
/-- The start of a matrix run once: the pieces its stores leave (last first), with the proof that it leaves them. -/
def runC0 (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (k0_h3 : k0_cond3 i = 1#1)
    (x4 : Vec F S1x16x2880 .f32) :
    Σ' (L13 : List (View.Piece (Elt F) S2880x16 .f32)), { L18 : List (View.Piece (Elt F) S192x2048 .f32) //
      ∀ (jp : PUnit.{1} → Prog (TpuEff nD τ sig (Elt F) Λ₀ .tc) PUnit) (E : Set ℕ) (K : PUnit → sProp 𝕄),
        iprop(owns (c : Thread nD τ) arg4 fullShare x4 ∗ (∃ d, owns (c : Thread nD τ) arg13 fullShare d) ∗ (∃ d, owns (c : Thread nD τ) arg18 fullShare d)
            ∗ (iprop(owns (c : Thread nD τ) arg4 fullShare x4 ∗ (∃ f, arg13.view.loc (c : Thread nD τ) ↦[arg13.view.set]{fullShare} arg13.view.writes (Elt F) f L13) ∗ (∃ f, arg18.view.loc (c : Thread nD τ) ↦[arg18.view.set]{fullShare} arg18.view.writes (Elt F) f L18)) -∗ wp frame (wpE (defs₀ (F := F)) Variants.none c none) E (jp ⟨⟩) K))
          ⊢ wp frame (wpE (defs₀ (F := F)) Variants.none c none) E (fragC0 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h3 jp) K } := by
  refine ⟨?_, ?_, fun jp E K => ?run⟩
  case run =>
    unfold fragC0
    simp only [k0_part21_eq_skeleton, k0_part22_eq_skeleton, k0_part23_eq_skeleton, k0_part24_eq_skeleton, k0_part25_eq_skeleton, k0_part26_eq_skeleton]
    unfold owns
    iintro ⟨⟨%f4, %hf4, H4⟩, ⟨%d13, %f13, -, H13⟩, ⟨%d18, %f18, -, H18⟩, Hk⟩
    obtain rfl := harg4.eq_unread hf4
    sl_exec
    iapply Hk
    isplitl [H4]
    · iexists _; isplitr; · ipureintro; exact harg4.read_unread _
      iexact H4
    isplitl [H13]
    · iexists _; iexact H13
    iexists _; iexact H18

end Cert.KernelIdeal.Hand

end
-- ==== Proof.KernelIdeal.PiecesC0.lean ====
/-
  The pieces each fragment stores, as entries of plain formulas.
-/
module

public import proofs.«01_k».proof.Proof.KernelIdeal.RunC0
public import proofs.«01_k».proof.Proof.KernelIdeal.Spec

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)

local notation "𝕄" => MT nD τ sig Unit (Elt F) ℕ (UR sig nD τ) ℕ

/-- Flattening the one-matrix axis keeps the other coordinates. -/
theorem resh (hn : S16x2880.numel = S1x16x2880.numel) (r : Fin 16) (c : Fin 2880) :
    Shape.reshapeEquiv hn (ix2 r c : S16x2880.Idx) = (ix3 0 r c : S1x16x2880.Idx) :=
  Shape.reshapeEquiv_eq_of_rowMajor hn (by
    rw [Shape.rowMajor_val_three, Shape.rowMajor_val_two]
    show ((0 * 16 + r.val) * 2880 + c.val) = r.val * 2880 + c.val
    rw [Nat.zero_mul, Nat.zero_add])

/-- A load through the flattened stage of the scales reads the scales. -/
theorem read_st (m : Memref sig .tc .vmem S1x16x2880 .f32) (hm : m.IsWhole) (X : Vec F S1x16x2880 .f32) (hb) (hn) (off size : Fin 2 → ℕ) (inb) (y : (Rect.unit (s := S16x2880) off size inb).shape.Idx) :
    View.readAt (Elt F) ((m.view.slice (Rect.unit (s := S1x16x2880) ![0, 0, 0] ![1, 16, 2880] hb)).reshape S16x2880 hn) (Rect.unit (s := S16x2880) off size inb).toLoadRect (hm.unread X) y
      = at3 (α := EReal) X (off 0 + (y 0).val) (off 1 + (y 1).val) := by
  refine (congrFun (hm.read_unread X) _ : _ = X ((Rect.unit (s := S1x16x2880) ![0, 0, 0] ![1, 16, 2880] hb).emb (Shape.reshapeEquiv hn ((Rect.unit (s := S16x2880) off size inb).emb y)))).trans ?_
  rw [eq_at3 X, eq_ix2 ((Rect.unit (s := S16x2880) off size inb).emb y)]
  refine at3_congr _ ?_ ?_
  · exact (emb_val (s := S1x16x2880) _ _ hb _ 1).trans ((congrArg (fun z : S1x16x2880.Idx => 0 + (z 1).val) (resh hn _ _)).trans ((Nat.zero_add _).trans (emb_val (s := S16x2880) off size inb y 0)))
  · exact (emb_val (s := S1x16x2880) _ _ hb _ 2).trans ((congrArg (fun z : S1x16x2880.Idx => 0 + (z 2).val) (resh hn _ _)).trans ((Nat.zero_add _).trans (emb_val (s := S16x2880) off size inb y 1)))

set_option maxHeartbeats 4000000 in
set_option maxRecDepth 16384 in
/-- What the stores to argument 13 hold. -/
theorem pieces13 (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (h : k0_cond3 i = 1#1) x4 : ∀ q ∈ (runC0 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x4).1, ∀ x : q.1.shape.Idx, q.2 x = (G13 x4) (q.1.emb x) := by
  unfold runC0; dsimp only
  simp only [List.forall_mem_cons]
  repeat' apply And.intro
  rotate_right
  · intro q hq; cases hq
  all_goals
    intro x
    idx_vars x
    try simp only [runC0.sl.v465, runC0.sl.v_1, runC0.sl.v457, runC0.sl.r_1, runC0.sl.v385, runC0.sl.v393, runC0.sl.v473, runC0.sl.v441, runC0.sl.v, runC0.sl.v497, runC0.sl.r, runC0.sl.v481, runC0.sl.v521, runC0.sl.v409, runC0.sl.v449, runC0.sl.v401, runC0.sl.v505, runC0.sl.v489, runC0.sl.v545, runC0.sl.v425, runC0.sl.v537, runC0.sl.v377, runC0.sl.v529, runC0.sl.v513, runC0.sl.v417]
    unfold_payloads
    pointwise [Memref.IsWhole.readAt_unread]
    rw [read_st]
    try simp [G13, eq_at3 x4, emb_val, ix2, ix3]

set_option maxHeartbeats 4000000 in
set_option maxRecDepth 16384 in
/-- What the stores to argument 18 hold. -/
theorem pieces18z (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (h : k0_cond3 i = 1#1) x4 : ∀ q ∈ (runC0 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x4).2.1, ∀ x : q.1.shape.Idx, q.2 x = (G18z) (q.1.emb x) := by
  unfold runC0; dsimp only
  simp only [List.forall_mem_cons]
  repeat' apply And.intro
  rotate_right
  · intro q hq; cases hq
  all_goals
    intro x
    idx_vars x
    try simp only [runC0.sl.v465, runC0.sl.v_1, runC0.sl.v457, runC0.sl.r_1, runC0.sl.v385, runC0.sl.v393, runC0.sl.v473, runC0.sl.v441, runC0.sl.v, runC0.sl.v497, runC0.sl.r, runC0.sl.v481, runC0.sl.v521, runC0.sl.v409, runC0.sl.v449, runC0.sl.v401, runC0.sl.v505, runC0.sl.v489, runC0.sl.v545, runC0.sl.v425, runC0.sl.v537, runC0.sl.v377, runC0.sl.v529, runC0.sl.v513, runC0.sl.v417]
    unfold_payloads
    pointwise [Memref.IsWhole.readAt_unread]
    skip
    try simp [G18z, emb_val, ix2, ix3]

end Cert.KernelIdeal.Hand

end
-- ==== Proof.KernelIdeal.ReadsC0.lean ====
/-
  What the stores of a fragment leave: the whole tile, or the rows of one tile.
-/
module

public import proofs.«01_k».proof.Proof.KernelIdeal.PiecesC0

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)

local notation "𝕄" => MT nD τ sig Unit (Elt F) ℕ (UR sig nD τ) ℕ

set_option maxHeartbeats 4000000 in
/-- The stores to argument 13 cover it. -/
theorem cover13 (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (h : k0_cond3 i = 1#1) x4 (y : S2880x16.Idx) : ∃ q ∈ (runC0 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x4).1, y ∈ q.1.set := by
  have b0 : (y 0).val < 2880 := (y 0).isLt
  have b1 : (y 1).val < 16 := (y 1).isLt
  unfold runC0; dsimp only
  simp only [List.exists_mem_cons_iff, mem_unit2]
  simp
  omega

/-- Argument 13 after the stores. -/
theorem reads13 (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (h : k0_cond3 i = 1#1) x4 (f) : View.read (Elt F) arg13.view (arg13.view.writes (Elt F) f (runC0 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x4).1) = G13 x4 :=
  funext fun y => View.read_writes_apply_of_pieces _ f _ _ (pieces13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x4) y (cover13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x4 y)

set_option maxHeartbeats 4000000 in
/-- The stores to argument 18 cover it. -/
theorem cover18z (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (h : k0_cond3 i = 1#1) x4 (y : S192x2048.Idx) : ∃ q ∈ (runC0 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x4).2.1, y ∈ q.1.set := by
  have b0 : (y 0).val < 192 := (y 0).isLt
  have b1 : (y 1).val < 2048 := (y 1).isLt
  unfold runC0; dsimp only
  simp only [List.exists_mem_cons_iff, mem_unit2]
  simp
  omega

/-- Argument 18 after the stores. -/
theorem reads18z (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (h : k0_cond3 i = 1#1) x4 (f) : View.read (Elt F) arg18.view (arg18.view.writes (Elt F) f (runC0 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x4).2.1) = G18z :=
  funext fun y => View.read_writes_apply_of_pieces _ f _ _ (pieces18z c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x4) y (cover18z c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x4 y)

end Cert.KernelIdeal.Hand

end
-- ==== Proof.KernelIdeal.StepC0.lean ====
/-
  The start of a matrix: what it leaves in the body's buffers.
-/
module

public import proofs.«01_k».proof.Proof.KernelIdeal.Own
public import proofs.«01_k».proof.Proof.KernelIdeal.RunC0
public import proofs.«01_k».proof.Proof.KernelIdeal.ReadsC0

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)

local notation "𝕄" => MT nD τ sig Unit (Elt F) ℕ (UR sig nD τ) ℕ

set_option maxHeartbeats 2000000 in
/-- The start of a matrix: what it leaves in the body's buffers. -/
theorem stepC0 (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (h : k0_cond3 i = 1#1)
    (x2 : Vec F S1x192x2048 .i8) (x3 : Vec F S1x192x2048 .bf16) (x4 : Vec F S1x16x2880 .f32) (x5 : Vec F S1x192x192 .f32) (x6 : Vec F S1x192x192 .f32) (x7 : Vec F S1x192x2048 .f32) (x8 : Vec F S1x192x2048 .f32) (x9 : Vec F S1x192x2048 .f32) (x10 : Vec F S1x192x2048 .bf16) (x11 : Vec F S1x192x2048 .i8) (x12 : Vec F S1x16x2880 .f32) (x13 : Vec F S2880x16 .f32) (x14 : Vec F S2880x16 .f32) (x15 : Vec F S2880x2048 .f32) (x16 : Vec F S2880x192 .bf16) (x17 : Vec F S192x2048 .bf16) (x18 : Vec F S192x2048 .f32) (x19 : Vec F S192x2048 .bf16) (x20 : Vec F S192x2048 .bf16)
    (jp : PUnit.{1} → Prog (TpuEff nD τ sig (Elt F) Λ₀ .tc) PUnit) (E : Set ℕ) (K : PUnit → sProp 𝕄) :
    iprop(Own c arg2 arg3 arg4 arg5 arg6 arg7 arg8 arg9 arg10 arg11 arg12 arg13 arg14 arg15 arg16 arg17 arg18 arg19 arg20 x2 x3 x4 x5 x6 x7 x8 x9 x10 x11 x12 x13 x14 x15 x16 x17 x18 x19 x20
        ∗ (Own c arg2 arg3 arg4 arg5 arg6 arg7 arg8 arg9 arg10 arg11 arg12 arg13 arg14 arg15 arg16 arg17 arg18 arg19 arg20 x2 x3 x4 x5 x6 x7 x8 x9 x10 x11 x12 (G13 x4) x14 x15 x16 x17 (G18z) x19 x20
          -∗ wp frame (wpE (defs₀ (F := F)) Variants.none c none) E (jp ⟨⟩) K))
      ⊢ wp frame (wpE (defs₀ (F := F)) Variants.none c none) E (fragC0 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h jp) K := by
  unfold Own
  iintro ⟨⟨H2, H3, H4, H5, H6, H7, H8, H9, H10, H11, H12, H13, H14, H15, H16, H17, H18, H19, H20⟩, Hk⟩
  iapply (runC0 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x4).2.2 jp E K
  isplitl [H4]
  · iexact H4
  isplitl [H13]
  · iexists _; iexact H13
  isplitl [H18]
  · iexists _; iexact H18
  iintro ⟨H4, ⟨%f13, H13⟩, ⟨%f18, H18⟩⟩
  iapply Hk
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iapply owns_of_writes c arg13 _ _ _ (reads13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x4 f13); iexact H13
  isplitl [H14]
  · iexact H14
  isplitl [H15]
  · iexact H15
  isplitl [H16]
  · iexact H16
  isplitl [H17]
  · iexact H17
  isplitl [H18]
  · iapply owns_of_writes c arg18 _ _ _ (reads18z c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x4 f18); iexact H18
  isplitl [H19]
  · iexact H19
  iexact H20

end Cert.KernelIdeal.Hand

end
-- ==== Proof.KernelIdeal.RunCm.lean ====
/-
  The tile of the current matrix, run once: what its stores leave, as pieces.
-/
module

public import proofs.«01_k».proof.Proof.KernelIdeal.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)

variable {F : FTy → Type} [FloatOps F]

local notation "𝕄" => MT nD τ sig Unit (Elt F) ℕ (UR sig nD τ) ℕ

set_option maxHeartbeats 4000000 in
/-- The tile of the current matrix run once: the pieces its stores leave (last first), with the proof that it leaves them. -/
def runCm (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (k0_h3 : k0_cond3 i = 1#1)
    (x2 : Vec F S1x192x2048 .i8) (x3 : Vec F S1x192x2048 .bf16) (x5 : Vec F S1x192x192 .f32) (x6 : Vec F S1x192x192 .f32) (x13 : Vec F S2880x16 .f32) (x15 : Vec F S2880x2048 .f32) (x16 : Vec F S2880x192 .bf16) (x18 : Vec F S192x2048 .f32) :
    Σ' (L15 : List (View.Piece (Elt F) S2880x2048 .f32)), Σ' (L16 : List (View.Piece (Elt F) S2880x192 .bf16)), Σ' (L17 : List (View.Piece (Elt F) S192x2048 .bf16)), { L18 : List (View.Piece (Elt F) S192x2048 .f32) //
      ∀ (jp : PUnit.{1} → Prog (TpuEff nD τ sig (Elt F) Λ₀ .tc) PUnit) (E : Set ℕ) (K : PUnit → sProp 𝕄),
        iprop(owns (c : Thread nD τ) arg2 fullShare x2 ∗ owns (c : Thread nD τ) arg3 fullShare x3 ∗ owns (c : Thread nD τ) arg5 fullShare x5 ∗ owns (c : Thread nD τ) arg6 fullShare x6 ∗ owns (c : Thread nD τ) arg13 fullShare x13 ∗ owns (c : Thread nD τ) arg15 fullShare x15 ∗ owns (c : Thread nD τ) arg16 fullShare x16 ∗ (∃ d, owns (c : Thread nD τ) arg17 fullShare d) ∗ owns (c : Thread nD τ) arg18 fullShare x18
            ∗ (iprop(owns (c : Thread nD τ) arg2 fullShare x2 ∗ owns (c : Thread nD τ) arg3 fullShare x3 ∗ owns (c : Thread nD τ) arg5 fullShare x5 ∗ owns (c : Thread nD τ) arg6 fullShare x6 ∗ owns (c : Thread nD τ) arg13 fullShare x13 ∗ (arg15.view.loc (c : Thread nD τ) ↦[arg15.view.set]{fullShare} arg15.view.writes (Elt F) (harg15.unread x15) L15) ∗ (arg16.view.loc (c : Thread nD τ) ↦[arg16.view.set]{fullShare} arg16.view.writes (Elt F) (harg16.unread x16) L16) ∗ (∃ f, arg17.view.loc (c : Thread nD τ) ↦[arg17.view.set]{fullShare} arg17.view.writes (Elt F) f L17) ∗ (arg18.view.loc (c : Thread nD τ) ↦[arg18.view.set]{fullShare} arg18.view.writes (Elt F) (harg18.unread x18) L18)) -∗ wp frame (wpE (defs₀ (F := F)) Variants.none c none) E (jp ⟨⟩) K))
          ⊢ wp frame (wpE (defs₀ (F := F)) Variants.none c none) E (fragCm i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h3 jp) K } := by
  refine ⟨?_, ?_, ?_, ?_, fun jp E K => ?run⟩
  case run =>
    unfold fragCm
    simp only [k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton]
    unfold owns
    iintro ⟨⟨%f2, %hf2, H2⟩, ⟨%f3, %hf3, H3⟩, ⟨%f5, %hf5, H5⟩, ⟨%f6, %hf6, H6⟩, ⟨%f13, %hf13, H13⟩, ⟨%f15, %hf15, H15⟩, ⟨%f16, %hf16, H16⟩, ⟨%d17, %f17, -, H17⟩, ⟨%f18, %hf18, H18⟩, Hk⟩
    obtain rfl := harg2.eq_unread hf2; obtain rfl := harg3.eq_unread hf3; obtain rfl := harg5.eq_unread hf5; obtain rfl := harg6.eq_unread hf6; obtain rfl := harg13.eq_unread hf13; obtain rfl := harg15.eq_unread hf15; obtain rfl := harg16.eq_unread hf16; obtain rfl := harg18.eq_unread hf18
    sl_exec
    iapply Hk
    isplitl [H2]
    · iexists _; isplitr; · ipureintro; exact harg2.read_unread _
      iexact H2
    isplitl [H3]
    · iexists _; isplitr; · ipureintro; exact harg3.read_unread _
      iexact H3
    isplitl [H5]
    · iexists _; isplitr; · ipureintro; exact harg5.read_unread _
      iexact H5
    isplitl [H6]
    · iexists _; isplitr; · ipureintro; exact harg6.read_unread _
      iexact H6
    isplitl [H13]
    · iexists _; isplitr; · ipureintro; exact harg13.read_unread _
      iexact H13
    isplitl [H15]
    · iexact H15
    isplitl [H16]
    · iexact H16
    isplitl [H17]
    · iexists _; iexact H17
    iexact H18

end Cert.KernelIdeal.Hand

end
-- ==== Proof.KernelIdeal.PiecesCm.lean ====
/-
  The pieces each fragment stores, as entries of plain formulas.
-/
module

public import proofs.«01_k».proof.Proof.KernelIdeal.RunCm
public import proofs.«01_k».proof.Proof.KernelIdeal.Spec

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)

local notation "𝕄" => MT nD τ sig Unit (Elt F) ℕ (UR sig nD τ) ℕ

set_option maxHeartbeats 4000000 in
set_option maxRecDepth 16384 in
/-- What the stores to argument 15 hold. -/
theorem pieces15 (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (h : k0_cond3 i = 1#1) x2 x3 x5 x6 x13 x15 x16 x18 : ∀ q ∈ (runCm (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x2 x3 x5 x6 x13 x15 x16 x18).1, ∀ x : q.1.shape.Idx, q.2 x = (G15 (i 1).val x2 x3 x13) (q.1.emb x) := by
  unfold runCm; dsimp only
  simp only [List.forall_mem_cons]
  repeat' apply And.intro
  rotate_right
  · intro q hq; cases hq
  all_goals
    intro x
    idx_vars x
    try simp only [runCm.sl.v324, runCm.sl.r_2, runCm.sl.r_5, runCm.sl.v, runCm.sl.v337, runCm.sl.v323, runCm.sl.v359, runCm.sl.v317, runCm.sl.v330, runCm.sl.v331, runCm.sl.v344, runCm.sl.v366, runCm.sl.v358, runCm.sl.v352, runCm.sl.r_1, runCm.sl.r, runCm.sl.v338, runCm.sl.v351, runCm.sl.v345, runCm.sl.r_4, runCm.sl.r_3, runCm.sl.v123]
    unfold_payloads
    pointwise [Memref.IsWhole.readAt_unread]
    skip
    try simp [G15, deq, eq_at3 x2, eq_at3 x3, eq_at2 x13, emb_val, off34, off35, off36, off37, off38, off39, off40, off41, off42, off43, off44, off45, off46, off47, off48, off49, off50, off51, dv0, dv1, dv2, dv3, dv4, dv5, dv6, dv7, dv8, dv9, dv10, dv11, dv12, dv13, dv14, dv15, ix2, ix3]

set_option maxHeartbeats 4000000 in
set_option maxRecDepth 16384 in
/-- What the stores to argument 16 hold. -/
theorem pieces16 (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (h : k0_cond3 i = 1#1) x2 x3 x5 x6 x13 x15 x16 x18 : ∀ q ∈ (runCm (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x2 x3 x5 x6 x13 x15 x16 x18).2.1, ∀ x : q.1.shape.Idx, q.2 x = (G16 (i 1).val x5 x6) (q.1.emb x) := by
  unfold runCm; dsimp only
  simp only [List.forall_mem_cons]
  repeat' apply And.intro
  rotate_right
  · intro q hq; cases hq
  all_goals
    intro x
    idx_vars x
    try simp only [runCm.sl.v324, runCm.sl.r_2, runCm.sl.r_5, runCm.sl.v, runCm.sl.v337, runCm.sl.v323, runCm.sl.v359, runCm.sl.v317, runCm.sl.v330, runCm.sl.v331, runCm.sl.v344, runCm.sl.v366, runCm.sl.v358, runCm.sl.v352, runCm.sl.r_1, runCm.sl.r, runCm.sl.v338, runCm.sl.v351, runCm.sl.v345, runCm.sl.r_4, runCm.sl.r_3, runCm.sl.v123]
    unfold_payloads
    pointwise [Memref.IsWhole.readAt_unread]
    skip
    try simp [G16, pbV, eq_at3 x5, eq_at3 x6, emb_val, off34, off35, off36, off37, off38, off39, off40, off41, off42, off43, off44, off45, off46, off47, off48, off49, off50, off51, dv0, dv1, dv2, dv3, dv4, dv5, dv6, dv7, dv8, dv9, dv10, dv11, dv12, dv13, dv14, dv15, ix2, ix3]

set_option maxHeartbeats 4000000 in
set_option maxRecDepth 16384 in
/-- What the stores to argument 17 hold. -/
theorem pieces17 (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (h : k0_cond3 i = 1#1) x2 x3 x5 x6 x13 x15 x16 x18 : ∀ q ∈ (runCm (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x2 x3 x5 x6 x13 x15 x16 x18).2.2.1, ∀ x : q.1.shape.Idx, q.2 x = (G17 (i 1).val x2 x3 x13) (q.1.emb x) := by
  unfold runCm; dsimp only; unfold runCm.sl.H17_16
  simp only [List.forall_mem_cons]
  repeat' apply And.intro
  rotate_right
  · intro q hq; cases hq
  all_goals
    intro x
    idx_vars x
    try simp only [runCm.sl.v324, runCm.sl.r_2, runCm.sl.r_5, runCm.sl.v, runCm.sl.v337, runCm.sl.v323, runCm.sl.v359, runCm.sl.v317, runCm.sl.v330, runCm.sl.v331, runCm.sl.v344, runCm.sl.v366, runCm.sl.v358, runCm.sl.v352, runCm.sl.r_1, runCm.sl.r, runCm.sl.v338, runCm.sl.v351, runCm.sl.v345, runCm.sl.r_4, runCm.sl.r_3, runCm.sl.v123]
    unfold_payloads
    pointwise [Memref.IsWhole.readAt_unread]
    skip
    try simp [G17, deq, eq_at3 x2, eq_at3 x3, eq_at2 x13, emb_val, off34, off35, off36, off37, off38, off39, off40, off41, off42, off43, off44, off45, off46, off47, off48, off49, off50, off51, dv0, dv1, dv2, dv3, dv4, dv5, dv6, dv7, dv8, dv9, dv10, dv11, dv12, dv13, dv14, dv15, ix2, ix3]

end Cert.KernelIdeal.Hand

end
-- ==== Proof.KernelIdeal.ReadsCm.lean ====
/-
  What the stores of a fragment leave: the whole tile, or the rows of one tile.
-/
module

public import proofs.«01_k».proof.Proof.KernelIdeal.PiecesCm

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)

local notation "𝕄" => MT nD τ sig Unit (Elt F) ℕ (UR sig nD τ) ℕ

set_option maxHeartbeats 4000000 in
/-- The stores to argument 15 cover the rows of the tile, -/
theorem cover15 (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (h : k0_cond3 i = 1#1) x2 x3 x5 x6 x13 x15 x16 x18 (y : S2880x2048.Idx) (hy : 192 * (i 1).val ≤ (y 0).val ∧ (y 0).val < 192 * (i 1).val + 192) : ∃ q ∈ (runCm (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x2 x3 x5 x6 x13 x15 x16 x18).1, y ∈ q.1.set := by
  have b0 : (y 0).val < 2880 := (y 0).isLt
  have b1 : (y 1).val < 2048 := (y 1).isLt
  unfold runCm; dsimp only
  simp only [List.exists_mem_cons_iff, mem_unit2, off34, off35, off36, off37, off38, off39, off40, off41, off42, off43, off44, off45, off46, off47, off48, off49, off50, off51]
  simp
  omega

set_option maxHeartbeats 4000000 in
/-- and no other row. -/
theorem miss15 (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (h : k0_cond3 i = 1#1) x2 x3 x5 x6 x13 x15 x16 x18 (y : S2880x2048.Idx) (hy : ¬ (192 * (i 1).val ≤ (y 0).val ∧ (y 0).val < 192 * (i 1).val + 192)) : ∀ q ∈ (runCm (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x2 x3 x5 x6 x13 x15 x16 x18).1, y ∉ q.1.set := by
  unfold runCm; dsimp only
  simp only [List.forall_mem_cons, mem_unit2, off34, off35, off36, off37, off38, off39, off40, off41, off42, off43, off44, off45, off46, off47, off48, off49, off50, off51]
  repeat' apply And.intro
  rotate_right
  · intro q hq; cases hq
  all_goals
    intro hh
    exact hy hh.1

/-- Argument 15 after the stores. -/
theorem reads15 (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (h : k0_cond3 i = 1#1) x2 x3 x5 x6 x13 x15 x16 x18 : View.read (Elt F) arg15.view (arg15.view.writes (Elt F) (harg15.unread x15) (runCm (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x2 x3 x5 x6 x13 x15 x16 x18).1) = updRows (i 1).val (G15 (i 1).val x2 x3 x13) x15 := by
  funext y
  unfold updRows
  split
  · next hy => exact View.read_writes_apply_of_pieces _ _ _ _ (pieces15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x2 x3 x5 x6 x13 x15 x16 x18) y (cover15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x2 x3 x5 x6 x13 x15 x16 x18 y hy)
  · next hy => exact (View.read_writes_apply_of_forall_not_mem _ _ y _ (miss15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x2 x3 x5 x6 x13 x15 x16 x18 y hy)).trans (congrFun (harg15.read_unread x15) y)

set_option maxHeartbeats 4000000 in
/-- The stores to argument 16 cover the rows of the tile, -/
theorem cover16 (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (h : k0_cond3 i = 1#1) x2 x3 x5 x6 x13 x15 x16 x18 (y : S2880x192.Idx) (hy : 192 * (i 1).val ≤ (y 0).val ∧ (y 0).val < 192 * (i 1).val + 192) : ∃ q ∈ (runCm (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x2 x3 x5 x6 x13 x15 x16 x18).2.1, y ∈ q.1.set := by
  have b0 : (y 0).val < 2880 := (y 0).isLt
  have b1 : (y 1).val < 192 := (y 1).isLt
  unfold runCm; dsimp only
  simp only [List.exists_mem_cons_iff, mem_unit2, off34, off35, off36, off37, off38, off39, off40, off41, off42, off43, off44, off45, off46, off47, off48, off49, off50, off51]
  simp
  omega

set_option maxHeartbeats 4000000 in
/-- and no other row. -/
theorem miss16 (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (h : k0_cond3 i = 1#1) x2 x3 x5 x6 x13 x15 x16 x18 (y : S2880x192.Idx) (hy : ¬ (192 * (i 1).val ≤ (y 0).val ∧ (y 0).val < 192 * (i 1).val + 192)) : ∀ q ∈ (runCm (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x2 x3 x5 x6 x13 x15 x16 x18).2.1, y ∉ q.1.set := by
  unfold runCm; dsimp only
  simp only [List.forall_mem_cons, mem_unit2, off34, off35, off36, off37, off38, off39, off40, off41, off42, off43, off44, off45, off46, off47, off48, off49, off50, off51]
  repeat' apply And.intro
  rotate_right
  · intro q hq; cases hq
  all_goals
    intro hh
    exact hy hh.1

/-- Argument 16 after the stores. -/
theorem reads16 (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (h : k0_cond3 i = 1#1) x2 x3 x5 x6 x13 x15 x16 x18 : View.read (Elt F) arg16.view (arg16.view.writes (Elt F) (harg16.unread x16) (runCm (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x2 x3 x5 x6 x13 x15 x16 x18).2.1) = updRows (i 1).val (G16 (i 1).val x5 x6) x16 := by
  funext y
  unfold updRows
  split
  · next hy => exact View.read_writes_apply_of_pieces _ _ _ _ (pieces16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x2 x3 x5 x6 x13 x15 x16 x18) y (cover16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x2 x3 x5 x6 x13 x15 x16 x18 y hy)
  · next hy => exact (View.read_writes_apply_of_forall_not_mem _ _ y _ (miss16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x2 x3 x5 x6 x13 x15 x16 x18 y hy)).trans (congrFun (harg16.read_unread x16) y)

set_option maxHeartbeats 4000000 in
/-- The stores to argument 17 cover it. -/
theorem cover17 (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (h : k0_cond3 i = 1#1) x2 x3 x5 x6 x13 x15 x16 x18 (y : S192x2048.Idx) : ∃ q ∈ (runCm (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x2 x3 x5 x6 x13 x15 x16 x18).2.2.1, y ∈ q.1.set := by
  have b0 : (y 0).val < 192 := (y 0).isLt
  have b1 : (y 1).val < 2048 := (y 1).isLt
  unfold runCm; dsimp only; unfold runCm.sl.H17_16
  simp only [List.exists_mem_cons_iff, mem_unit2]
  simp
  omega

/-- Argument 17 after the stores. -/
theorem reads17 (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (h : k0_cond3 i = 1#1) x2 x3 x5 x6 x13 x15 x16 x18 (f) : View.read (Elt F) arg17.view (arg17.view.writes (Elt F) f (runCm (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x2 x3 x5 x6 x13 x15 x16 x18).2.2.1) = G17 (i 1).val x2 x3 x13 :=
  funext fun y => View.read_writes_apply_of_pieces _ f _ _ (pieces17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x2 x3 x5 x6 x13 x15 x16 x18) y (cover17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x2 x3 x5 x6 x13 x15 x16 x18 y)

/-- A load of the tile read back after its stores. -/
theorem readCov17 (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (h : k0_cond3 i = 1#1) (x2 : Vec F S1x192x2048 .i8) (x3 : Vec F S1x192x2048 .bf16) (x13 : Vec F S2880x16 .f32) (x5 x6 x15 x16 x18) (off size : Fin 2 → ℕ) (inb) (z : (Rect.unit (s := S192x2048) off size inb).shape.Idx) :
    View.readCov arg17.view (runCm (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x2 x3 x5 x6 x13 x15 x16 x18).2.2.1 (Rect.unit (s := S192x2048) off size inb).toLoadRect z
      = G17 (i 1).val x2 x3 x13 ((Rect.unit (s := S192x2048) off size inb).emb z) :=
  congrFun (reads17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x2 x3 x5 x6 x13 x15 x16 x18 _) _

set_option maxHeartbeats 4000000 in
set_option maxRecDepth 16384 in
/-- What the stores to argument 18 hold. -/
theorem pieces18 (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (h : k0_cond3 i = 1#1) x2 x3 x5 x6 x13 x15 x16 x18 : ∀ q ∈ (runCm (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x2 x3 x5 x6 x13 x15 x16 x18).2.2.2.1, ∀ x : q.1.shape.Idx, q.2 x = (G18 (i 1).val x2 x3 x5 x6 x13 x18) (q.1.emb x) := by
  have e := readCov17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x2 x3 x13 x5 x6 x15 x16 x18
  unfold runCm at e; dsimp only at e
  unfold runCm; dsimp only
  simp only [List.forall_mem_cons]
  repeat' apply And.intro
  rotate_right
  · intro q hq; cases hq
  all_goals
    intro x
    idx_vars x
    try simp only [runCm.sl.v324, runCm.sl.r_2, runCm.sl.r_5, runCm.sl.v, runCm.sl.v337, runCm.sl.v323, runCm.sl.v359, runCm.sl.v317, runCm.sl.v330, runCm.sl.v331, runCm.sl.v344, runCm.sl.v366, runCm.sl.v358, runCm.sl.v352, runCm.sl.r_1, runCm.sl.r, runCm.sl.v338, runCm.sl.v351, runCm.sl.v345, runCm.sl.r_4, runCm.sl.r_3, runCm.sl.v123]
    unfold_payloads
    pointwise [Memref.IsWhole.readAt_unread]
    try simp [e, G18, G17, pbV, deq, eq_at2 x18, eq_at3 x5, eq_at3 x6, emb_val, ix2, ix3]

set_option maxHeartbeats 4000000 in
/-- The stores to argument 18 cover it. -/
theorem cover18 (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (h : k0_cond3 i = 1#1) x2 x3 x5 x6 x13 x15 x16 x18 (y : S192x2048.Idx) : ∃ q ∈ (runCm (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x2 x3 x5 x6 x13 x15 x16 x18).2.2.2.1, y ∈ q.1.set := by
  have b0 : (y 0).val < 192 := (y 0).isLt
  have b1 : (y 1).val < 2048 := (y 1).isLt
  unfold runCm; dsimp only
  simp only [List.exists_mem_cons_iff, mem_unit2]
  simp
  omega

/-- Argument 18 after the stores. -/
theorem reads18 (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (h : k0_cond3 i = 1#1) x2 x3 x5 x6 x13 x15 x16 x18 (f) : View.read (Elt F) arg18.view (arg18.view.writes (Elt F) f (runCm (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x2 x3 x5 x6 x13 x15 x16 x18).2.2.2.1) = G18 (i 1).val x2 x3 x5 x6 x13 x18 :=
  funext fun y => View.read_writes_apply_of_pieces _ f _ _ (pieces18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x2 x3 x5 x6 x13 x15 x16 x18) y (cover18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x2 x3 x5 x6 x13 x15 x16 x18 y)

end Cert.KernelIdeal.Hand

end
-- ==== Proof.KernelIdeal.StepCm.lean ====
/-
  The tile of the current matrix: what it leaves in the body's buffers.
-/
module

public import proofs.«01_k».proof.Proof.KernelIdeal.Own
public import proofs.«01_k».proof.Proof.KernelIdeal.RunCm
public import proofs.«01_k».proof.Proof.KernelIdeal.ReadsCm

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)

local notation "𝕄" => MT nD τ sig Unit (Elt F) ℕ (UR sig nD τ) ℕ

set_option maxHeartbeats 2000000 in
/-- The tile of the current matrix: what it leaves in the body's buffers. -/
theorem stepCm (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (h : k0_cond3 i = 1#1)
    (x2 : Vec F S1x192x2048 .i8) (x3 : Vec F S1x192x2048 .bf16) (x4 : Vec F S1x16x2880 .f32) (x5 : Vec F S1x192x192 .f32) (x6 : Vec F S1x192x192 .f32) (x7 : Vec F S1x192x2048 .f32) (x8 : Vec F S1x192x2048 .f32) (x9 : Vec F S1x192x2048 .f32) (x10 : Vec F S1x192x2048 .bf16) (x11 : Vec F S1x192x2048 .i8) (x12 : Vec F S1x16x2880 .f32) (x13 : Vec F S2880x16 .f32) (x14 : Vec F S2880x16 .f32) (x15 : Vec F S2880x2048 .f32) (x16 : Vec F S2880x192 .bf16) (x17 : Vec F S192x2048 .bf16) (x18 : Vec F S192x2048 .f32) (x19 : Vec F S192x2048 .bf16) (x20 : Vec F S192x2048 .bf16)
    (jp : PUnit.{1} → Prog (TpuEff nD τ sig (Elt F) Λ₀ .tc) PUnit) (E : Set ℕ) (K : PUnit → sProp 𝕄) :
    iprop(Own c arg2 arg3 arg4 arg5 arg6 arg7 arg8 arg9 arg10 arg11 arg12 arg13 arg14 arg15 arg16 arg17 arg18 arg19 arg20 x2 x3 x4 x5 x6 x7 x8 x9 x10 x11 x12 x13 x14 x15 x16 x17 x18 x19 x20
        ∗ (Own c arg2 arg3 arg4 arg5 arg6 arg7 arg8 arg9 arg10 arg11 arg12 arg13 arg14 arg15 arg16 arg17 arg18 arg19 arg20 x2 x3 x4 x5 x6 x7 x8 x9 x10 x11 x12 x13 x14 (updRows (i 1).val (G15 (i 1).val x2 x3 x13) x15) (updRows (i 1).val (G16 (i 1).val x5 x6) x16) (G17 (i 1).val x2 x3 x13) (G18 (i 1).val x2 x3 x5 x6 x13 x18) x19 x20
          -∗ wp frame (wpE (defs₀ (F := F)) Variants.none c none) E (jp ⟨⟩) K))
      ⊢ wp frame (wpE (defs₀ (F := F)) Variants.none c none) E (fragCm (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h jp) K := by
  unfold Own
  iintro ⟨⟨H2, H3, H4, H5, H6, H7, H8, H9, H10, H11, H12, H13, H14, H15, H16, H17, H18, H19, H20⟩, Hk⟩
  iapply (runCm (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x2 x3 x5 x6 x13 x15 x16 x18).2.2.2.2 jp E K
  isplitl [H2]
  · iexact H2
  isplitl [H3]
  · iexact H3
  isplitl [H5]
  · iexact H5
  isplitl [H6]
  · iexact H6
  isplitl [H13]
  · iexact H13
  isplitl [H15]
  · iexact H15
  isplitl [H16]
  · iexact H16
  isplitl [H17]
  · iexists _; iexact H17
  isplitl [H18]
  · iexact H18
  iintro ⟨H2, H3, H5, H6, H13, H15, H16, ⟨%f17, H17⟩, H18⟩
  iapply Hk
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iapply owns_of_writes c arg15 _ _ _ (reads15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x2 x3 x5 x6 x13 x15 x16 x18); iexact H15
  isplitl [H16]
  · iapply owns_of_writes c arg16 _ _ _ (reads16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x2 x3 x5 x6 x13 x15 x16 x18); iexact H16
  isplitl [H17]
  · iapply owns_of_writes c arg17 _ _ _ (reads17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x2 x3 x5 x6 x13 x15 x16 x18 f17); iexact H17
  isplitl [H18]
  · iapply owns_of_writes c arg18 _ _ _ (reads18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x2 x3 x5 x6 x13 x15 x16 x18 _); iexact H18
  isplitl [H19]
  · iexact H19
  iexact H20

end Cert.KernelIdeal.Hand

end
-- ==== Proof.KernelIdeal.RunCe.lean ====
/-
  The end of a matrix, run once: what its stores leave, as pieces.
-/
module

public import proofs.«01_k».proof.Proof.KernelIdeal.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)

variable {F : FTy → Type} [FloatOps F]

local notation "𝕄" => MT nD τ sig Unit (Elt F) ℕ (UR sig nD τ) ℕ

set_option maxHeartbeats 4000000 in
/-- The end of a matrix run once: the pieces its stores leave (last first), with the proof that it leaves them. -/
def runCe (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (k0_h5 : k0_cond5 i = 1#1)
    (x18 : Vec F S192x2048 .f32) :
    Σ' (L10 : List (View.Piece (Elt F) S1x192x2048 .bf16)), Σ' (L19 : List (View.Piece (Elt F) S192x2048 .bf16)), { L20 : List (View.Piece (Elt F) S192x2048 .bf16) //
      ∀ (jp : PUnit.{1} → Prog (TpuEff nD τ sig (Elt F) Λ₀ .tc) PUnit) (E : Set ℕ) (K : PUnit → sProp 𝕄),
        iprop((∃ d, owns (c : Thread nD τ) arg10 fullShare d) ∗ owns (c : Thread nD τ) arg18 fullShare x18 ∗ (∃ d, owns (c : Thread nD τ) arg19 fullShare d) ∗ (∃ d, owns (c : Thread nD τ) arg20 fullShare d)
            ∗ (iprop((∃ f, arg10.view.loc (c : Thread nD τ) ↦[arg10.view.set]{fullShare} arg10.view.writes (Elt F) f L10) ∗ owns (c : Thread nD τ) arg18 fullShare x18 ∗ (∃ f, arg19.view.loc (c : Thread nD τ) ↦[arg19.view.set]{fullShare} arg19.view.writes (Elt F) f L19) ∗ (∃ f, arg20.view.loc (c : Thread nD τ) ↦[arg20.view.set]{fullShare} arg20.view.writes (Elt F) f L20)) -∗ wp frame (wpE (defs₀ (F := F)) Variants.none c none) E (jp ⟨⟩) K))
          ⊢ wp frame (wpE (defs₀ (F := F)) Variants.none c none) E (fragCe i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h5 jp) K } := by
  refine ⟨?_, ?_, ?_, fun jp E K => ?run⟩
  case run =>
    unfold fragCe
    unfold owns
    iintro ⟨⟨%d10, %f10, -, H10⟩, ⟨%f18, %hf18, H18⟩, ⟨%d19, %f19, -, H19⟩, ⟨%d20, %f20, -, H20⟩, Hk⟩
    obtain rfl := harg18.eq_unread hf18
    sl_exec
    iapply Hk
    isplitl [H10]
    · iexists _; iexact H10
    isplitl [H18]
    · iexists _; isplitr; · ipureintro; exact harg18.read_unread _
      iexact H18
    isplitl [H19]
    · iexists _; iexact H19
    iexists _; iexact H20

end Cert.KernelIdeal.Hand

end
-- ==== Proof.KernelIdeal.PiecesCe.lean ====
/-
  The pieces each fragment stores, as entries of plain formulas.
-/
module

public import proofs.«01_k».proof.Proof.KernelIdeal.RunCe
public import proofs.«01_k».proof.Proof.KernelIdeal.Spec

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)

local notation "𝕄" => MT nD τ sig Unit (Elt F) ℕ (UR sig nD τ) ℕ

set_option maxHeartbeats 4000000 in
set_option maxRecDepth 16384 in
/-- What the stores to argument 10 hold. -/
theorem pieces10 (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (h : k0_cond5 i = 1#1) x18 : ∀ q ∈ (runCe (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x18).1, ∀ x : q.1.shape.Idx, q.2 x = (G10 x18) (q.1.emb x) := by
  unfold runCe; dsimp only
  simp only [List.forall_mem_cons]
  repeat' apply And.intro
  rotate_right
  · intro q hq; cases hq
  all_goals
    intro x
    idx_vars x
    try simp only [runCe.sl.v0]
    unfold_payloads
    pointwise [Memref.IsWhole.readAt_unread]
    skip
    try simp [G10, nrmV, eq_at2 x18, emb_val, ix2, ix3]

set_option maxHeartbeats 4000000 in
set_option maxRecDepth 16384 in
/-- What the stores to argument 19 hold. -/
theorem pieces19 (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (h : k0_cond5 i = 1#1) x18 : ∀ q ∈ (runCe (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x18).2.1, ∀ x : q.1.shape.Idx, q.2 x = (G19 x18) (q.1.emb x) := by
  unfold runCe; dsimp only
  simp only [List.forall_mem_cons]
  repeat' apply And.intro
  rotate_right
  · intro q hq; cases hq
  all_goals
    intro x
    idx_vars x
    try simp only [runCe.sl.v0]
    unfold_payloads
    pointwise [Memref.IsWhole.readAt_unread]
    skip
    try simp [G19, eq_at2 x18, emb_val, ix2, ix3]

set_option maxHeartbeats 4000000 in
set_option maxRecDepth 16384 in
/-- What the stores to argument 20 hold. -/
theorem pieces20 (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (h : k0_cond5 i = 1#1) x18 : ∀ q ∈ (runCe (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x18).2.2.1, ∀ x : q.1.shape.Idx, q.2 x = (G20 x18) (q.1.emb x) := by
  unfold runCe; dsimp only
  simp only [List.forall_mem_cons]
  repeat' apply And.intro
  rotate_right
  · intro q hq; cases hq
  all_goals
    intro x
    idx_vars x
    try simp only [runCe.sl.v0]
    unfold_payloads
    pointwise [Memref.IsWhole.readAt_unread]
    skip
    try simp [G20, nrmV, eq_at2 x18, emb_val, ix2, ix3]

end Cert.KernelIdeal.Hand

end
-- ==== Proof.KernelIdeal.ReadsCe.lean ====
/-
  What the stores of a fragment leave: the whole tile, or the rows of one tile.
-/
module

public import proofs.«01_k».proof.Proof.KernelIdeal.PiecesCe

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)

local notation "𝕄" => MT nD τ sig Unit (Elt F) ℕ (UR sig nD τ) ℕ

set_option maxHeartbeats 4000000 in
/-- The stores to argument 10 cover it. -/
theorem cover10 (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (h : k0_cond5 i = 1#1) x18 (y : S1x192x2048.Idx) : ∃ q ∈ (runCe (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x18).1, y ∈ q.1.set := by
  have b0 : (y 0).val < 1 := (y 0).isLt
  have b1 : (y 1).val < 192 := (y 1).isLt
  have b2 : (y 2).val < 2048 := (y 2).isLt
  unfold runCe; dsimp only
  simp only [List.exists_mem_cons_iff, mem_unit3]
  simp
  omega

/-- Argument 10 after the stores. -/
theorem reads10 (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (h : k0_cond5 i = 1#1) x18 (f) : View.read (Elt F) arg10.view (arg10.view.writes (Elt F) f (runCe (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x18).1) = G10 x18 :=
  funext fun y => View.read_writes_apply_of_pieces _ f _ _ (pieces10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x18) y (cover10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x18 y)

set_option maxHeartbeats 4000000 in
/-- The stores to argument 19 cover it. -/
theorem cover19 (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (h : k0_cond5 i = 1#1) x18 (y : S192x2048.Idx) : ∃ q ∈ (runCe (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x18).2.1, y ∈ q.1.set := by
  have b0 : (y 0).val < 192 := (y 0).isLt
  have b1 : (y 1).val < 2048 := (y 1).isLt
  unfold runCe; dsimp only
  simp only [List.exists_mem_cons_iff, mem_unit2]
  simp
  omega

/-- Argument 19 after the stores. -/
theorem reads19 (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (h : k0_cond5 i = 1#1) x18 (f) : View.read (Elt F) arg19.view (arg19.view.writes (Elt F) f (runCe (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x18).2.1) = G19 x18 :=
  funext fun y => View.read_writes_apply_of_pieces _ f _ _ (pieces19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x18) y (cover19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x18 y)

set_option maxHeartbeats 4000000 in
/-- The stores to argument 20 cover it. -/
theorem cover20 (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (h : k0_cond5 i = 1#1) x18 (y : S192x2048.Idx) : ∃ q ∈ (runCe (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x18).2.2.1, y ∈ q.1.set := by
  have b0 : (y 0).val < 192 := (y 0).isLt
  have b1 : (y 1).val < 2048 := (y 1).isLt
  unfold runCe; dsimp only
  simp only [List.exists_mem_cons_iff, mem_unit2]
  simp
  omega

/-- Argument 20 after the stores. -/
theorem reads20 (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (h : k0_cond5 i = 1#1) x18 (f) : View.read (Elt F) arg20.view (arg20.view.writes (Elt F) f (runCe (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x18).2.2.1) = G20 x18 :=
  funext fun y => View.read_writes_apply_of_pieces _ f _ _ (pieces20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x18) y (cover20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x18 y)

end Cert.KernelIdeal.Hand

end
-- ==== Proof.KernelIdeal.StepCe.lean ====
/-
  The end of a matrix: what it leaves in the body's buffers.
-/
module

public import proofs.«01_k».proof.Proof.KernelIdeal.Own
public import proofs.«01_k».proof.Proof.KernelIdeal.RunCe
public import proofs.«01_k».proof.Proof.KernelIdeal.ReadsCe

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)

local notation "𝕄" => MT nD τ sig Unit (Elt F) ℕ (UR sig nD τ) ℕ

set_option maxHeartbeats 2000000 in
/-- The end of a matrix: what it leaves in the body's buffers. -/
theorem stepCe (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole) (h : k0_cond5 i = 1#1)
    (x2 : Vec F S1x192x2048 .i8) (x3 : Vec F S1x192x2048 .bf16) (x4 : Vec F S1x16x2880 .f32) (x5 : Vec F S1x192x192 .f32) (x6 : Vec F S1x192x192 .f32) (x7 : Vec F S1x192x2048 .f32) (x8 : Vec F S1x192x2048 .f32) (x9 : Vec F S1x192x2048 .f32) (x10 : Vec F S1x192x2048 .bf16) (x11 : Vec F S1x192x2048 .i8) (x12 : Vec F S1x16x2880 .f32) (x13 : Vec F S2880x16 .f32) (x14 : Vec F S2880x16 .f32) (x15 : Vec F S2880x2048 .f32) (x16 : Vec F S2880x192 .bf16) (x17 : Vec F S192x2048 .bf16) (x18 : Vec F S192x2048 .f32) (x19 : Vec F S192x2048 .bf16) (x20 : Vec F S192x2048 .bf16)
    (jp : PUnit.{1} → Prog (TpuEff nD τ sig (Elt F) Λ₀ .tc) PUnit) (E : Set ℕ) (K : PUnit → sProp 𝕄) :
    iprop(Own c arg2 arg3 arg4 arg5 arg6 arg7 arg8 arg9 arg10 arg11 arg12 arg13 arg14 arg15 arg16 arg17 arg18 arg19 arg20 x2 x3 x4 x5 x6 x7 x8 x9 x10 x11 x12 x13 x14 x15 x16 x17 x18 x19 x20
        ∗ (Own c arg2 arg3 arg4 arg5 arg6 arg7 arg8 arg9 arg10 arg11 arg12 arg13 arg14 arg15 arg16 arg17 arg18 arg19 arg20 x2 x3 x4 x5 x6 x7 x8 x9 (G10 x18) x11 x12 x13 x14 x15 x16 x17 x18 (G19 x18) (G20 x18)
          -∗ wp frame (wpE (defs₀ (F := F)) Variants.none c none) E (jp ⟨⟩) K))
      ⊢ wp frame (wpE (defs₀ (F := F)) Variants.none c none) E (fragCe (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h jp) K := by
  unfold Own
  iintro ⟨⟨H2, H3, H4, H5, H6, H7, H8, H9, H10, H11, H12, H13, H14, H15, H16, H17, H18, H19, H20⟩, Hk⟩
  iapply (runCe (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x18).2.2.2 jp E K
  isplitl [H10]
  · iexists _; iexact H10
  isplitl [H18]
  · iexact H18
  isplitl [H19]
  · iexists _; iexact H19
  isplitl [H20]
  · iexists _; iexact H20
  iintro ⟨⟨%f10, H10⟩, H18, ⟨%f19, H19⟩, ⟨%f20, H20⟩⟩
  iapply Hk
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iapply owns_of_writes c arg10 _ _ _ (reads10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x18 f10); iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexact H17
  isplitl [H18]
  · iexact H18
  isplitl [H19]
  · iapply owns_of_writes c arg19 _ _ _ (reads19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x18 f19); iexact H19
  iapply owns_of_writes c arg20 _ _ _ (reads20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x18 f20); iexact H20

end Cert.KernelIdeal.Hand

end
-- ==== Proof.KernelIdeal.BodyWp.lean ====
/-
  What one run of the main kernel's body does to its buffers.
-/
module

public import proofs.«01_k».proof.Proof.KernelIdeal.StepA
public import proofs.«01_k».proof.Proof.KernelIdeal.StepB
public import proofs.«01_k».proof.Proof.KernelIdeal.StepC0
public import proofs.«01_k».proof.Proof.KernelIdeal.StepCm
public import proofs.«01_k».proof.Proof.KernelIdeal.StepCe

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)

local notation "𝕄" => MT nD τ sig Unit (Elt F) ℕ (UR sig nD τ) ℕ

/-- What buffer 8 holds after branch one. -/
def n8 (i : grid0.Coords) (x7 : Vec F S1x192x2048 .f32) (x8 : Vec F S1x192x2048 .f32) (x16 : Vec F S2880x192 .bf16) (x20 : Vec F S192x2048 .bf16) : Vec F S1x192x2048 .f32 :=
  if k0_cond1 i = 1#1 then G8 (i 1).val x7 x16 x20 else x8

/-- What buffer 9 holds after branch one. -/
def n9 (i : grid0.Coords) (x9 : Vec F S1x192x2048 .f32) (x16 : Vec F S2880x192 .bf16) (x20 : Vec F S192x2048 .bf16) : Vec F S1x192x2048 .f32 :=
  if k0_cond1 i = 1#1 then G9 (i 1).val x16 x20 else x9

/-- What buffer 11 holds after branch one. -/
def n11 (i : grid0.Coords) (x11 : Vec F S1x192x2048 .i8) (x15 : Vec F S2880x2048 .f32) (x16 : Vec F S2880x192 .bf16) (x19 : Vec F S192x2048 .bf16) : Vec F S1x192x2048 .i8 :=
  if k0_cond1 i = 1#1 then G11 (i 1).val x15 x16 x19 else x11

/-- What buffer 14 holds after branch one. -/
def n14 (i : grid0.Coords) (x14 : Vec F S2880x16 .f32) (x15 : Vec F S2880x2048 .f32) (x16 : Vec F S2880x192 .bf16) (x19 : Vec F S192x2048 .bf16) : Vec F S2880x16 .f32 :=
  if k0_cond1 i = 1#1 then updRows (i 1).val (G14 (i 1).val x15 x16 x19) x14 else x14

/-- What buffer 12 holds after branch two. -/
def n12 (i : grid0.Coords) (x12 : Vec F S1x16x2880 .f32) (x14 : Vec F S2880x16 .f32) : Vec F S1x16x2880 .f32 :=
  if k0_cond2 i = 1#1 then G12 x14 else x12

/-- The scales the tile is dequantised with. -/
def n13 (i : grid0.Coords) (x4 : Vec F S1x16x2880 .f32) (x13 : Vec F S2880x16 .f32) : Vec F S2880x16 .f32 :=
  if k0_cond3 i = 1#1 then (if cond4 i = 1#1 then G13 x4 else x13) else x13

/-- The product the tile is added to. -/
def z18 (i : grid0.Coords) (x18 : Vec F S192x2048 .f32) : Vec F S192x2048 .f32 :=
  if cond4 i = 1#1 then G18z else x18

/-- What buffer 15 holds after the third branch. -/
def n15 (i : grid0.Coords) (x2 : Vec F S1x192x2048 .i8) (x3 : Vec F S1x192x2048 .bf16) (x13 : Vec F S2880x16 .f32) (x15 : Vec F S2880x2048 .f32) : Vec F S2880x2048 .f32 :=
  if k0_cond3 i = 1#1 then updRows (i 1).val (G15 (i 1).val x2 x3 x13) x15 else x15

/-- What buffer 16 holds after the third branch. -/
def n16 (i : grid0.Coords) (x5 : Vec F S1x192x192 .f32) (x6 : Vec F S1x192x192 .f32) (x16 : Vec F S2880x192 .bf16) : Vec F S2880x192 .bf16 :=
  if k0_cond3 i = 1#1 then updRows (i 1).val (G16 (i 1).val x5 x6) x16 else x16

/-- What buffer 17 holds after the third branch. -/
def n17 (i : grid0.Coords) (x2 : Vec F S1x192x2048 .i8) (x3 : Vec F S1x192x2048 .bf16) (x13 : Vec F S2880x16 .f32) (x17 : Vec F S192x2048 .bf16) : Vec F S192x2048 .bf16 :=
  if k0_cond3 i = 1#1 then G17 (i 1).val x2 x3 x13 else x17

/-- What buffer 18 holds after the third branch. -/
def n18 (i : grid0.Coords) (x2 : Vec F S1x192x2048 .i8) (x3 : Vec F S1x192x2048 .bf16) (x5 : Vec F S1x192x192 .f32) (x6 : Vec F S1x192x192 .f32) (x13 : Vec F S2880x16 .f32) (x18 : Vec F S192x2048 .f32) : Vec F S192x2048 .f32 :=
  if k0_cond3 i = 1#1 then G18 (i 1).val x2 x3 x5 x6 x13 (z18 i x18) else x18

/-- What buffer 10 holds after the third branch. -/
def n10 (i : grid0.Coords) (x10 : Vec F S1x192x2048 .bf16) (x18 : Vec F S192x2048 .f32) : Vec F S1x192x2048 .bf16 :=
  if k0_cond3 i = 1#1 then (if k0_cond5 i = 1#1 then G10 x18 else x10) else x10

/-- What buffer 19 holds after the third branch. -/
def n19 (i : grid0.Coords) (x19 : Vec F S192x2048 .bf16) (x18 : Vec F S192x2048 .f32) : Vec F S192x2048 .bf16 :=
  if k0_cond3 i = 1#1 then (if k0_cond5 i = 1#1 then G19 x18 else x19) else x19

/-- What buffer 20 holds after the third branch. -/
def n20 (i : grid0.Coords) (x20 : Vec F S192x2048 .bf16) (x18 : Vec F S192x2048 .f32) : Vec F S192x2048 .bf16 :=
  if k0_cond3 i = 1#1 then (if k0_cond5 i = 1#1 then G20 x18 else x20) else x20

set_option maxHeartbeats 2000000 in
/-- The end of a matrix, if it is one, then nothing. -/
theorem tail_e (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole)
    (x2 : Vec F S1x192x2048 .i8) (x3 : Vec F S1x192x2048 .bf16) (x4 : Vec F S1x16x2880 .f32) (x5 : Vec F S1x192x192 .f32) (x6 : Vec F S1x192x192 .f32) (x7 : Vec F S1x192x2048 .f32) (x8 : Vec F S1x192x2048 .f32) (x9 : Vec F S1x192x2048 .f32) (x10 : Vec F S1x192x2048 .bf16) (x11 : Vec F S1x192x2048 .i8) (x12 : Vec F S1x16x2880 .f32) (x13 : Vec F S2880x16 .f32) (x14 : Vec F S2880x16 .f32) (x15 : Vec F S2880x2048 .f32) (x16 : Vec F S2880x192 .bf16) (x17 : Vec F S192x2048 .bf16) (x18 : Vec F S192x2048 .f32) (x19 : Vec F S192x2048 .bf16) (x20 : Vec F S192x2048 .bf16)  (K : PUnit → sProp 𝕄) :
    iprop(Own c arg2 arg3 arg4 arg5 arg6 arg7 arg8 arg9 arg10 arg11 arg12 arg13 arg14 arg15 arg16 arg17 arg18 arg19 arg20 x2 x3 x4 x5 x6 x7 x8 x9 x10 x11 x12 x13 x14 x15 x16 x17 x18 x19 x20
        ∗ (Own c arg2 arg3 arg4 arg5 arg6 arg7 arg8 arg9 arg10 arg11 arg12 arg13 arg14 arg15 arg16 arg17 arg18 arg19 arg20 x2 x3 x4 x5 x6 x7 x8 x9 (if k0_cond5 i = 1#1 then G10 x18 else x10) x11 x12 x13 x14 x15 x16 x17 x18 (if k0_cond5 i = 1#1 then G19 x18 else x19) (if k0_cond5 i = 1#1 then G20 x18 else x20) -∗ K ⟨⟩))
      ⊢ wp frame (wpE (defs₀ (F := F)) Variants.none c none) Set.univ (if h : k0_cond5 i = 1#1 then fragCe (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h (fun _ => pure ⟨⟩) else pure ⟨⟩) K := by
  by_cases h : k0_cond5 i = 1#1
  · simp only [dif_pos h, if_pos h]
    iintro ⟨H, Hk⟩
    iapply stepCe c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x2 x3 x4 x5 x6 x7 x8 x9 x10 x11 x12 x13 x14 x15 x16 x17 x18 x19 x20 (fun _ => pure ⟨⟩) Set.univ K
    isplitl [H]
    · iexact H
    iintro H
    rw [wp_pure]
    imodintro
    iapply Hk
    iexact H
  · simp only [dif_neg h, if_neg h]
    iintro ⟨H, Hk⟩
    rw [wp_pure]
    imodintro
    iapply Hk
    iexact H

set_option maxHeartbeats 2000000 in
/-- The third branch, if it is taken, then nothing. -/
theorem tail_C (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole)
    (x2 : Vec F S1x192x2048 .i8) (x3 : Vec F S1x192x2048 .bf16) (x4 : Vec F S1x16x2880 .f32) (x5 : Vec F S1x192x192 .f32) (x6 : Vec F S1x192x192 .f32) (x7 : Vec F S1x192x2048 .f32) (x8 : Vec F S1x192x2048 .f32) (x9 : Vec F S1x192x2048 .f32) (x10 : Vec F S1x192x2048 .bf16) (x11 : Vec F S1x192x2048 .i8) (x12 : Vec F S1x16x2880 .f32) (x13 : Vec F S2880x16 .f32) (x14 : Vec F S2880x16 .f32) (x15 : Vec F S2880x2048 .f32) (x16 : Vec F S2880x192 .bf16) (x17 : Vec F S192x2048 .bf16) (x18 : Vec F S192x2048 .f32) (x19 : Vec F S192x2048 .bf16) (x20 : Vec F S192x2048 .bf16)  (K : PUnit → sProp 𝕄) :
    iprop(Own c arg2 arg3 arg4 arg5 arg6 arg7 arg8 arg9 arg10 arg11 arg12 arg13 arg14 arg15 arg16 arg17 arg18 arg19 arg20 x2 x3 x4 x5 x6 x7 x8 x9 x10 x11 x12 x13 x14 x15 x16 x17 x18 x19 x20
        ∗ (Own c arg2 arg3 arg4 arg5 arg6 arg7 arg8 arg9 arg10 arg11 arg12 arg13 arg14 arg15 arg16 arg17 arg18 arg19 arg20 x2 x3 x4 x5 x6 x7 x8 x9 (n10 i x10 (n18 i x2 x3 x5 x6 (n13 i x4 x13) x18)) x11 x12 (n13 i x4 x13) x14 (n15 i x2 x3 (n13 i x4 x13) x15) (n16 i x5 x6 x16) (n17 i x2 x3 (n13 i x4 x13) x17) (n18 i x2 x3 x5 x6 (n13 i x4 x13) x18) (n19 i x19 (n18 i x2 x3 x5 x6 (n13 i x4 x13) x18)) (n20 i x20 (n18 i x2 x3 x5 x6 (n13 i x4 x13) x18)) -∗ K ⟨⟩))
      ⊢ wp frame (wpE (defs₀ (F := F)) Variants.none c none) Set.univ (if h : k0_cond3 i = 1#1 then fragC (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h (fun _ => pure ⟨⟩) else pure ⟨⟩) K := by
  by_cases h : k0_cond3 i = 1#1
  · by_cases h4 : cond4 i = 1#1
    · simp only [n13, n15, n16, n17, n18, n10, n19, n20, z18, dif_pos h, if_pos h, if_pos h4]
      rw [fragC_first i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h h4]
      dsimp only
      iintro ⟨H, Hk⟩
      iapply stepC0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x2 x3 x4 x5 x6 x7 x8 x9 x10 x11 x12 x13 x14 x15 x16 x17 x18 x19 x20 _ Set.univ K
      isplitl [H]
      · iexact H
      iintro H
      iapply stepCm c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x2 x3 x4 x5 x6 x7 x8 x9 x10 x11 x12 (G13 x4) x14 x15 x16 x17 G18z x19 x20 (fun _ => if h : k0_cond5 i = 1#1 then fragCe (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h (fun _ => pure ⟨⟩) else pure ⟨⟩) Set.univ K
      isplitl [H]
      · iexact H
      iintro H
      iapply tail_e c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 x8 x9 x10 x11 x12 ((G13 x4)) x14 (updRows (i 1).val (G15 (i 1).val x2 x3 (G13 x4)) x15) (updRows (i 1).val (G16 (i 1).val x5 x6) x16) (G17 (i 1).val x2 x3 (G13 x4)) (G18 (i 1).val x2 x3 x5 x6 (G13 x4) G18z) x19 x20 K
      isplitl [H]
      · iexact H
      iexact Hk
    · simp only [n13, n15, n16, n17, n18, n10, n19, n20, z18, dif_pos h, if_pos h, if_neg h4]
      rw [fragC_later i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h h4]
      dsimp only
      iintro ⟨H, Hk⟩
      iapply stepCm c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x2 x3 x4 x5 x6 x7 x8 x9 x10 x11 x12 x13 x14 x15 x16 x17 x18 x19 x20 (fun _ => if h : k0_cond5 i = 1#1 then fragCe (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h (fun _ => pure ⟨⟩) else pure ⟨⟩) Set.univ K
      isplitl [H]
      · iexact H
      iintro H
      iapply tail_e c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 x8 x9 x10 x11 x12 (x13) x14 (updRows (i 1).val (G15 (i 1).val x2 x3 x13) x15) (updRows (i 1).val (G16 (i 1).val x5 x6) x16) (G17 (i 1).val x2 x3 x13) (G18 (i 1).val x2 x3 x5 x6 x13 x18) x19 x20 K
      isplitl [H]
      · iexact H
      iexact Hk
  · simp only [n13, n15, n16, n17, n18, n10, n19, n20, z18, dif_neg h, if_neg h]
    iintro ⟨H, Hk⟩
    rw [wp_pure]
    imodintro
    iapply Hk
    iexact H

set_option maxHeartbeats 2000000 in
/-- The second branch, if it is taken, and what follows. -/
theorem tail_B (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole)
    (x2 : Vec F S1x192x2048 .i8) (x3 : Vec F S1x192x2048 .bf16) (x4 : Vec F S1x16x2880 .f32) (x5 : Vec F S1x192x192 .f32) (x6 : Vec F S1x192x192 .f32) (x7 : Vec F S1x192x2048 .f32) (x8 : Vec F S1x192x2048 .f32) (x9 : Vec F S1x192x2048 .f32) (x10 : Vec F S1x192x2048 .bf16) (x11 : Vec F S1x192x2048 .i8) (x12 : Vec F S1x16x2880 .f32) (x13 : Vec F S2880x16 .f32) (x14 : Vec F S2880x16 .f32) (x15 : Vec F S2880x2048 .f32) (x16 : Vec F S2880x192 .bf16) (x17 : Vec F S192x2048 .bf16) (x18 : Vec F S192x2048 .f32) (x19 : Vec F S192x2048 .bf16) (x20 : Vec F S192x2048 .bf16)  (K : PUnit → sProp 𝕄) :
    iprop(Own c arg2 arg3 arg4 arg5 arg6 arg7 arg8 arg9 arg10 arg11 arg12 arg13 arg14 arg15 arg16 arg17 arg18 arg19 arg20 x2 x3 x4 x5 x6 x7 x8 x9 x10 x11 x12 x13 x14 x15 x16 x17 x18 x19 x20
        ∗ (Own c arg2 arg3 arg4 arg5 arg6 arg7 arg8 arg9 arg10 arg11 arg12 arg13 arg14 arg15 arg16 arg17 arg18 arg19 arg20 x2 x3 x4 x5 x6 x7 x8 x9 (n10 i x10 (n18 i x2 x3 x5 x6 (n13 i x4 x13) x18)) x11 (n12 i x12 x14) (n13 i x4 x13) x14 (n15 i x2 x3 (n13 i x4 x13) x15) (n16 i x5 x6 x16) (n17 i x2 x3 (n13 i x4 x13) x17) (n18 i x2 x3 x5 x6 (n13 i x4 x13) x18) (n19 i x19 (n18 i x2 x3 x5 x6 (n13 i x4 x13) x18)) (n20 i x20 (n18 i x2 x3 x5 x6 (n13 i x4 x13) x18)) -∗ K ⟨⟩))
      ⊢ wp frame (wpE (defs₀ (F := F)) Variants.none c none) Set.univ (if h : k0_cond2 i = 1#1 then fragB (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h (fun _ => if h : k0_cond3 i = 1#1 then fragC (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h (fun _ => pure ⟨⟩) else pure ⟨⟩) else if h : k0_cond3 i = 1#1 then fragC (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h (fun _ => pure ⟨⟩) else pure ⟨⟩) K := by
  by_cases h : k0_cond2 i = 1#1
  · simp only [n12, dif_pos h, if_pos h]
    iintro ⟨H, Hk⟩
    iapply stepB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x2 x3 x4 x5 x6 x7 x8 x9 x10 x11 x12 x13 x14 x15 x16 x17 x18 x19 x20 (fun _ => if h : k0_cond3 i = 1#1 then fragC (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h (fun _ => pure ⟨⟩) else pure ⟨⟩) Set.univ K
    isplitl [H]
    · iexact H
    iintro H
    iapply tail_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 x8 x9 x10 x11 (G12 x14) x13 x14 x15 x16 x17 x18 x19 x20 K
    isplitl [H]
    · iexact H
    iexact Hk
  · simp only [n12, dif_neg h, if_neg h]
    exact tail_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 x8 x9 x10 x11 x12 x13 x14 x15 x16 x17 x18 x19 x20 K

set_option maxHeartbeats 2000000 in
/-- The body: what it leaves in its buffers, from what they hold. -/
theorem body_wp (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x192 .f32) (harg5 : arg5.IsWhole) (arg6 : Memref sig .tc .vmem S1x192x192 .f32) (harg6 : arg6.IsWhole) (arg7 : Memref sig .tc .vmem S1x192x2048 .f32) (harg7 : arg7.IsWhole) (arg8 : Memref sig .tc .vmem S1x192x2048 .f32) (harg8 : arg8.IsWhole) (arg9 : Memref sig .tc .vmem S1x192x2048 .f32) (harg9 : arg9.IsWhole) (arg10 : Memref sig .tc .vmem S1x192x2048 .bf16) (harg10 : arg10.IsWhole) (arg11 : Memref sig .tc .vmem S1x192x2048 .i8) (harg11 : arg11.IsWhole) (arg12 : Memref sig .tc .vmem S1x16x2880 .f32) (harg12 : arg12.IsWhole) (arg13 : Memref sig .tc .vmem S2880x16 .f32) (harg13 : arg13.IsWhole) (arg14 : Memref sig .tc .vmem S2880x16 .f32) (harg14 : arg14.IsWhole) (arg15 : Memref sig .tc .vmem S2880x2048 .f32) (harg15 : arg15.IsWhole) (arg16 : Memref sig .tc .vmem S2880x192 .bf16) (harg16 : arg16.IsWhole) (arg17 : Memref sig .tc .vmem S192x2048 .bf16) (harg17 : arg17.IsWhole) (arg18 : Memref sig .tc .vmem S192x2048 .f32) (harg18 : arg18.IsWhole) (arg19 : Memref sig .tc .vmem S192x2048 .bf16) (harg19 : arg19.IsWhole) (arg20 : Memref sig .tc .vmem S192x2048 .bf16) (harg20 : arg20.IsWhole)
    (x2 : Vec F S1x192x2048 .i8) (x3 : Vec F S1x192x2048 .bf16) (x4 : Vec F S1x16x2880 .f32) (x5 : Vec F S1x192x192 .f32) (x6 : Vec F S1x192x192 .f32) (x7 : Vec F S1x192x2048 .f32) (x8 : Vec F S1x192x2048 .f32) (x9 : Vec F S1x192x2048 .f32) (x10 : Vec F S1x192x2048 .bf16) (x11 : Vec F S1x192x2048 .i8) (x12 : Vec F S1x16x2880 .f32) (x13 : Vec F S2880x16 .f32) (x14 : Vec F S2880x16 .f32) (x15 : Vec F S2880x2048 .f32) (x16 : Vec F S2880x192 .bf16) (x17 : Vec F S192x2048 .bf16) (x18 : Vec F S192x2048 .f32) (x19 : Vec F S192x2048 .bf16) (x20 : Vec F S192x2048 .bf16)  (K : PUnit → sProp 𝕄) :
    iprop(Own c arg2 arg3 arg4 arg5 arg6 arg7 arg8 arg9 arg10 arg11 arg12 arg13 arg14 arg15 arg16 arg17 arg18 arg19 arg20 x2 x3 x4 x5 x6 x7 x8 x9 x10 x11 x12 x13 x14 x15 x16 x17 x18 x19 x20
        ∗ (Own c arg2 arg3 arg4 arg5 arg6 arg7 arg8 arg9 arg10 arg11 arg12 arg13 arg14 arg15 arg16 arg17 arg18 arg19 arg20 x2 x3 x4 x5 x6 x7 (n8 i x7 x8 x16 x20) (n9 i x9 x16 x20) (n10 i x10 (n18 i x2 x3 x5 x6 (n13 i x4 x13) x18)) (n11 i x11 x15 x16 x19) (n12 i x12 (n14 i x14 x15 x16 x19)) (n13 i x4 x13) (n14 i x14 x15 x16 x19) (n15 i x2 x3 (n13 i x4 x13) x15) (n16 i x5 x6 x16) (n17 i x2 x3 (n13 i x4 x13) x17) (n18 i x2 x3 x5 x6 (n13 i x4 x13) x18) (n19 i x19 (n18 i x2 x3 x5 x6 (n13 i x4 x13) x18)) (n20 i x20 (n18 i x2 x3 x5 x6 (n13 i x4 x13) x18)) -∗ K ⟨⟩))
      ⊢ wp frame (wpE (defs₀ (F := F)) Variants.none c none) Set.univ (cc0_dion_main (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  rw [body_eq]
  dsimp only
  by_cases h : k0_cond1 i = 1#1
  · simp only [n8, n9, n11, n14, dif_pos h, if_pos h]
    iintro ⟨H, Hk⟩
    iapply stepA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h x2 x3 x4 x5 x6 x7 x8 x9 x10 x11 x12 x13 x14 x15 x16 x17 x18 x19 x20 _ Set.univ K
    isplitl [H]
    · iexact H
    iintro H
    iapply tail_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 (G8 (i 1).val x7 x16 x20) (G9 (i 1).val x16 x20) x10 (G11 (i 1).val x15 x16 x19) x12 x13 (updRows (i 1).val (G14 (i 1).val x15 x16 x19) x14) x15 x16 x17 x18 x19 x20 K
    isplitl [H]
    · iexact H
    iexact Hk
  · simp only [n8, n9, n11, n14, dif_neg h, if_neg h]
    exact tail_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 x8 x9 x10 x11 x12 x13 x14 x15 x16 x17 x18 x19 x20 K

end Cert.KernelIdeal.Hand

end
-- ==== Proof.KernelIdeal.Track.lean ====
/-
  What the scratch buffers and the outputs hold, point by point, and that one run of the body keeps it.
-/
module

public import proofs.«01_k».proof.Proof.KernelIdeal.BodyWp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)

local notation "𝕄" => MT nD τ sig Unit (Elt F) ℕ (UR sig nD τ) ℕ

variable (m : (ℓ : Loc nD τ sig) → Buf (Elt F) ℓ)

/-- The grid point at a position. -/
def pt (n : ℕ) : Fin cfg0.N := if h : n < cfg0.N then ⟨n, h⟩ else ⟨0, by rw [show cfg0.N = 195 from N_0]; omega⟩

theorem pt_val (t : Fin cfg0.N) : pt t.val = t := by
  unfold pt; rw [dif_pos t.isLt]

theorem lt_N (t : Fin cfg0.N) : t.val < 195 := lt_of_lt_of_eq t.isLt (show cfg0.N = 195 from N_0)

theorem co0 (t : Fin cfg0.N) : (grid0.coords t 0).val = t.val / 15 := by
  have := lt_N t
  rw [show (grid0.coords t 0).val = t.val / 15 % 13 from Pipeline.Grid.coords_val t 0 (by decide) rfl]; omega

theorem co1 (t : Fin cfg0.N) : (grid0.coords t 1).val = t.val % 15 := by
  rw [show (grid0.coords t 1).val = t.val / 1 % 15 from Pipeline.Grid.coords_val t 1 (by decide) rfl]; omega

theorem hc1 (t : Fin cfg0.N) : k0_cond1 (grid0.coords t) = 1#1 ↔ 0 < t.val / 15 := by
  have := lt_N t; have e0 := co0 t; have e1 := co1 t
  simp only [k0_cond1, e0, e1]; word_cmp
theorem hc2 (t : Fin cfg0.N) : k0_cond2 (grid0.coords t) = 1#1 ↔ 0 < t.val / 15 ∧ t.val % 15 = 14 := by
  have := lt_N t; have e0 := co0 t; have e1 := co1 t
  simp only [k0_cond2, e0, e1]; word_cmp
theorem hc3 (t : Fin cfg0.N) : k0_cond3 (grid0.coords t) = 1#1 ↔ t.val / 15 < 12 := by
  have := lt_N t; have e0 := co0 t; have e1 := co1 t
  simp only [k0_cond3, e0, e1]; word_cmp
theorem hc4 (t : Fin cfg0.N) : cond4 (grid0.coords t) = 1#1 ↔ t.val % 15 = 0 := by
  have := lt_N t; have e0 := co0 t; have e1 := co1 t
  simp only [cond4, e0, e1]; word_cmp
theorem hc5 (t : Fin cfg0.N) : k0_cond5 (grid0.coords t) = 1#1 ↔ t.val % 15 = 14 := by
  have := lt_N t; have e0 := co0 t; have e1 := co1 t
  simp only [k0_cond5, e0, e1]; word_cmp

/-- The scales of matrix `i`, transposed. -/
def SC (c : Dev nD) (i : ℕ) : Vec F S2880x16 .f32 := G13 (iblk m c 2 (pt (15 * i)))

/-- The momentum of matrix `i`: its codes dequantised, plus the gradient. -/
def BUF (c : Dev nD) (i : ℕ) : Vec F S2880x2048 .f32 := fun y =>
  G15 ((y 0).val / 192) (iblk m c 0 (pt (15 * i + (y 0).val / 192))) (iblk m c 1 (pt (15 * i + (y 0).val / 192))) (SC m c i) y

/-- The left factor of matrix `i`. -/
def PB (c : Dev nD) (i : ℕ) : Vec F S2880x192 .bf16 := fun y =>
  G16 ((y 0).val / 192) (iblk m c 3 (pt (15 * i + (y 0).val / 192))) (iblk m c 4 (pt (15 * i + (y 0).val / 192))) y

/-- The right factor of matrix `i` accumulated over its first `n` tiles. -/
def ACC (c : Dev nD) (i : ℕ) : ℕ → Vec F S192x2048 .f32
  | 0 => G18z
  | n + 1 => G18 n (iblk m c 0 (pt (15 * i + n))) (iblk m c 1 (pt (15 * i + n))) (iblk m c 3 (pt (15 * i + n))) (iblk m c 4 (pt (15 * i + n))) (SC m c i) (ACC c i n)

/-- The right factor of matrix `i`, rounded. -/
def RB (c : Dev nD) (i : ℕ) : Vec F S192x2048 .bf16 := G19 (ACC m c i 15)
/-- The normalised right factor of matrix `i`, rounded. -/
def QB (c : Dev nD) (i : ℕ) : Vec F S192x2048 .bf16 := G20 (ACC m c i 15)

/-- The new scales of matrix `i`. -/
def SN (c : Dev nD) (i : ℕ) : Vec F S2880x16 .f32 := fun y =>
  G14 ((y 0).val / 192) (BUF m c i) (PB m c i) (RB m c i) y

/-- What the scratch buffers hold before position `n`. -/
structure Inv (c : Dev nD) (n : ℕ) (x13 : Vec F S2880x16 .f32) (x14 : Vec F S2880x16 .f32) (x15 : Vec F S2880x2048 .f32) (x16 : Vec F S2880x192 .bf16) (x18 : Vec F S192x2048 .f32) (x19 : Vec F S192x2048 .bf16) (x20 : Vec F S192x2048 .bf16) : Prop where
  bufLt : ∀ y, n / 15 < 12 → (y 0).val < 192 * (n % 15) → x15 y = BUF m c (n / 15) y
  bufGe : ∀ y, 0 < n / 15 → 192 * (n % 15) ≤ (y 0).val → x15 y = BUF m c (n / 15 - 1) y
  pbLt : ∀ y, n / 15 < 12 → (y 0).val < 192 * (n % 15) → x16 y = PB m c (n / 15) y
  pbGe : ∀ y, 0 < n / 15 → 192 * (n % 15) ≤ (y 0).val → x16 y = PB m c (n / 15 - 1) y
  sc : n / 15 < 12 → 0 < n % 15 → x13 = SC m c (n / 15)
  acc : n / 15 < 12 → 0 < n % 15 → x18 = ACC m c (n / 15) (n % 15)
  rb : 0 < n / 15 → x19 = RB m c (n / 15 - 1)
  qb : 0 < n / 15 → x20 = QB m c (n / 15 - 1)
  sn : ∀ y, 0 < n / 15 → (y 0).val < 192 * (n % 15) → x14 y = SN m c (n / 15 - 1) y

/-- At the start nothing is claimed. -/
theorem Inv.zero (c : Dev nD) (x13 : Vec F S2880x16 .f32) (x14 : Vec F S2880x16 .f32) (x15 : Vec F S2880x2048 .f32) (x16 : Vec F S2880x192 .bf16) (x18 : Vec F S192x2048 .f32) (x19 : Vec F S192x2048 .bf16) (x20 : Vec F S192x2048 .bf16) : Inv m c 0 x13 x14 x15 x16 x18 x19 x20 where
  bufLt := fun y _ h => absurd h (by omega)
  bufGe := fun y h => absurd h (by omega)
  pbLt := fun y _ h => absurd h (by omega)
  pbGe := fun y h => absurd h (by omega)
  sc := fun _ h => absurd h (by omega)
  acc := fun _ h => absurd h (by omega)
  rb := fun h => absurd h (by omega)
  qb := fun h => absurd h (by omega)
  sn := fun y h => absurd h (by omega)

/-! ## Only the rows of the tile are read -/

theorem at2_row {α : Type} [Zero α] {a b : ℕ} {X X' : (⟨2, ![a, b]⟩ : Shape).Idx → α} {t : ℕ} (h : ∀ y, 192 * t ≤ (y 0).val → X y = X' y) (r k : ℕ) :
    at2 X (192 * t + r) k = at2 X' (192 * t + r) k := by
  unfold at2
  split
  · exact h _ (Nat.le_add_right _ _)
  · rfl

theorem updV_congr {t : ℕ} {x16 z16 : Vec F S2880x192 .bf16} (x20 : Vec F S192x2048 .bf16) (h : ∀ y, 192 * t ≤ (y 0).val → x16 y = z16 y) :
    updV t x16 x20 = updV t z16 x20 := by
  funext r c
  unfold updV
  refine congrArg _ (Finset.sum_congr rfl fun k _ => ?_)
  rw [show at2 (α := EReal) x16 (192 * t + r) k.val = at2 (α := EReal) z16 (192 * t + r) k.val from at2_row h r k.val]

theorem momV_congr {t : ℕ} {x15 z15 : Vec F S2880x2048 .f32} {x16 z16 : Vec F S2880x192 .bf16} (x19 : Vec F S192x2048 .bf16)
    (h5 : ∀ y, 192 * t ≤ (y 0).val → x15 y = z15 y) (h6 : ∀ y, 192 * t ≤ (y 0).val → x16 y = z16 y) :
    momV t x15 x16 x19 = momV t z15 z16 x19 := by
  funext r c
  unfold momV
  rw [show at2 (α := EReal) x15 (192 * t + r) c = at2 (α := EReal) z15 (192 * t + r) c from at2_row h5 r c]
  refine congrArg _ (congrArg _ (Finset.sum_congr rfl fun k _ => ?_))
  rw [show at2 (α := EReal) x16 (192 * t + r) k.val = at2 (α := EReal) z16 (192 * t + r) k.val from at2_row h6 r k.val]

theorem G9_congr {t : ℕ} {x16 z16 : Vec F S2880x192 .bf16} (x20 : Vec F S192x2048 .bf16) (h : ∀ y, 192 * t ≤ (y 0).val → x16 y = z16 y) :
    G9 t x16 x20 = G9 t z16 x20 := by
  unfold G9; rw [updV_congr x20 h]
theorem G8_congr {t : ℕ} (x7 : Vec F S1x192x2048 .f32) {x16 z16 : Vec F S2880x192 .bf16} (x20 : Vec F S192x2048 .bf16) (h : ∀ y, 192 * t ≤ (y 0).val → x16 y = z16 y) :
    G8 t x7 x16 x20 = G8 t x7 z16 x20 := by
  unfold G8; rw [updV_congr x20 h]
theorem G11_congr {t : ℕ} {x15 z15 : Vec F S2880x2048 .f32} {x16 z16 : Vec F S2880x192 .bf16} (x19 : Vec F S192x2048 .bf16)
    (h5 : ∀ y, 192 * t ≤ (y 0).val → x15 y = z15 y) (h6 : ∀ y, 192 * t ≤ (y 0).val → x16 y = z16 y) :
    G11 t x15 x16 x19 = G11 t z15 z16 x19 := by
  unfold G11 sclV; rw [momV_congr x19 h5 h6]
theorem G14_congr {t : ℕ} {x15 z15 : Vec F S2880x2048 .f32} {x16 z16 : Vec F S2880x192 .bf16} (x19 : Vec F S192x2048 .bf16)
    (h5 : ∀ y, 192 * t ≤ (y 0).val → x15 y = z15 y) (h6 : ∀ y, 192 * t ≤ (y 0).val → x16 y = z16 y) :
    G14 t x15 x16 x19 = G14 t z15 z16 x19 := by
  unfold G14 sclV; rw [momV_congr x19 h5 h6]

/-! ## One point -/

variable {m} {c : Dev nD} {t : Fin cfg0.N} {x13 : Vec F S2880x16 .f32} {x14 : Vec F S2880x16 .f32} {x15 : Vec F S2880x2048 .f32} {x16 : Vec F S2880x192 .bf16} {x18 : Vec F S192x2048 .f32} {x19 : Vec F S192x2048 .bf16} {x20 : Vec F S192x2048 .bf16}

/-- The scales a tile is dequantised with are its matrix's. -/
theorem n13_eq (h : Inv m c t.val x13 x14 x15 x16 x18 x19 x20) (h12 : t.val / 15 < 12) : n13 (grid0.coords t) (iblk m c 2 t) x13 = SC m c (t.val / 15) := by
  unfold n13
  rw [if_pos ((hc3 t).mpr h12)]
  split
  · next h4 =>
    have h0 := (hc4 t).mp h4
    unfold SC
    rw [show 15 * (t.val / 15) = t.val by omega, pt_val]
  · next h4 =>
    exact h.sc h12 (Nat.pos_of_ne_zero fun e => h4 ((hc4 t).mpr e))

/-- The product after the tile. -/
theorem n18_eq (h : Inv m c t.val x13 x14 x15 x16 x18 x19 x20) (h12 : t.val / 15 < 12) : n18 (grid0.coords t) (iblk m c 0 t) (iblk m c 1 t) (iblk m c 3 t) (iblk m c 4 t) (n13 (grid0.coords t) (iblk m c 2 t) x13) x18 = ACC m c (t.val / 15) (t.val % 15 + 1) := by
  rw [n13_eq h h12]
  unfold n18
  rw [if_pos ((hc3 t).mpr h12), co1, ACC, show 15 * (t.val / 15) + t.val % 15 = t.val by omega, pt_val]
  have e : z18 (grid0.coords t) x18 = ACC m c (t.val / 15) (t.val % 15) := by
    unfold z18
    split
    · next h4 => rw [(hc4 t).mp h4]; rfl
    · next h4 => exact h.acc h12 (Nat.pos_of_ne_zero fun e => h4 ((hc4 t).mpr e))
  rw [e]

theorem n15_lt (h : Inv m c t.val x13 x14 x15 x16 x18 x19 x20) (h12 : t.val / 15 < 12) (y) (hy : (y 0).val < 192 * (t.val % 15) + 192) :
    n15 (grid0.coords t) (iblk m c 0 t) (iblk m c 1 t) (n13 (grid0.coords t) (iblk m c 2 t) x13) x15 y = BUF m c (t.val / 15) y := by
  rw [n13_eq h h12]
  unfold n15 updRows
  rw [if_pos ((hc3 t).mpr h12), co1]
  split
  · next hr =>
    unfold BUF
    rw [show (y 0).val / 192 = t.val % 15 by omega, show 15 * (t.val / 15) + t.val % 15 = t.val by omega, pt_val]
  · next hr => exact h.bufLt y h12 (by omega)

theorem n16_lt (h : Inv m c t.val x13 x14 x15 x16 x18 x19 x20) (h12 : t.val / 15 < 12) (y) (hy : (y 0).val < 192 * (t.val % 15) + 192) :
    n16 (grid0.coords t) (iblk m c 3 t) (iblk m c 4 t) x16 y = PB m c (t.val / 15) y := by
  unfold n16 updRows
  rw [if_pos ((hc3 t).mpr h12), co1]
  split
  · next hr =>
    unfold PB
    rw [show (y 0).val / 192 = t.val % 15 by omega, show 15 * (t.val / 15) + t.val % 15 = t.val by omega, pt_val]
  · next hr => exact h.pbLt y h12 (by omega)

theorem n15_ge (h : Inv m c t.val x13 x14 x15 x16 x18 x19 x20) (h0 : 0 < t.val / 15) (y) (hy : 192 * (t.val % 15) + 192 ≤ (y 0).val) :
    n15 (grid0.coords t) (iblk m c 0 t) (iblk m c 1 t) (n13 (grid0.coords t) (iblk m c 2 t) x13) x15 y = BUF m c (t.val / 15 - 1) y := by
  unfold n15 updRows
  split
  · rw [co1]; exact (if_neg (by omega)).trans (h.bufGe y h0 (by omega))
  · exact h.bufGe y h0 (by omega)

theorem n16_ge (h : Inv m c t.val x13 x14 x15 x16 x18 x19 x20) (h0 : 0 < t.val / 15) (y) (hy : 192 * (t.val % 15) + 192 ≤ (y 0).val) :
    n16 (grid0.coords t) (iblk m c 3 t) (iblk m c 4 t) x16 y = PB m c (t.val / 15 - 1) y := by
  unfold n16 updRows
  split
  · rw [co1]; exact (if_neg (by omega)).trans (h.pbGe y h0 (by omega))
  · exact h.pbGe y h0 (by omega)

theorem n14_lt (h : Inv m c t.val x13 x14 x15 x16 x18 x19 x20) (h0 : 0 < t.val / 15) (y) (hy : (y 0).val < 192 * (t.val % 15) + 192) :
    n14 (grid0.coords t) x14 x15 x16 x19 y = SN m c (t.val / 15 - 1) y := by
  unfold n14
  rw [if_pos ((hc1 t).mpr h0), h.rb h0, co1, G14_congr _ (fun y hy => h.bufGe y h0 hy) (fun y hy => h.pbGe y h0 hy)]
  unfold updRows
  split
  · next hr => unfold SN; rw [show (y 0).val / 192 = t.val % 15 by omega]
  · next hr => exact h.sn y h0 (by omega)

/-- What the body leaves in the scratch is what the next point finds. -/
theorem Inv.step (h : Inv m c t.val x13 x14 x15 x16 x18 x19 x20) (hn : t.val + 1 < 195) : Inv m c (t.val + 1) (n13 (grid0.coords t) (iblk m c 2 t) x13) (n14 (grid0.coords t) x14 x15 x16 x19) (n15 (grid0.coords t) (iblk m c 0 t) (iblk m c 1 t) (n13 (grid0.coords t) (iblk m c 2 t) x13) x15) (n16 (grid0.coords t) (iblk m c 3 t) (iblk m c 4 t) x16) (n18 (grid0.coords t) (iblk m c 0 t) (iblk m c 1 t) (iblk m c 3 t) (iblk m c 4 t) (n13 (grid0.coords t) (iblk m c 2 t) x13) x18) (n19 (grid0.coords t) x19 (n18 (grid0.coords t) (iblk m c 0 t) (iblk m c 1 t) (iblk m c 3 t) (iblk m c 4 t) (n13 (grid0.coords t) (iblk m c 2 t) x13) x18)) (n20 (grid0.coords t) x20 (n18 (grid0.coords t) (iblk m c 0 t) (iblk m c 1 t) (iblk m c 3 t) (iblk m c 4 t) (n13 (grid0.coords t) (iblk m c 2 t) x13) x18)) := by
  have hN := lt_N t
  rcases Nat.lt_or_ge (t.val % 15) 14 with hm | hm
  · have e1 : (t.val + 1) / 15 = t.val / 15 := by omega
    have e2 : (t.val + 1) % 15 = t.val % 15 + 1 := by omega
    have h5 : ¬ k0_cond5 (grid0.coords t) = 1#1 := fun e => by have := (hc5 t).mp e; omega
    have k19 : ∀ z, n19 (grid0.coords t) x19 z = x19 := fun z => by unfold n19; rw [if_neg h5]; split <;> rfl
    have k20 : ∀ z, n20 (grid0.coords t) x20 z = x20 := fun z => by unfold n20; rw [if_neg h5]; split <;> rfl
    refine ⟨?_, ?_, ?_, ?_, ?_, ?_, ?_, ?_, ?_⟩ <;> rw [e1] <;> (try rw [e2])
    · exact fun y h12 hy => n15_lt h h12 y (by omega)
    · exact fun y h0 hy => n15_ge h h0 y (by omega)
    · exact fun y h12 hy => n16_lt h h12 y (by omega)
    · exact fun y h0 hy => n16_ge h h0 y (by omega)
    · exact fun h12 _ => n13_eq h h12
    · exact fun h12 _ => n18_eq h h12
    · exact fun h0 => (k19 _).trans (h.rb h0)
    · exact fun h0 => (k20 _).trans (h.qb h0)
    · exact fun y h0 hy => n14_lt h h0 y (by omega)
  · have e1 : (t.val + 1) / 15 = t.val / 15 + 1 := by omega
    have e2 : (t.val + 1) % 15 = 0 := by omega
    have e3 : t.val % 15 = 14 := by omega
    have h5 : k0_cond5 (grid0.coords t) = 1#1 := (hc5 t).mpr e3
    have hlt : ∀ (y : S2880x2048.Idx), (y 0).val < 2880 := fun y => (y 0).isLt
    have hlt' : ∀ (y : S2880x192.Idx), (y 0).val < 2880 := fun y => (y 0).isLt
    have h12 : t.val / 15 < 12 := by omega
    refine ⟨?_, ?_, ?_, ?_, ?_, ?_, ?_, ?_, ?_⟩ <;> rw [e1] <;> (try rw [e2]) <;> (try rw [Nat.add_sub_cancel])
    · exact fun y _ hy => absurd hy (by omega)
    · exact fun y _ _ => n15_lt h h12 y (by have := hlt y; omega)
    · exact fun y _ hy => absurd hy (by omega)
    · exact fun y _ _ => n16_lt h h12 y (by have := hlt' y; omega)
    · exact fun _ hy => absurd hy (by omega)
    · exact fun _ hy => absurd hy (by omega)
    · intro _
      rw [n18_eq h h12, e3]
      unfold n19 RB
      rw [if_pos ((hc3 t).mpr h12), if_pos h5]
    · intro _
      rw [n18_eq h h12, e3]
      unfold n20 QB
      rw [if_pos ((hc3 t).mpr h12), if_pos h5]
    · exact fun y _ hy => absurd hy (by omega)

end Cert.KernelIdeal.Hand

end
-- ==== Proof.KernelIdeal.HandFrame.lean ====
/-
  The tracked run of the main kernel over exact arithmetic: what each output block holds when it is written back.
-/
module

public import proofs.«01_k».proof.Proof.KernelIdeal.Track
public import Idealize.ShloMosaic.Lib.Claim
public import Idealize.ShloMosaic.Lib.Pipeline.DatRel
public import Idealize.ShloMosaic.Lib.Pipeline.ArrRel

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)

local notation "𝕄" => MT nD τ sig Unit (Elt F) ℕ (UR sig nD τ) ℕ

variable (m : (ℓ : Loc nD τ sig) → Buf (Elt F) ℓ) (ρ : Dev nD → PrngReg)

/-- Scratch buffer 0, whole. -/
abbrev scM0_0 : Memref sig .tc .vmem S2880x16 .f32 := Memref.whole cc0_scratch0
/-- Scratch buffer 1, whole. -/
abbrev scM0_1 : Memref sig .tc .vmem S2880x16 .f32 := Memref.whole cc0_scratch1
/-- Scratch buffer 2, whole. -/
abbrev scM0_2 : Memref sig .tc .vmem S2880x2048 .f32 := Memref.whole cc0_scratch2
/-- Scratch buffer 3, whole. -/
abbrev scM0_3 : Memref sig .tc .vmem S2880x192 .bf16 := Memref.whole cc0_scratch3
/-- Scratch buffer 4, whole. -/
abbrev scM0_4 : Memref sig .tc .vmem S192x2048 .bf16 := Memref.whole cc0_scratch4
/-- Scratch buffer 5, whole. -/
abbrev scM0_5 : Memref sig .tc .vmem S192x2048 .f32 := Memref.whole cc0_scratch5
/-- Scratch buffer 6, whole. -/
abbrev scM0_6 : Memref sig .tc .vmem S192x2048 .bf16 := Memref.whole cc0_scratch6
/-- Scratch buffer 7, whole. -/
abbrev scM0_7 : Memref sig .tc .vmem S192x2048 .bf16 := Memref.whole cc0_scratch7
/-- The current staging buffer of window 0. -/
abbrev ms0_0 (t : Fin cfg0.N) : Memref sig .tc .vmem S1x192x2048 .i8 := win0_0.stage (cfg0.slots t 0)
/-- The current staging buffer of window 1. -/
abbrev ms0_1 (t : Fin cfg0.N) : Memref sig .tc .vmem S1x192x2048 .bf16 := win0_1.stage (cfg0.slots t 1)
/-- The current staging buffer of window 2. -/
abbrev ms0_2 (t : Fin cfg0.N) : Memref sig .tc .vmem S1x16x2880 .f32 := win0_2.stage (cfg0.slots t 2)
/-- The current staging buffer of window 3. -/
abbrev ms0_3 (t : Fin cfg0.N) : Memref sig .tc .vmem S1x192x192 .f32 := win0_3.stage (cfg0.slots t 3)
/-- The current staging buffer of window 4. -/
abbrev ms0_4 (t : Fin cfg0.N) : Memref sig .tc .vmem S1x192x192 .f32 := win0_4.stage (cfg0.slots t 4)
/-- The current staging buffer of window 5. -/
abbrev ms0_5 (t : Fin cfg0.N) : Memref sig .tc .vmem S1x192x2048 .f32 := win0_5.stage (cfg0.slots t 5)
/-- The current staging buffer of window 6. -/
abbrev ms0_6 (t : Fin cfg0.N) : Memref sig .tc .vmem S1x192x2048 .f32 := win0_6.stage (cfg0.slots t 6)
/-- The current staging buffer of window 7. -/
abbrev ms0_7 (t : Fin cfg0.N) : Memref sig .tc .vmem S1x192x2048 .f32 := win0_7.stage (cfg0.slots t 7)
/-- The current staging buffer of window 8. -/
abbrev ms0_8 (t : Fin cfg0.N) : Memref sig .tc .vmem S1x192x2048 .bf16 := win0_8.stage (cfg0.slots t 8)
/-- The current staging buffer of window 9. -/
abbrev ms0_9 (t : Fin cfg0.N) : Memref sig .tc .vmem S1x192x2048 .i8 := win0_9.stage (cfg0.slots t 9)
/-- The current staging buffer of window 10. -/
abbrev ms0_10 (t : Fin cfg0.N) : Memref sig .tc .vmem S1x16x2880 .f32 := win0_10.stage (cfg0.slots t 10)

/-- The launch's invariant, conjunct by conjunct. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := by
  unfold Pipeline.ΦA; rw [scopedRest0_eq]; simp only [scM0_0, scM0_1, scM0_2, scM0_3, scM0_4, scM0_5, scM0_6, scM0_7, owns_whole]; try rfl

/-- The output windows are held to a predicate or forgotten, the inputs are exact. -/
def fgt0 : Fin 11 → Bool := fun w => decide (6 ≤ w.val)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- What window 6 holds after the body at `t`, where the body has written it. -/
def OUT6 (c : Dev nD) (t : Fin cfg0.N) : Vec F S1x192x2048 .f32 := G8 (t.val % 15) (iblk m c 5 t) (PB m c (t.val / 15 - 1)) (QB m c (t.val / 15 - 1))
/-- When it holds that. -/
def R6 (c : Dev nD) (t : Fin cfg0.N) (X : Vec F S1x192x2048 .f32) : Prop := 0 < t.val / 15 → X = OUT6 m c t

/-- What window 7 holds after the body at `t`, where the body has written it. -/
def OUT7 (c : Dev nD) (t : Fin cfg0.N) : Vec F S1x192x2048 .f32 := G9 (t.val % 15) (PB m c (t.val / 15 - 1)) (QB m c (t.val / 15 - 1))
/-- When it holds that. -/
def R7 (c : Dev nD) (t : Fin cfg0.N) (X : Vec F S1x192x2048 .f32) : Prop := 0 < t.val / 15 → X = OUT7 m c t

/-- What window 8 holds after the body at `t`, where the body has written it. -/
def OUT8 (c : Dev nD) (t : Fin cfg0.N) : Vec F S1x192x2048 .bf16 := G10 (ACC m c (min (t.val / 15) 11) 15)
/-- When it holds that. -/
def R8 (c : Dev nD) (t : Fin cfg0.N) (X : Vec F S1x192x2048 .bf16) : Prop := t.val % 15 = 14 ∧ t.val < 180 ∨ 179 ≤ t.val → X = OUT8 m c t

/-- What window 9 holds after the body at `t`, where the body has written it. -/
def OUT9 (c : Dev nD) (t : Fin cfg0.N) : Vec F S1x192x2048 .i8 := G11 (t.val % 15) (BUF m c (t.val / 15 - 1)) (PB m c (t.val / 15 - 1)) (RB m c (t.val / 15 - 1))
/-- When it holds that. -/
def R9 (c : Dev nD) (t : Fin cfg0.N) (X : Vec F S1x192x2048 .i8) : Prop := 0 < t.val / 15 → X = OUT9 m c t

/-- What window 10 holds after the body at `t`, where the body has written it. -/
def OUT10 (c : Dev nD) (t : Fin cfg0.N) : Vec F S1x16x2880 .f32 := G12 (SN m c (t.val / 15 - 1))
/-- When it holds that. -/
def R10 (c : Dev nD) (t : Fin cfg0.N) (X : Vec F S1x16x2880 .f32) : Prop := 0 < t.val / 15 ∧ t.val % 15 = 14 → X = OUT10 m c t

/-- The predicate each output window is held to. -/
def Rl0 (c : Dev nD) : (w : Fin cfg0.W) → Fin cfg0.N → ((cfg0.win w).block.Idx → Elt F (cfg0.win w).elt) → Prop
  | ⟨6, _⟩, t, X => R6 m c t X
  | ⟨7, _⟩, t, X => R7 m c t X
  | ⟨8, _⟩, t, X => R8 m c t X
  | ⟨9, _⟩, t, X => R9 m c t X
  | ⟨10, _⟩, t, X => R10 m c t X
  | _, _, _ => True

/-- The invariant before position `n`: the scratch at contents that meet `Inv`. -/
def PhiS (c : Dev nD) (n : ℕ) : sProp 𝕄 :=
  iprop(∃ x13 x14 x15 x16 x17 x18 x19 x20, ⌜n < 195 → Inv m c n x13 x14 x15 x16 x18 x19 x20⌝ ∗ owns (c : Thread nD τ) scM0_0 fullShare x13 ∗ owns (c : Thread nD τ) scM0_1 fullShare x14 ∗ owns (c : Thread nD τ) scM0_2 fullShare x15 ∗ owns (c : Thread nD τ) scM0_3 fullShare x16 ∗ owns (c : Thread nD τ) scM0_4 fullShare x17 ∗ owns (c : Thread nD τ) scM0_5 fullShare x18 ∗ owns (c : Thread nD τ) scM0_6 fullShare x19 ∗ owns (c : Thread nD τ) scM0_7 fullShare x20 ∗ (∃ r, prngReg c r))

/-- The proof data: inputs leave their blocks in place, the scratch is tracked. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => Pipeline.Dat.unnamed (cfg := cfg0) 6 t
    | ⟨7, _⟩ => Pipeline.Dat.unnamed (cfg := cfg0) 7 t
    | ⟨8, _⟩ => Pipeline.Dat.unnamed (cfg := cfg0) 8 t
    | ⟨9, _⟩ => Pipeline.Dat.unnamed (cfg := cfg0) 9 t
    | ⟨10, _⟩ => Pipeline.Dat.unnamed (cfg := cfg0) 10 t
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The relational proof data. -/
abbrev rd (c : Dev nD) : RDat τ (Elt F) Unit ℕ (UR sig nD τ) ℕ cfg0 c := (dats m 0 c).toRRel fgt0 (Rl0 m c)

theorem flush8 : ∀ t : Fin grid0.N, win0_8.flush t = decide (t.val % 15 = 14 ∧ t.val < 179 ∨ t.val = 194) := by decide

/-- Past the last matrix the fourth output still holds what it held. -/
theorem found8 (c : Dev nD) (t : Fin cfg0.N) (ht : 180 ≤ t.val) (Y) (h : (rd m c).Finds 8 t Y) : Y = OUT8 m c t := by
  have hN := lt_N t
  have hL := ((rd m c).finds_of_pos (w := 8) (t := t) rfl (by omega) Y).mp h
  have hf : (cfg0.win 8).flush ⟨t.val - 1, Nat.lt_of_le_of_lt (Nat.sub_le _ _) t.isLt⟩ = false :=
    (flush8 ⟨t.val - 1, Nat.lt_of_le_of_lt (Nat.sub_le _ _) t.isLt⟩).trans (decide_eq_false (by dsimp only; omega))
  rw [hf] at hL
  have hR : R8 m c ⟨t.val - 1, Nat.lt_of_le_of_lt (Nat.sub_le _ _) t.isLt⟩ Y := (dats m 0 c).toRRel_leaves (w := 8) rfl (hL.resolve_left Bool.false_ne_true)
  rw [hR (Or.inr (by dsimp only; omega))]
  unfold OUT8
  rw [show min ((t.val - 1) / 15) 11 = 11 by omega, show min (t.val / 15) 11 = 11 by omega]

section
variable {m} {c : Dev nD} {t : Fin cfg0.N} {x13 : Vec F S2880x16 .f32} {x14 : Vec F S2880x16 .f32} {x15 : Vec F S2880x2048 .f32} {x16 : Vec F S2880x192 .bf16} {x18 : Vec F S192x2048 .f32} {x19 : Vec F S192x2048 .bf16} {x20 : Vec F S192x2048 .bf16}

theorem out6 (h : Inv m c t.val x13 x14 x15 x16 x18 x19 x20) (z) : R6 m c t (n8 (grid0.coords t) (iblk m c 5 t) z x16 x20) := fun h0 => by
  unfold n8 OUT6
  rw [if_pos ((hc1 t).mpr h0), co1, h.qb h0, G8_congr _ _ (fun y hy => h.pbGe y h0 hy)]

theorem out7 (h : Inv m c t.val x13 x14 x15 x16 x18 x19 x20) (z) : R7 m c t (n9 (grid0.coords t) z x16 x20) := fun h0 => by
  unfold n9 OUT7
  rw [if_pos ((hc1 t).mpr h0), co1, h.qb h0, G9_congr _ (fun y hy => h.pbGe y h0 hy)]

theorem out9 (h : Inv m c t.val x13 x14 x15 x16 x18 x19 x20) (z) : R9 m c t (n11 (grid0.coords t) z x15 x16 x19) := fun h0 => by
  unfold n11 OUT9
  rw [if_pos ((hc1 t).mpr h0), co1, h.rb h0, G11_congr _ (fun y hy => h.bufGe y h0 hy) (fun y hy => h.pbGe y h0 hy)]

theorem out8 (h : Inv m c t.val x13 x14 x15 x16 x18 x19 x20) (z) (hz : (rd m c).Finds 8 t z) : R8 m c t (n10 (grid0.coords t) z (n18 (grid0.coords t) (iblk m c 0 t) (iblk m c 1 t) (iblk m c 3 t) (iblk m c 4 t) (n13 (grid0.coords t) (iblk m c 2 t) x13) x18)) := fun h0 => by
  have hN := lt_N t
  by_cases h12 : t.val / 15 < 12
  · rw [n18_eq h h12]
    have e : t.val % 15 = 14 := by omega
    unfold n10 OUT8
    rw [if_pos ((hc3 t).mpr h12), if_pos ((hc5 t).mpr e), e, show min (t.val / 15) 11 = t.val / 15 by omega]
  · unfold n10
    rw [if_neg (fun e => h12 ((hc3 t).mp e))]
    exact found8 m c t (by omega) z hz

theorem out10 (h : Inv m c t.val x13 x14 x15 x16 x18 x19 x20) (z) : R10 m c t (n12 (grid0.coords t) z (n14 (grid0.coords t) x14 x15 x16 x19)) := fun h0 => by
  unfold n12 OUT10
  rw [if_pos ((hc2 t).mpr h0)]
  refine congrArg G12 (funext fun y => ?_)
  have hy : (y 0).val < 2880 := (y 0).isLt
  exact n14_lt h h0.1 y (by omega)

end

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ Y, ⌜(rd m c).Finds 6 t Y⌝ ∗ owns (c : Thread nD τ) (ms0_6 t) fullShare Y)
    ∗ (∃ Y, ⌜(rd m c).Finds 7 t Y⌝ ∗ owns (c : Thread nD τ) (ms0_7 t) fullShare Y)
    ∗ (∃ Y, ⌜(rd m c).Finds 8 t Y⌝ ∗ owns (c : Thread nD τ) (ms0_8 t) fullShare Y)
    ∗ (∃ Y, ⌜(rd m c).Finds 9 t Y⌝ ∗ owns (c : Thread nD τ) (ms0_9 t) fullShare Y)
    ∗ (∃ Y, ⌜(rd m c).Finds 10 t Y⌝ ∗ owns (c : Thread nD τ) (ms0_10 t) fullShare Y))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ X, ⌜R6 m c t X⌝ ∗ owns (c : Thread nD τ) (ms0_6 t) fullShare X)
    ∗ (∃ X, ⌜R7 m c t X⌝ ∗ owns (c : Thread nD τ) (ms0_7 t) fullShare X)
    ∗ (∃ X, ⌜R8 m c t X⌝ ∗ owns (c : Thread nD τ) (ms0_8 t) fullShare X)
    ∗ (∃ X, ⌜R9 m c t X⌝ ∗ owns (c : Thread nD τ) (ms0_9 t) fullShare X)
    ∗ (∃ X, ⌜R10 m c t X⌝ ∗ owns (c : Thread nD τ) (ms0_10 t) fullShare X))

set_option maxHeartbeats 2000000 in
/-- The body at a point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5,
    show (dats m 0 c).Φ t.succ = PhiS m c (t.val + 1) from rfl, show (dats m 0 c).Φ t.castSucc = PhiS m c t.val from rfl]
  unfold PhiS
  iintro ⟨⟨%x13, %x14, %x15, %x16, %x17, %x18, %x19, %x20, %hI, S0, S1, S2, S3, S4, S5, S6, S7, Hg⟩, Ho, ⟨%d0, H0⟩, ⟨%d1, H1⟩, ⟨%d2, H2⟩, ⟨%d3, H3⟩, ⟨%d4, H4⟩, ⟨%d5, H5⟩, ⟨%y6, %hY6, H6⟩, ⟨%y7, %hY7, H7⟩, ⟨%y8, %hY8, H8⟩, ⟨%y9, %hY9, H9⟩, ⟨%y10, %hY10, H10⟩⟩
  have hI := hI (lt_N t)
  iapply body_wp c (grid0.coords t) _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) y6 y7 y8 y9 y10 x13 x14 x15 x16 x17 x18 x19 x20 _
  unfold Own
  isplitl [H0 H1 H2 H3 H4 H5 H6 H7 H8 H9 H10 S0 S1 S2 S3 S4 S5 S6 S7]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  iintro ⟨H0, H1, H2, H3, H4, H5, H6, H7, H8, H9, H10, S0, S1, S2, S3, S4, S5, S6, S7⟩
  isplitl [S0 S1 S2 S3 S4 S5 S6 S7 Hg]
  · iexists _; iexists _; iexists _; iexists _; iexists _; iexists _; iexists _; iexists _;
    isplitr; · ipureintro; exact fun hn => hI.step hn
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; isplitr; · ipureintro; exact out6 hI y6
    iexact H6
  isplitl [H7]
  · iexists _; isplitr; · ipureintro; exact out7 hI y7
    iexact H7
  isplitl [H8]
  · iexists _; isplitr; · ipureintro; exact out8 hI y8 hY8
    iexact H8
  isplitl [H9]
  · iexists _; isplitr; · ipureintro; exact out9 hI y9
    iexact H9
  iexists _; isplitr; · ipureintro; exact out10 hI y10
  iexact H10

/-- The library's body obligation. -/
theorem body_obligation (c : Dev nD) : Pipeline.BodyObligationRel (dats m 0 c) (defs₀ (F := F)) Variants.none () Set.univ fgt0 (Rl0 m c) := fun t => by
  rw [bigSep_W0, bigSep_W0, defs₀_row]
  exact triple_restated (sound_body m c t) rfl .rfl fun _ => .rfl

/-- The launch hands over the invariant before the first point. -/
theorem hin (c : Dev nD) : Pipeline.ΦA spec0 c ⊢ PhiS m c 0 := by
  rw [PhiA0_eq]; unfold PhiS
  iintro ⟨⟨⟨%x13, S0⟩, ⟨%x14, S1⟩, ⟨%x15, S2⟩, ⟨%x16, S3⟩, ⟨%x17, S4⟩, ⟨%x18, S5⟩, ⟨%x19, S6⟩, ⟨%x20, S7⟩⟩, Hg⟩
  iexists x13; iexists x14; iexists x15; iexists x16; iexists x17; iexists x18; iexists x19; iexists x20
  isplitr; · ipureintro; exact fun _ => Inv.zero m c x13 x14 x15 x16 x18 x19 x20
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  iexact Hg

/-- The invariant after the last point gives the scratch back. -/
theorem hout (c : Dev nD) (n : ℕ) : PhiS m c n ⊢ Pipeline.ΦA spec0 c := by
  rw [PhiA0_eq]; unfold PhiS
  iintro ⟨%x13, %x14, %x15, %x16, %x17, %x18, %x19, %x20, -, S0, S1, S2, S3, S4, S5, S6, S7, Hg⟩
  isplitl [S0 S1 S2 S3 S4 S5 S6 S7]
  · isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    isplitl [S6]; · iexists _; iexact S6
    iexists _; iexact S7
  iexact Hg

set_option backward.isDefEq.respectTransparency.types false in
/-- The launch: every execution terminates with every counter at zero, the arrays at what the library computes. -/
theorem run_main_quiescent : θ_run defs (onTc (τ := τ) (main (F := F))) (s₀ m ρ)
    (fun r => Pipeline.RDat.FramePost (cfgs 0) (rd m) (V m) r ∧ r.2.sem = fun _ => 0) :=
  Pipeline.RDat.θ_run_frame_track (Q' := _) cfgs (0 : Fin 1) launch0 defs₀ Variants.none (rd m) m ρ main
    (hbody := fun c => (body_obligation m c).toRRel) (hshare := fun c => (dats m 0 c).share_full fun _ => rfl)
    (howed := fun _ _ => rfl) (V := V m) (hmain := hmain m Variants.none) (hA := A_eq m) (hin := hin m) (hout := fun c => hout m c _) (hQ' := fun _ h => h)

/-- The frame: the kernel runs, its arguments end unchanged and every semaphore counter reads zero. -/
theorem args_unchanged {r : PUnit × MemSt nD τ sig (Elt F)} (hr : Pipeline.RDat.FramePost (cfgs 0) (rd m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
    ⟨(hr.arr_in c 0 rfl).trans ((A_eq m c 0).trans (V_main_arg0 m c)),
      (hr.arr_in c 1 rfl).trans ((A_eq m c 1).trans (V_main_arg1 m c)),
      ((hr c).2 main_arg2 (Pipeline.mem_restRefs_of main_arg2 (by decide) (by decide))).trans (V_main_arg2 m c),
      (hr.arr_in c 3 rfl).trans ((A_eq m c 3).trans (V_main_arg3 m c)),
      (hr.arr_in c 4 rfl).trans ((A_eq m c 4).trans (V_main_arg4 m c)),
      (hr.arr_in c 5 rfl).trans ((A_eq m c 5).trans (V_main_arg5 m c))⟩

end Cert.KernelIdeal.Hand

end
-- ==== Proof.Main.Formulas.lean ====
/-
  The main call as formulas: every result entry as a function of the argument entries, at natural-number coordinates.
-/
module

public import proofs.«01_k».proof.Proof.KernelIdeal.Spec

@[expose] public section

noncomputable section

namespace Cert.MainMath

open Idealize.ShloMosaic
open Cert.KernelIdeal.Hand (deq scl amax quant at2 at3)

/-- An entry of a stack of matrices at natural-number coordinates, 0 outside. -/
def at3b {a b c : ℕ} {α : Type} [Zero α] (X : (⟨3, ![a, b, c]⟩ : Shape).Idx → α) (i j k : ℕ) : α :=
  if h : i < a ∧ j < b ∧ k < c then X (ix3 ⟨i, h.1⟩ ⟨j, h.2.1⟩ ⟨k, h.2.2⟩) else 0

theorem at3b_ix3 {a b c : ℕ} {α : Type} [Zero α] (X : (⟨3, ![a, b, c]⟩ : Shape).Idx → α) (i : Fin a) (j : Fin b) (k : Fin c) :
    at3b X i.val j.val k.val = X (ix3 i j k) := by
  unfold at3b
  rw [dif_pos ⟨i.isLt, j.isLt, k.isLt⟩]

theorem at3b_of_lt {a b c : ℕ} {α : Type} [Zero α] (X : (⟨3, ![a, b, c]⟩ : Shape).Idx → α) {i j k : ℕ} (hi : i < a) (hj : j < b) (hk : k < c) :
    at3b X i j k = X (ix3 ⟨i, hi⟩ ⟨j, hj⟩ ⟨k, hk⟩) := by
  unfold at3b
  rw [dif_pos ⟨hi, hj, hk⟩]

/-- The momentum of one matrix: codes times scales, plus the gradient. -/
def MV (a0 : ℕ → ℕ → BitVec 8) (a1 a2 : ℕ → ℕ → EReal) (r c : ℕ) : EReal := deq (a0 r c) (a2 r (c / 128)) (a1 r c)

/-- The left factor of one matrix. -/
def PV (a3 a4 : ℕ → ℕ → EReal) (r c : ℕ) : EReal := ∑ k : Fin 192, a3 r k.val * a4 c k.val

/-- The right factor: the left factor transposed times the momentum. -/
def RV (P M : ℕ → ℕ → EReal) (k c : ℕ) : EReal := ∑ x : Fin 2880, P x.val k * M x.val c

/-- The right factor with rows of length one. -/
def QV (R : ℕ → ℕ → EReal) (k c : ℕ) : EReal := Ideal.div (R k c) (Ideal.sqrt (∑ x : Fin 2048, R k x.val * R k x.val))

/-- The update: gain times the product of the factors. -/
def UV (P Q : ℕ → ℕ → EReal) (r c : ℕ) : EReal := Ideal.ofBits FTy.f32 0x3F97CA11#32 * ∑ k : Fin 192, P r k.val * Q k.val c

/-- The new momentum: error feedback. -/
def NV (M P R : ℕ → ℕ → EReal) (r c : ℕ) : EReal := M r c - Ideal.ofBits FTy.f32 0x3D4CCCCD#32 * ∑ k : Fin 192, P r k.val * R k.val c

/-- The new scale of a row's block of 128 entries. -/
def SV (N : ℕ → ℕ → EReal) (r q : ℕ) : EReal := scl fun x => N r (128 * q + x)

/-- The new code of an entry. -/
def CV (N : ℕ → ℕ → EReal) (r c : ℕ) : BitVec 8 := quant (N r c) (SV N r (c / 128))

/-- The new weight of an entry. -/
def WV (a5 U : ℕ → ℕ → EReal) (r c : ℕ) : EReal := a5 r c - Ideal.ofBits FTy.f32 0x3C23D70A#32 * U r c

section
variable (a0 : (⟨3, ![12, 2880, 2048]⟩ : Shape).Idx → BitVec 8) (a1 : (⟨3, ![12, 2880, 2048]⟩ : Shape).Idx → EReal)
  (a2 : (⟨3, ![12, 2880, 16]⟩ : Shape).Idx → EReal) (a3 : (⟨3, ![12, 2880, 192]⟩ : Shape).Idx → EReal)
  (a4 : (⟨3, ![12, 192, 192]⟩ : Shape).Idx → EReal) (a5 : (⟨3, ![12, 2880, 2048]⟩ : Shape).Idx → EReal)

/-- Matrix `b`'s momentum. -/
def MB (b : ℕ) : ℕ → ℕ → EReal := MV (at3b a0 b) (at3b a1 b) (at3b a2 b)
/-- Matrix `b`'s left factor. -/
def PB (b : ℕ) : ℕ → ℕ → EReal := PV (at3b a3 b) (at3b a4 b)
/-- Matrix `b`'s right factor. -/
def RB (b : ℕ) : ℕ → ℕ → EReal := RV (PB a3 a4 b) (MB a0 a1 a2 b)
/-- Matrix `b`'s normalised right factor. -/
def QB (b : ℕ) : ℕ → ℕ → EReal := QV (RB a0 a1 a2 a3 a4 b)
/-- Matrix `b`'s update. -/
def UB (b : ℕ) : ℕ → ℕ → EReal := UV (PB a3 a4 b) (QB a0 a1 a2 a3 a4 b)
/-- Matrix `b`'s new momentum. -/
def NB (b : ℕ) : ℕ → ℕ → EReal := NV (MB a0 a1 a2 b) (PB a3 a4 b) (RB a0 a1 a2 a3 a4 b)

/-- The new weights. -/
def H6 : (⟨3, ![12, 2880, 2048]⟩ : Shape).Idx → EReal := fun y => WV (at3b a5 (y 0).val) (UB a0 a1 a2 a3 a4 (y 0).val) (y 1).val (y 2).val
/-- The updates. -/
def H7 : (⟨3, ![12, 2880, 2048]⟩ : Shape).Idx → EReal := fun y => UB a0 a1 a2 a3 a4 (y 0).val (y 1).val (y 2).val
/-- The new right factors. -/
def H8 : (⟨3, ![12, 192, 2048]⟩ : Shape).Idx → EReal := fun y => QB a0 a1 a2 a3 a4 (y 0).val (y 1).val (y 2).val
/-- The new codes. -/
def H9 : (⟨3, ![12, 2880, 2048]⟩ : Shape).Idx → BitVec 8 := fun y => CV (NB a0 a1 a2 a3 a4 (y 0).val) (y 1).val (y 2).val
/-- The new scales. -/
def H10 : (⟨3, ![12, 16, 2880]⟩ : Shape).Idx → EReal := fun y => SV (NB a0 a1 a2 a3 a4 (y 0).val) (y 2).val (y 1).val
end

end Cert.MainMath

end
-- ==== Proof.KernelIdeal.Blocks.lean ====
/-
  The input blocks of the main kernel, read off the argument arrays.
-/
module

public import proofs.«01_k».proof.Proof.Main.Formulas
public import proofs.«01_k».proof.Proof.KernelIdeal.Track
public import Idealize.ShloMosaic.Lib.Pipeline.ValueKit
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe
open Cert.MainMath (at3b)

variable (m : (ℓ : Loc nD τ sig) → Buf (Elt F) ℓ)

theorem idx0 : ∀ t : Fin cfg0.N, t.val < 180 → win0_0.index t = ![t.val / 15, t.val % 15, 0] := (by decide +kernel : ∀ t : Fin grid0.N, _)
theorem idx1 : ∀ t : Fin cfg0.N, t.val < 180 → win0_1.index t = ![t.val / 15, t.val % 15, 0] := (by decide +kernel : ∀ t : Fin grid0.N, _)
theorem idx2 : ∀ t : Fin cfg0.N, t.val < 180 → win0_2.index t = ![t.val / 15, 0, 0] := (by decide +kernel : ∀ t : Fin grid0.N, _)
theorem idx3 : ∀ t : Fin cfg0.N, t.val < 180 → win0_3.index t = ![t.val / 15, t.val % 15, 0] := (by decide +kernel : ∀ t : Fin grid0.N, _)
theorem idx4 : ∀ t : Fin cfg0.N, t.val < 180 → win0_4.index t = ![t.val / 15, 0, 0] := (by decide +kernel : ∀ t : Fin grid0.N, _)
theorem idx5 : ∀ t : Fin cfg0.N, 15 ≤ t.val → win0_5.index t = ![t.val / 15 - 1, t.val % 15, 0] := (by decide +kernel : ∀ t : Fin grid0.N, _)

/-- An entry of a block of codes. -/
theorem blk0_at (c : Dev nD) (t : Fin cfg0.N) (ht : t.val < 180) (r q : ℕ) (hr : r < 192) (hq : q < 2048) :
    at3 (α := BitVec 8) (iblk m c 0 t) r q = at3b (α := BitVec 8) (m ((c : Thread nD τ).loc main_arg0)) (t.val / 15) (192 * (t.val % 15) + r) q := by
  have h0 : t.val / 15 < 12 := by omega
  have h1 : (192 * (t.val % 15) + r) < 2880 := by omega
  rw [Cert.MainMath.at3b_of_lt _ h0 h1 hq]
  unfold at3
  rw [dif_pos ⟨hr, hq⟩]
  show V m c main_arg0 (((cfg0.win 0).blk t).view.emb (ix3 0 ⟨r, hr⟩ ⟨q, hq⟩)) = _
  rw [V_main_arg0]
  refine congrArg _ ?_
  have e := idx0 t ht
  funext a; apply Fin.ext
  match a with
  | ⟨0, _⟩ => show win0_0.index t (0 : Fin 3) * 1 + 1 * 0 = t.val / 15; rw [e]; show t.val / 15 * 1 + 1 * 0 = _; omega
  | ⟨1, _⟩ => show win0_0.index t (1 : Fin 3) * 192 + 1 * r = (192 * (t.val % 15) + r); rw [e]; show t.val % 15 * 192 + 1 * r = _; omega
  | ⟨2, _⟩ => show win0_0.index t (2 : Fin 3) * 2048 + 1 * q = q; rw [e]; show 0 * 2048 + 1 * q = _; omega

/-- An entry of a block of gradients. -/
theorem blk1_at (c : Dev nD) (t : Fin cfg0.N) (ht : t.val < 180) (r q : ℕ) (hr : r < 192) (hq : q < 2048) :
    at3 (α := EReal) (iblk m c 1 t) r q = at3b (α := EReal) (m ((c : Thread nD τ).loc main_arg1)) (t.val / 15) (192 * (t.val % 15) + r) q := by
  have h0 : t.val / 15 < 12 := by omega
  have h1 : (192 * (t.val % 15) + r) < 2880 := by omega
  rw [Cert.MainMath.at3b_of_lt _ h0 h1 hq]
  unfold at3
  rw [dif_pos ⟨hr, hq⟩]
  show V m c main_arg1 (((cfg0.win 1).blk t).view.emb (ix3 0 ⟨r, hr⟩ ⟨q, hq⟩)) = _
  rw [V_main_arg1]
  refine congrArg _ ?_
  have e := idx1 t ht
  funext a; apply Fin.ext
  match a with
  | ⟨0, _⟩ => show win0_1.index t (0 : Fin 3) * 1 + 1 * 0 = t.val / 15; rw [e]; show t.val / 15 * 1 + 1 * 0 = _; omega
  | ⟨1, _⟩ => show win0_1.index t (1 : Fin 3) * 192 + 1 * r = (192 * (t.val % 15) + r); rw [e]; show t.val % 15 * 192 + 1 * r = _; omega
  | ⟨2, _⟩ => show win0_1.index t (2 : Fin 3) * 2048 + 1 * q = q; rw [e]; show 0 * 2048 + 1 * q = _; omega

/-- An entry of a block of the projected matrix. -/
theorem blk3_at (c : Dev nD) (t : Fin cfg0.N) (ht : t.val < 180) (r q : ℕ) (hr : r < 192) (hq : q < 192) :
    at3 (α := EReal) (iblk m c 3 t) r q = at3b (α := EReal) (m ((c : Thread nD τ).loc main_arg3)) (t.val / 15) (192 * (t.val % 15) + r) q := by
  have h0 : t.val / 15 < 12 := by omega
  have h1 : (192 * (t.val % 15) + r) < 2880 := by omega
  rw [Cert.MainMath.at3b_of_lt _ h0 h1 hq]
  unfold at3
  rw [dif_pos ⟨hr, hq⟩]
  show V m c main_arg3 (((cfg0.win 3).blk t).view.emb (ix3 0 ⟨r, hr⟩ ⟨q, hq⟩)) = _
  rw [V_main_arg3]
  refine congrArg _ ?_
  have e := idx3 t ht
  funext a; apply Fin.ext
  match a with
  | ⟨0, _⟩ => show win0_3.index t (0 : Fin 3) * 1 + 1 * 0 = t.val / 15; rw [e]; show t.val / 15 * 1 + 1 * 0 = _; omega
  | ⟨1, _⟩ => show win0_3.index t (1 : Fin 3) * 192 + 1 * r = (192 * (t.val % 15) + r); rw [e]; show t.val % 15 * 192 + 1 * r = _; omega
  | ⟨2, _⟩ => show win0_3.index t (2 : Fin 3) * 192 + 1 * q = q; rw [e]; show 0 * 192 + 1 * q = _; omega

/-- An entry of a block of the inverse factor. -/
theorem blk4_at (c : Dev nD) (t : Fin cfg0.N) (ht : t.val < 180) (r q : ℕ) (hr : r < 192) (hq : q < 192) :
    at3 (α := EReal) (iblk m c 4 t) r q = at3b (α := EReal) (m ((c : Thread nD τ).loc main_arg4)) (t.val / 15) r q := by
  have h0 : t.val / 15 < 12 := by omega
  have h1 : r < 192 := by omega
  rw [Cert.MainMath.at3b_of_lt _ h0 h1 hq]
  unfold at3
  rw [dif_pos ⟨hr, hq⟩]
  show V m c main_arg4 (((cfg0.win 4).blk t).view.emb (ix3 0 ⟨r, hr⟩ ⟨q, hq⟩)) = _
  rw [V_main_arg4]
  refine congrArg _ ?_
  have e := idx4 t ht
  funext a; apply Fin.ext
  match a with
  | ⟨0, _⟩ => show win0_4.index t (0 : Fin 3) * 1 + 1 * 0 = t.val / 15; rw [e]; show t.val / 15 * 1 + 1 * 0 = _; omega
  | ⟨1, _⟩ => show win0_4.index t (1 : Fin 3) * 192 + 1 * r = r; rw [e]; show 0 * 192 + 1 * r = _; omega
  | ⟨2, _⟩ => show win0_4.index t (2 : Fin 3) * 192 + 1 * q = q; rw [e]; show 0 * 192 + 1 * q = _; omega

/-- An entry of a block of weights. -/
theorem blk5_at (c : Dev nD) (t : Fin cfg0.N) (ht : 15 ≤ t.val) (r q : ℕ) (hr : r < 192) (hq : q < 2048) :
    at3 (α := EReal) (iblk m c 5 t) r q = at3b (α := EReal) (m ((c : Thread nD τ).loc main_arg5)) ((t.val / 15 - 1)) (192 * (t.val % 15) + r) q := by
  have hN := lt_N t
  have h0 : (t.val / 15 - 1) < 12 := by omega
  have h1 : (192 * (t.val % 15) + r) < 2880 := by omega
  rw [Cert.MainMath.at3b_of_lt _ h0 h1 hq]
  unfold at3
  rw [dif_pos ⟨hr, hq⟩]
  show V m c main_arg5 (((cfg0.win 5).blk t).view.emb (ix3 0 ⟨r, hr⟩ ⟨q, hq⟩)) = _
  rw [V_main_arg5]
  refine congrArg _ ?_
  have e := idx5 t ht
  funext a; apply Fin.ext
  match a with
  | ⟨0, _⟩ => show win0_5.index t (0 : Fin 3) * 1 + 1 * 0 = (t.val / 15 - 1); rw [e]; show (t.val / 15 - 1) * 1 + 1 * 0 = _; omega
  | ⟨1, _⟩ => show win0_5.index t (1 : Fin 3) * 192 + 1 * r = (192 * (t.val % 15) + r); rw [e]; show t.val % 15 * 192 + 1 * r = _; omega
  | ⟨2, _⟩ => show win0_5.index t (2 : Fin 3) * 2048 + 1 * q = q; rw [e]; show 0 * 2048 + 1 * q = _; omega

/-- The scales the kernel is given are the argument, its last two axes exchanged. -/
theorem V_st (c : Dev nD) : V m c main_v0 = transpose S12x16x2880 [0, 2, 1] (m ((c : Thread nD τ).loc main_arg2)) transposes_S12x2880x16_S12x16x2880_0_2_1 := by
  rfl

/-- An entry of a block of transposed scales. -/
theorem blk2_at (c : Dev nD) (t : Fin cfg0.N) (ht : t.val < 180) (q r : ℕ) (hq : q < 16) (hr : r < 2880) :
    at3 (α := EReal) (iblk m c 2 t) q r = at3b (α := EReal) (m ((c : Thread nD τ).loc main_arg2)) (t.val / 15) r q := by
  have h0 : t.val / 15 < 12 := by omega
  rw [Cert.MainMath.at3b_of_lt _ h0 hr hq]
  unfold at3
  rw [dif_pos ⟨hq, hr⟩]
  show V m c main_v0 (((cfg0.win 2).blk t).view.emb (ix3 0 ⟨q, hq⟩ ⟨r, hr⟩)) = _
  have e := idx2 t ht
  have he : ((cfg0.win 2).blk t).view.emb (ix3 0 ⟨q, hq⟩ ⟨r, hr⟩) = (ix3 ⟨t.val / 15, h0⟩ ⟨q, hq⟩ ⟨r, hr⟩ : S12x16x2880.Idx) := by
    funext a; apply Fin.ext
    match a with
    | ⟨0, _⟩ => show win0_2.index t (0 : Fin 3) * 1 + 1 * 0 = t.val / 15; rw [e]; show t.val / 15 * 1 + 1 * 0 = _; omega
    | ⟨1, _⟩ => show win0_2.index t (1 : Fin 3) * 16 + 1 * q = q; rw [e]; show 0 * 16 + 1 * q = _; omega
    | ⟨2, _⟩ => show win0_2.index t (2 : Fin 3) * 2880 + 1 * r = r; rw [e]; show 0 * 2880 + 1 * r = _; omega
  rw [he, V_st]
  pointwise

end Cert.KernelIdeal.Hand

end
-- ==== Proof.KernelIdeal.Matrices.lean ====
/-
  The kernel's scratch values, as formulas of the argument arrays.
-/
module

public import proofs.«01_k».proof.Proof.KernelIdeal.Blocks

@[expose] public section

set_option maxRecDepth 16384

noncomputable section

namespace Cert.KernelIdeal.Hand

open Cert.KernelIdeal Cert.KernelIdeal.Gen
open Idealize.ShloMosaic Idealize.ShloMosaic.TcCoe
open Cert.MainMath (at3b)

variable (m : (ℓ : Loc nD τ sig) → Buf (Elt F) ℓ)

/-- The argument arrays of device `c`. -/
abbrev a0 (c : Dev nD) : Vec F S12x2880x2048 .i8 := m ((c : Thread nD τ).loc main_arg0)
abbrev a1 (c : Dev nD) : Vec F S12x2880x2048 .bf16 := m ((c : Thread nD τ).loc main_arg1)
abbrev a2 (c : Dev nD) : Vec F S12x2880x16 .f32 := m ((c : Thread nD τ).loc main_arg2)
abbrev a3 (c : Dev nD) : Vec F S12x2880x192 .f32 := m ((c : Thread nD τ).loc main_arg3)
abbrev a4 (c : Dev nD) : Vec F S12x192x192 .f32 := m ((c : Thread nD τ).loc main_arg4)
abbrev a5 (c : Dev nD) : Vec F S12x2880x2048 .f32 := m ((c : Thread nD τ).loc main_arg5)

/-- The momentum of matrix `i`, the left factor, the right factor, of the argument arrays. -/
abbrev MBk (c : Dev nD) (i : ℕ) : ℕ → ℕ → EReal := Cert.MainMath.MB (a0 m c) (a1 m c) (a2 m c) i
abbrev PBk (c : Dev nD) (i : ℕ) : ℕ → ℕ → EReal := Cert.MainMath.PB (a3 m c) (a4 m c) i
abbrev RBk (c : Dev nD) (i : ℕ) : ℕ → ℕ → EReal := Cert.MainMath.RB (a0 m c) (a1 m c) (a2 m c) (a3 m c) (a4 m c) i
abbrev QBk (c : Dev nD) (i : ℕ) : ℕ → ℕ → EReal := Cert.MainMath.QB (a0 m c) (a1 m c) (a2 m c) (a3 m c) (a4 m c) i
abbrev UBk (c : Dev nD) (i : ℕ) : ℕ → ℕ → EReal := Cert.MainMath.UB (a0 m c) (a1 m c) (a2 m c) (a3 m c) (a4 m c) i
abbrev NBk (c : Dev nD) (i : ℕ) : ℕ → ℕ → EReal := Cert.MainMath.NB (a0 m c) (a1 m c) (a2 m c) (a3 m c) (a4 m c) i

theorem at2_of_lt {a b : ℕ} {α : Type} [Zero α] (X : (⟨2, ![a, b]⟩ : Shape).Idx → α) {i j : ℕ} (hi : i < a) (hj : j < b) :
    at2 X i j = X (ix2 ⟨i, hi⟩ ⟨j, hj⟩) := by
  unfold at2
  rw [dif_pos ⟨hi, hj⟩]

theorem pt_at {n : ℕ} (h : n < 195) : (pt n).val = n := by
  unfold pt
  rw [dif_pos (lt_of_lt_of_eq h (show cfg0.N = 195 from N_0).symm)]

/-- A sum over the rows of a matrix is a sum over its tiles. -/
theorem sum_tiles {α : Type} [AddCommMonoid α] (f : ℕ → α) (n : ℕ) :
    ∑ x ∈ Finset.range n, ∑ y : Fin 192, f (192 * x + y.val) = ∑ x ∈ Finset.range (192 * n), f x := by
  induction n with
  | zero => rfl
  | succ n ih =>
    rw [Finset.sum_range_succ, ih, show 192 * (n + 1) = 192 * n + 192 from by omega, Finset.sum_range_add,
      Fin.sum_univ_eq_sum_range (fun y => f (192 * n + y)) 192]

theorem SC_at (c : Dev nD) {i : ℕ} (hi : i < 12) {r q : ℕ} (hr : r < 2880) (hq : q < 16) :
    at2 (α := EReal) (SC m c i) r q = at3b (α := EReal) (a2 m c) i r q := by
  have hv := pt_at (n := 15 * i) (by omega)
  rw [at2_of_lt _ hr hq]
  show at3 (α := EReal) (iblk m c 2 (pt (15 * i))) q r = _
  rw [blk2_at m c _ (by omega) q r hq hr, hv, show 15 * i / 15 = i from by omega]

/-- A dequantised entry of a tile. -/
theorem deq_at (c : Dev nD) {i n : ℕ} (hi : i < 12) (hn : n < 15) {r q : ℕ} (hr : r < 192) (hq : q < 2048) :
    deq (at3 (α := BitVec 8) (iblk m c 0 (pt (15 * i + n))) r q) (at2 (α := EReal) (SC m c i) (192 * n + r) (q / 128)) (at3 (α := EReal) (iblk m c 1 (pt (15 * i + n))) r q)
      = MBk m c i (192 * n + r) q := by
  have hv := pt_at (n := 15 * i + n) (by omega)
  rw [blk0_at m c _ (by omega) r q hr hq, blk1_at m c _ (by omega) r q hr hq, SC_at m c hi (by omega) (by omega), hv,
    show (15 * i + n) / 15 = i from by omega, show (15 * i + n) % 15 = n from by omega]
  rfl

/-- An entry of the left factor. -/
theorem pbV_at (c : Dev nD) {i n : ℕ} (hi : i < 12) (hn : n < 15) {r q : ℕ} (hr : r < 192) (hq : q < 192) :
    pbV (iblk m c 3 (pt (15 * i + n))) (iblk m c 4 (pt (15 * i + n))) r q = PBk m c i (192 * n + r) q := by
  have hv := pt_at (n := 15 * i + n) (by omega)
  show (∑ k : Fin 192, at3 (α := EReal) (iblk m c 3 (pt (15 * i + n))) r k.val * at3 (α := EReal) (iblk m c 4 (pt (15 * i + n))) q k.val)
    = ∑ k : Fin 192, at3b (α := EReal) (a3 m c) i (192 * n + r) k.val * at3b (α := EReal) (a4 m c) i q k.val
  refine Finset.sum_congr rfl fun k _ => ?_
  rw [blk3_at m c _ (by omega) r k.val hr k.isLt, blk4_at m c _ (by omega) q k.val hq k.isLt, hv,
    show (15 * i + n) / 15 = i from by omega, show (15 * i + n) % 15 = n from by omega]

theorem BUF_at (c : Dev nD) {i : ℕ} (hi : i < 12) {r q : ℕ} (hr : r < 2880) (hq : q < 2048) :
    at2 (α := EReal) (BUF m c i) r q = MBk m c i r q := by
  rw [at2_of_lt _ hr hq]
  have h := deq_at m c hi (n := r / 192) (by omega) (r := r - 192 * (r / 192)) (by omega) hq
  rw [show 192 * (r / 192) + (r - 192 * (r / 192)) = r from by omega] at h
  exact h

theorem PB_at (c : Dev nD) {i : ℕ} (hi : i < 12) {r q : ℕ} (hr : r < 2880) (hq : q < 192) :
    at2 (α := EReal) (PB m c i) r q = PBk m c i r q := by
  rw [at2_of_lt _ hr hq]
  have h := pbV_at m c hi (n := r / 192) (by omega) (r := r - 192 * (r / 192)) (by omega) hq
  rw [show 192 * (r / 192) + (r - 192 * (r / 192)) = r from by omega] at h
  exact h

theorem ACC_at (c : Dev nD) {i : ℕ} (hi : i < 12) {k q : ℕ} (hk : k < 192) (hq : q < 2048) (n : ℕ) (hn : n ≤ 15) :
    at2 (α := EReal) (ACC m c i n) k q = ∑ x ∈ Finset.range (192 * n), PBk m c i x k * MBk m c i x q := by
  rw [← sum_tiles (fun x => PBk m c i x k * MBk m c i x q)]
  induction n with
  | zero => rw [at2_of_lt _ hk hq]; rfl
  | succ n ih =>
    rw [Finset.sum_range_succ, ← ih (by omega), at2_of_lt (ACC m c i (n + 1)) hk hq]
    refine congrArg₂ (· + ·) rfl (Finset.sum_congr rfl fun y _ => ?_)
    rw [← pbV_at m c hi (by omega) y.isLt hk, ← deq_at m c hi (by omega) y.isLt hq]
    rfl

theorem R_at (c : Dev nD) {i : ℕ} (hi : i < 12) {k q : ℕ} (hk : k < 192) (hq : q < 2048) :
    at2 (α := EReal) (ACC m c i 15) k q = RBk m c i k q := by
  rw [ACC_at m c hi hk hq 15 (by omega), ← Fin.sum_univ_eq_sum_range (fun x => PBk m c i x k * MBk m c i x q) (192 * 15)]
  rfl

theorem RB_at (c : Dev nD) {i : ℕ} (hi : i < 12) {k q : ℕ} (hk : k < 192) (hq : q < 2048) :
    at2 (α := EReal) (RB m c i) k q = RBk m c i k q := by
  rw [at2_of_lt _ hk hq]
  exact R_at m c hi hk hq

theorem nrm_at (c : Dev nD) {i : ℕ} (hi : i < 12) {k q : ℕ} (hk : k < 192) (hq : q < 2048) :
    nrmV (ACC m c i 15) k q = QBk m c i k q := by
  unfold nrmV
  rw [R_at m c hi hk hq]
  refine congrArg (fun z => Ideal.div (RBk m c i k q) (Ideal.sqrt z)) (Finset.sum_congr rfl fun x _ => ?_)
  rw [R_at m c hi hk x.isLt]

theorem QB_at (c : Dev nD) {i : ℕ} (hi : i < 12) {k q : ℕ} (hk : k < 192) (hq : q < 2048) :
    at2 (α := EReal) (QB m c i) k q = QBk m c i k q := by
  rw [at2_of_lt _ hk hq]
  exact nrm_at m c hi hk hq

theorem upd_at (c : Dev nD) {i n : ℕ} (hi : i < 12) (hn : n < 15) {r q : ℕ} (hr : r < 192) (hq : q < 2048) :
    updV n (PB m c i) (QB m c i) r q = UBk m c i (192 * n + r) q := by
  refine congrArg (fun z => Ideal.ofBits FTy.f32 0x3F97CA11#32 * z) (Finset.sum_congr rfl fun k _ => ?_)
  rw [PB_at m c hi (by omega) k.isLt, QB_at m c hi k.isLt hq]

theorem mom_at (c : Dev nD) {i n : ℕ} (hi : i < 12) (hn : n < 15) {r q : ℕ} (hr : r < 192) (hq : q < 2048) :
    momV n (BUF m c i) (PB m c i) (RB m c i) r q = NBk m c i (192 * n + r) q := by
  unfold momV
  rw [BUF_at m c hi (by omega) hq]
  refine congrArg (fun z => MBk m c i (192 * n + r) q - Ideal.ofBits FTy.f32 0x3D4CCCCD#32 * z) (Finset.sum_congr rfl fun k _ => ?_)
  rw [PB_at m c hi (by omega) k.isLt, RB_at m c hi k.isLt hq]

theorem scl_congr {f g : ℕ → EReal} (h : ∀ x, x < 128 → f x = g x) : scl f = scl g := by
  have e : amax f = amax g := by
    unfold amax
    refine congrArg (fun z : Fin 128 → EReal => Finset.fold max (Ideal.ofBits FTy.f32 0xFF800000#32) z Finset.univ) (funext fun x => ?_)
    rw [h x.val x.isLt]
  unfold scl
  rw [e]

theorem scl_at (c : Dev nD) {i n : ℕ} (hi : i < 12) (hn : n < 15) {r q : ℕ} (hr : r < 192) (hq : q < 16) :
    sclV n (BUF m c i) (PB m c i) (RB m c i) r q = Cert.MainMath.SV (NBk m c i) (192 * n + r) q :=
  scl_congr fun x hx => mom_at m c hi hn hr (by omega)

theorem SN_at (c : Dev nD) {i : ℕ} (hi : i < 12) {r q : ℕ} (hr : r < 2880) (hq : q < 16) :
    at2 (α := EReal) (SN m c i) r q = Cert.MainMath.SV (NBk m c i) r q := by
  rw [at2_of_lt _ hr hq]
  have h := scl_at m c hi (n := r / 192) (by omega) (r := r - 192 * (r / 192)) (by omega) hq
  rw [show 192 * (r / 192) + (r - 192 * (r / 192)) = r from by omega] at h
  exact h

end Cert.KernelIdeal.Hand

end
-- ==== Proof.KernelIdeal.Final.lean ====
/-
  The main kernel's result arrays after the run, as formulas of the argument arrays.
-/
module

public import proofs.«01_k».proof.Proof.KernelIdeal.HandFrame
public import proofs.«01_k».proof.Proof.KernelIdeal.Matrices
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.RA
open Idealize.ShloMosaic.Pipeline (Dat RDat Cfg Window)

variable (m : (ℓ : Loc nD τ sig) → Buf (Elt F) ℓ)

/-- Where each result block lies, at the points that write it back. -/
theorem oidx6 : ∀ t : Fin cfg0.N, win0_6.flush t = true → 15 ≤ t.val ∧ win0_6.index t = ![t.val / 15 - 1, t.val % 15, 0] := (by decide +kernel : ∀ t : Fin grid0.N, _)
theorem oidx7 : ∀ t : Fin cfg0.N, win0_7.flush t = true → 15 ≤ t.val ∧ win0_7.index t = ![t.val / 15 - 1, t.val % 15, 0] := (by decide +kernel : ∀ t : Fin grid0.N, _)
theorem oidx8 : ∀ t : Fin cfg0.N, win0_8.flush t = true → (t.val % 15 = 14 ∧ t.val < 180 ∨ 179 ≤ t.val) ∧ win0_8.index t = ![min (t.val / 15) 11, 0, 0] := (by decide +kernel : ∀ t : Fin grid0.N, _)
theorem oidx9 : ∀ t : Fin cfg0.N, win0_9.flush t = true → 15 ≤ t.val ∧ win0_9.index t = ![t.val / 15 - 1, t.val % 15, 0] := (by decide +kernel : ∀ t : Fin grid0.N, _)
theorem oidx10 : ∀ t : Fin cfg0.N, win0_10.flush t = true → (15 ≤ t.val ∧ t.val % 15 = 14) ∧ win0_10.index t = ![t.val / 15 - 1, 0, 0] := (by decide +kernel : ∀ t : Fin grid0.N, _)

variable (dat : (c : Dev nD) → Dat τ (Elt F) Unit ℕ (UR sig nD τ) ℕ cfg0 c)

/-- The new weights. -/
theorem arr6 (c : Dev nD) (h : ∀ t, win0_6.flush t = true → R6 m c t ((dat c).after 6 t)) :
    (dat c).arrAt 6 cfg0.N = Cert.MainMath.H6 (a0 m c) (a1 m c) (a2 m c) (a3 m c) (a4 m c) (a5 m c) := by
  refine (dat c).arrAt_eq_of_covers 6 _ (by decide +kernel) fun t hf y => ?_
  have hN := lt_N t
  obtain ⟨h0, e⟩ := oidx6 t hf
  have hy1 : (y 1).val < 192 := (y 1).isLt
  have hy2 : (y 2).val < 2048 := (y 2).isLt
  show ((dat c).after 6 t : Vec F S1x192x2048 .f32) y = _
  rw [h t hf (by omega)]
  have hb0 : (((cfg0.win 6).blk t).view.emb y 0).val = t.val / 15 - 1 := by
    show win0_6.index t (0 : Fin 3) * 1 + 1 * (y 0).val = _
    have : (y 0).val < 1 := (y 0).isLt
    rw [e]; show (t.val / 15 - 1) * 1 + 1 * (y 0).val = _; omega
  have hb1 : (((cfg0.win 6).blk t).view.emb y 1).val = 192 * (t.val % 15) + (y 1).val := by
    show win0_6.index t (1 : Fin 3) * 192 + 1 * (y 1).val = _
    rw [e]; show t.val % 15 * 192 + 1 * (y 1).val = _; omega
  have hb2 : (((cfg0.win 6).blk t).view.emb y 2).val = (y 2).val := by
    show win0_6.index t (2 : Fin 3) * 2048 + 1 * (y 2).val = _
    rw [e]; show 0 * 2048 + 1 * (y 2).val = _; omega
  show _ = Cert.MainMath.WV (Cert.MainMath.at3b (α := EReal) (a5 m c) (((cfg0.win 6).blk t).view.emb y 0).val) (UBk m c (((cfg0.win 6).blk t).view.emb y 0).val) (((cfg0.win 6).blk t).view.emb y 1).val (((cfg0.win 6).blk t).view.emb y 2).val
  rw [hb0, hb1, hb2]
  unfold Cert.MainMath.WV
  rw [← blk5_at m c t h0 (y 1).val (y 2).val hy1 hy2, ← upd_at m c (by omega) (by omega) hy1 hy2]
  rfl

/-- The updates. -/
theorem arr7 (c : Dev nD) (h : ∀ t, win0_7.flush t = true → R7 m c t ((dat c).after 7 t)) :
    (dat c).arrAt 7 cfg0.N = Cert.MainMath.H7 (a0 m c) (a1 m c) (a2 m c) (a3 m c) (a4 m c) := by
  refine (dat c).arrAt_eq_of_covers 7 _ (by decide +kernel) fun t hf y => ?_
  have hN := lt_N t
  obtain ⟨h0, e⟩ := oidx7 t hf
  have hy1 : (y 1).val < 192 := (y 1).isLt
  have hy2 : (y 2).val < 2048 := (y 2).isLt
  show ((dat c).after 7 t : Vec F S1x192x2048 .f32) y = _
  rw [h t hf (by omega)]
  have hb0 : (((cfg0.win 7).blk t).view.emb y 0).val = t.val / 15 - 1 := by
    show win0_7.index t (0 : Fin 3) * 1 + 1 * (y 0).val = _
    have : (y 0).val < 1 := (y 0).isLt
    rw [e]; show (t.val / 15 - 1) * 1 + 1 * (y 0).val = _; omega
  have hb1 : (((cfg0.win 7).blk t).view.emb y 1).val = 192 * (t.val % 15) + (y 1).val := by
    show win0_7.index t (1 : Fin 3) * 192 + 1 * (y 1).val = _
    rw [e]; show t.val % 15 * 192 + 1 * (y 1).val = _; omega
  have hb2 : (((cfg0.win 7).blk t).view.emb y 2).val = (y 2).val := by
    show win0_7.index t (2 : Fin 3) * 2048 + 1 * (y 2).val = _
    rw [e]; show 0 * 2048 + 1 * (y 2).val = _; omega
  show _ = UBk m c (((cfg0.win 7).blk t).view.emb y 0).val (((cfg0.win 7).blk t).view.emb y 1).val (((cfg0.win 7).blk t).view.emb y 2).val
  rw [hb0, hb1, hb2]
  rw [← upd_at m c (by omega) (by omega) hy1 hy2]
  rfl

/-- The new right factors. -/
theorem arr8 (c : Dev nD) (h : ∀ t, win0_8.flush t = true → R8 m c t ((dat c).after 8 t)) :
    (dat c).arrAt 8 cfg0.N = Cert.MainMath.H8 (a0 m c) (a1 m c) (a2 m c) (a3 m c) (a4 m c) := by
  refine (dat c).arrAt_eq_of_covers 8 _ (by decide +kernel) fun t hf y => ?_
  have hN := lt_N t
  obtain ⟨h0, e⟩ := oidx8 t hf
  have hy1 : (y 1).val < 192 := (y 1).isLt
  have hy2 : (y 2).val < 2048 := (y 2).isLt
  show ((dat c).after 8 t : Vec F S1x192x2048 .bf16) y = _
  rw [h t hf h0]
  have hb0 : (((cfg0.win 8).blk t).view.emb y 0).val = min (t.val / 15) 11 := by
    show win0_8.index t (0 : Fin 3) * 1 + 1 * (y 0).val = _
    have : (y 0).val < 1 := (y 0).isLt
    rw [e]; show (min (t.val / 15) 11) * 1 + 1 * (y 0).val = _; omega
  have hb1 : (((cfg0.win 8).blk t).view.emb y 1).val = (y 1).val := by
    show win0_8.index t (1 : Fin 3) * 192 + 1 * (y 1).val = _
    rw [e]; show 0 * 192 + 1 * (y 1).val = _; omega
  have hb2 : (((cfg0.win 8).blk t).view.emb y 2).val = (y 2).val := by
    show win0_8.index t (2 : Fin 3) * 2048 + 1 * (y 2).val = _
    rw [e]; show 0 * 2048 + 1 * (y 2).val = _; omega
  show _ = QBk m c (((cfg0.win 8).blk t).view.emb y 0).val (((cfg0.win 8).blk t).view.emb y 1).val (((cfg0.win 8).blk t).view.emb y 2).val
  rw [hb0, hb1, hb2]
  exact nrm_at m c (by omega) hy1 hy2

/-- The new codes. -/
theorem arr9 (c : Dev nD) (h : ∀ t, win0_9.flush t = true → R9 m c t ((dat c).after 9 t)) :
    (dat c).arrAt 9 cfg0.N = Cert.MainMath.H9 (a0 m c) (a1 m c) (a2 m c) (a3 m c) (a4 m c) := by
  refine (dat c).arrAt_eq_of_covers 9 _ (by decide +kernel) fun t hf y => ?_
  have hN := lt_N t
  obtain ⟨h0, e⟩ := oidx9 t hf
  have hy1 : (y 1).val < 192 := (y 1).isLt
  have hy2 : (y 2).val < 2048 := (y 2).isLt
  show ((dat c).after 9 t : Vec F S1x192x2048 .i8) y = _
  rw [h t hf (by omega)]
  have hb0 : (((cfg0.win 9).blk t).view.emb y 0).val = t.val / 15 - 1 := by
    show win0_9.index t (0 : Fin 3) * 1 + 1 * (y 0).val = _
    have : (y 0).val < 1 := (y 0).isLt
    rw [e]; show (t.val / 15 - 1) * 1 + 1 * (y 0).val = _; omega
  have hb1 : (((cfg0.win 9).blk t).view.emb y 1).val = 192 * (t.val % 15) + (y 1).val := by
    show win0_9.index t (1 : Fin 3) * 192 + 1 * (y 1).val = _
    rw [e]; show t.val % 15 * 192 + 1 * (y 1).val = _; omega
  have hb2 : (((cfg0.win 9).blk t).view.emb y 2).val = (y 2).val := by
    show win0_9.index t (2 : Fin 3) * 2048 + 1 * (y 2).val = _
    rw [e]; show 0 * 2048 + 1 * (y 2).val = _; omega
  show _ = Cert.MainMath.CV (NBk m c (((cfg0.win 9).blk t).view.emb y 0).val) (((cfg0.win 9).blk t).view.emb y 1).val (((cfg0.win 9).blk t).view.emb y 2).val
  rw [hb0, hb1, hb2]
  unfold Cert.MainMath.CV
  rw [← mom_at m c (by omega) (by omega) hy1 hy2, ← scl_at m c (by omega) (by omega) hy1 (by omega)]
  rfl

/-- The new scales. -/
theorem arr10 (c : Dev nD) (h : ∀ t, win0_10.flush t = true → R10 m c t ((dat c).after 10 t)) :
    (dat c).arrAt 10 cfg0.N = Cert.MainMath.H10 (a0 m c) (a1 m c) (a2 m c) (a3 m c) (a4 m c) := by
  refine (dat c).arrAt_eq_of_covers 10 _ (by decide +kernel) fun t hf y => ?_
  have hN := lt_N t
  obtain ⟨h0, e⟩ := oidx10 t hf
  have hy1 : (y 1).val < 16 := (y 1).isLt
  have hy2 : (y 2).val < 2880 := (y 2).isLt
  show ((dat c).after 10 t : Vec F S1x16x2880 .f32) y = _
  rw [h t hf (by omega)]
  have hb0 : (((cfg0.win 10).blk t).view.emb y 0).val = t.val / 15 - 1 := by
    show win0_10.index t (0 : Fin 3) * 1 + 1 * (y 0).val = _
    have : (y 0).val < 1 := (y 0).isLt
    rw [e]; show (t.val / 15 - 1) * 1 + 1 * (y 0).val = _; omega
  have hb1 : (((cfg0.win 10).blk t).view.emb y 1).val = (y 1).val := by
    show win0_10.index t (1 : Fin 3) * 16 + 1 * (y 1).val = _
    rw [e]; show 0 * 16 + 1 * (y 1).val = _; omega
  have hb2 : (((cfg0.win 10).blk t).view.emb y 2).val = (y 2).val := by
    show win0_10.index t (2 : Fin 3) * 2880 + 1 * (y 2).val = _
    rw [e]; show 0 * 2880 + 1 * (y 2).val = _; omega
  show _ = Cert.MainMath.SV (NBk m c (((cfg0.win 10).blk t).view.emb y 0).val) (((cfg0.win 10).blk t).view.emb y 2).val (((cfg0.win 10).blk t).view.emb y 1).val
  rw [hb0, hb1, hb2]
  exact SN_at m c (by omega) hy2 hy1

/-- What the run leaves in the result arrays. -/
theorem results {r : PUnit × MemSt nD τ sig (Elt F)} (hr : Pipeline.RDat.FramePost (cfgs 0) (rd m) (V m) r) (c : Dev nD) :
      r.2.mem ((c.tc : Thread nD τ).loc main_v1_0) = Cert.MainMath.H6 (a0 m c) (a1 m c) (a2 m c) (a3 m c) (a4 m c) (a5 m c)
      ∧ r.2.mem ((c.tc : Thread nD τ).loc main_v1_1) = Cert.MainMath.H7 (a0 m c) (a1 m c) (a2 m c) (a3 m c) (a4 m c)
      ∧ r.2.mem ((c.tc : Thread nD τ).loc main_v1_2) = Cert.MainMath.H8 (a0 m c) (a1 m c) (a2 m c) (a3 m c) (a4 m c)
      ∧ r.2.mem ((c.tc : Thread nD τ).loc main_v1_3) = Cert.MainMath.H9 (a0 m c) (a1 m c) (a2 m c) (a3 m c) (a4 m c)
      ∧ r.2.mem ((c.tc : Thread nD τ).loc main_v1_4) = Cert.MainMath.H10 (a0 m c) (a1 m c) (a2 m c) (a3 m c) (a4 m c) := by
  obtain ⟨after, hL, hA⟩ := Pipeline.RDat.FramePost.exists_exact hr c
  exact ⟨(hA 6).trans (arr6 m (fun c' => (rd m c').withAfter after) c fun t hf => (dats m 0 c).toRRel_leaves (w := 6) rfl (hL 6 t hf)),
    (hA 7).trans (arr7 m (fun c' => (rd m c').withAfter after) c fun t hf => (dats m 0 c).toRRel_leaves (w := 7) rfl (hL 7 t hf)),
    (hA 8).trans (arr8 m (fun c' => (rd m c').withAfter after) c fun t hf => (dats m 0 c).toRRel_leaves (w := 8) rfl (hL 8 t hf)),
    (hA 9).trans (arr9 m (fun c' => (rd m c').withAfter after) c fun t hf => (dats m 0 c).toRRel_leaves (w := 9) rfl (hL 9 t hf)),
    (hA 10).trans (arr10 m (fun c' => (rd m c').withAfter after) c fun t hf => (dats m 0 c).toRRel_leaves (w := 10) rfl (hL 10 t hf))⟩

end Cert.KernelIdeal.Hand

end
-- ==== Proof.Main.RefEntries.lean ====
/-
  The reference of the main call, entry by entry.
-/
module

public import proofs.«01_k».proof.Proof.Gen.ReferenceIdeal.Value
public import Idealize.ShloMosaic.Lib.Pointwise

@[expose] public section

set_option maxRecDepth 16384

noncomputable section

namespace Cert.MainMath

open Idealize.ShloMosaic
open Cert.ReferenceIdeal Cert.ReferenceIdeal.Gen

variable (v0 : Vec Ideal S12x2880x2048 .i8) (v1 : Vec Ideal S12x2880x2048 .bf16) (v2 : Vec Ideal S12x2880x16 .f32)
  (v12 : Vec Ideal S12x2880x192 .f32) (v13 : Vec Ideal S12x192x192 .f32)

theorem pay8_at (b : Fin 12) (r : Fin 2880) (k : Fin 192) :
    (k0_pay8 v12 v13 (ix3 b r k) : EReal) = ∑ x : Fin 192, (v12 (ix3 b r x) : EReal) * (v13 (ix3 b k x) : EReal) := by
  pointwise [k0_pay8]

theorem pay7_at (b : Fin 12) (r : Fin 2880) (c : Fin 2048) :
    (k0_pay7 v0 v1 v2 (ix3 b r c) : EReal) = (FloatOps.sitofp (F := Ideal) .f32 (v0 (ix3 b r c)) : EReal) * (v2 (ix3 b r ⟨c.val / 128, by omega⟩) : EReal) + (v1 (ix3 b r c) : EReal) := by
  pointwise [k0_pay7]

theorem pay9_at (b : Fin 12) (c : Fin 2048) (k : Fin 192) :
    (k0_pay9 v0 v1 v2 v12 v13 (ix3 b c k) : EReal) = ∑ x : Fin 2880, (k0_pay7 v0 v1 v2 (ix3 b x c) : EReal) * (k0_pay8 v12 v13 (ix3 b x k) : EReal) := by
  pointwise [k0_pay9]

theorem pay10_at (b : Fin 12) (r : Fin 2880) (c : Fin 2048) :
    (k0_pay10 v0 v1 v2 v12 v13 (ix3 b r c) : EReal) = (k0_pay7 v0 v1 v2 (ix3 b r c) : EReal)
      - Ideal.ofBits FTy.f32 0x3D4CCCCD#32 * ∑ k : Fin 192, (k0_pay8 v12 v13 (ix3 b r k) : EReal) * (k0_pay9 v0 v1 v2 v12 v13 (ix3 b c k) : EReal) := by
  pointwise [k0_pay10]

theorem pay11_at (b : Fin 12) (c : Fin 2048) (k : Fin 192) :
    (k0_pay11 v0 v1 v2 v12 v13 (ix3 b c k) : EReal) = Ideal.div (k0_pay9 v0 v1 v2 v12 v13 (ix3 b c k) : EReal)
      (Ideal.sqrt (∑ x : Fin 2048, (k0_pay9 v0 v1 v2 v12 v13 (ix3 b x k) : EReal) * (k0_pay9 v0 v1 v2 v12 v13 (ix3 b x k) : EReal))) := by
  pointwise [k0_pay11]

theorem pay12_at (b : Fin 12) (r : Fin 2880) (c : Fin 2048) :
    (k0_pay12 v0 v1 v2 v12 v13 (ix3 b r c) : EReal) = Ideal.ofBits FTy.f32 0x3F97CA11#32
      * ∑ k : Fin 192, (k0_pay8 v12 v13 (ix3 b r k) : EReal) * (k0_pay11 v0 v1 v2 v12 v13 (ix3 b c k) : EReal) := by
  pointwise [k0_pay12]

theorem pay1_at (u w : Vec Ideal S12x2880x2048 .f32) (b : Fin 12) (r : Fin 2880) (c : Fin 2048) :
    (k0_pay1 u w (k0_pay13 (F := Ideal)) (ix3 b r c) : EReal) = (w (ix3 b r c) : EReal) - Ideal.ofBits FTy.f32 0x3C23D70A#32 * (u (ix3 b r c) : EReal) := by
  pointwise [k0_pay1, k0_pay13]

theorem pay4_at (u : Vec Ideal S12x2048x192 .bf16) (b : Fin 12) (k : Fin 192) (c : Fin 2048) :
    k0_pay4 (F := Ideal) u (ix3 b k c) = u (ix3 b c k) := by
  pointwise [k0_pay4]

end Cert.MainMath

end
-- ==== Proof.Main.RefScales.lean ====
/-
  The reference's scales and codes, entry by entry.
-/
module

public import proofs.«01_k».proof.Proof.Main.Formulas
public import proofs.«01_k».proof.Proof.Gen.ReferenceIdeal.Value
public import Idealize.ShloMosaic.Lib.Pointwise

@[expose] public section

set_option maxRecDepth 16384

noncomputable section

namespace Cert.MainMath

open Idealize.ShloMosaic
open Cert.ReferenceIdeal Cert.ReferenceIdeal.Gen
open Cert.KernelIdeal.Hand (scl amax quant)

/-- The maximum along the last axis of a rank-4 array. -/
theorem max_last {a b q l : ℕ} (v : FVec Ideal ⟨4, ![a, b, q, l]⟩ .f32) (h : (⟨4, ![a, b, q, l]⟩ : Shape).Reduces [3] ⟨3, ![a, b, q]⟩) (i : Fin a) (j : Fin b) (k : Fin q) (hφ) (hacc) :
    (multiReduction (F := Ideal) .maximumf [3] ⟨3, ![a, b, q]⟩ v 0xFF800000#32 h hφ hacc (ix3 i j k) : EReal)
      = Finset.fold max (Ideal.ofBits FTy.f32 0xFF800000#32) (fun x : Fin l => (v (ix4 i j k x) : EReal)) Finset.univ := by
  simp only [pointwise]

/-- Cutting the last axis into blocks of 128. -/
theorem split_last {α : Type} (x : S12x2880x2048.Idx → α) (h : S12x2880x2048.ShapeCasts S12x2880x16x128)
    (i : Fin 12) (j : Fin 2880) (q : Fin 16) (l : Fin 128) :
    shapeCast S12x2880x16x128 x h (ix4 i j q l) = x (ix3 i j ⟨128 * q.val + l.val, by omega⟩) := by
  have e : (⟨128 * q.val + l.val, by omega⟩ : Fin 2048) = ⟨q.val * 128 + l.val, by omega⟩ := Fin.ext (by show 128 * q.val + l.val = q.val * 128 + l.val; omega)
  rw [e]
  pointwise

/-- Joining the blocks of 128 again. -/
theorem join_last {α : Type} (x : S12x2880x16x128.Idx → α) (h : S12x2880x16x128.ShapeCasts S12x2880x2048)
    (i : Fin 12) (j : Fin 2880) (c : Fin 2048) :
    shapeCast S12x2880x2048 x h (ix3 i j c) = x (ix4 i j ⟨c.val / 128, by omega⟩ ⟨c.val % 128, by omega⟩) := by
  pointwise

/-- Repeating a scale along its block. -/
theorem spread {α : Type} (x : S12x2880x16.Idx → α) (h : S12x2880x16.ShapeCasts S12x2880x16x1) (h' : S12x2880x16x1.Broadcasts S12x2880x16x128)
    (i : Fin 12) (j : Fin 2880) (q : Fin 16) (l : Fin 128) :
    broadcastTo S12x2880x16x128 (shapeCast S12x2880x16x1 x h) h' (ix4 i j q l) = x (ix3 i j q) := by
  pointwise

/-- A comparison with zero that selects. -/
theorem select_zero (a b : EReal) :
    (Scalar.select (FloatOps.cmpf (F := Ideal) (φ := .f32) .oeq a (Scalar.ofBits (F := Ideal) .f32 0x00000000#32)) (Scalar.ofBits (F := Ideal) .f32 0x3F800000#32) b : Ideal .f32) = if a = 0 then (1 : EReal) else b := by
  pointwise

/-- The largest magnitudes of the blocks. -/
def blockMax (u : FVec Ideal S12x2880x2048 .f32) : FVec Ideal S12x2880x16 .f32 :=
  multiReduction (F := Ideal) .maximumf [3] S12x2880x16 (absf (k0_pay2 u)) 0xFF800000#32 reduces_S12x2880x16x128_S12x2880x16 (.inl rfl) rfl

theorem blockMax_at (u : FVec Ideal S12x2880x2048 .f32) (b : Fin 12) (r : Fin 2880) (q : Fin 16) :
    (blockMax u (ix3 b r q) : EReal) = Finset.fold max (Ideal.ofBits FTy.f32 0xFF800000#32) (fun x : Fin 128 => (absf (k0_pay2 u) (ix4 b r q x) : EReal)) Finset.univ :=
  max_last _ _ b r q _ _

theorem pay2_at (u : FVec Ideal S12x2880x2048 .f32) (b : Fin 12) (r : Fin 2880) (q : Fin 16) (l : Fin 128) :
    k0_pay2 (F := Ideal) u (ix4 b r q l) = u (ix3 b r ⟨128 * q.val + l.val, by omega⟩) :=
  split_last u _ b r q l

/-- A block maximum over an array known entry by entry. -/
theorem blockMax_amax (u : FVec Ideal S12x2880x2048 .f32) (N : ℕ → ℕ → EReal) (b : Fin 12)
    (hN : ∀ (r : Fin 2880) (c : Fin 2048), (u (ix3 b r c) : EReal) = N r.val c.val) (r : Fin 2880) (q : Fin 16) :
    (blockMax u (ix3 b r q) : EReal) = amax fun x => N r.val (128 * q.val + x) := by
  rw [blockMax_at]
  unfold amax
  refine congrArg (fun z : Fin 128 → EReal => Finset.fold max (Ideal.ofBits FTy.f32 0xFF800000#32) z Finset.univ) (funext fun x => ?_)
  exact congrArg (FloatOps.absf (F := Ideal) (φ := .f32)) ((pay2_at u b r q x).trans (hN r ⟨128 * q.val + x.val, by omega⟩))

/-- The scales from the block maxima. -/
def scales (X : FVec Ideal S12x2880x16 .f32) : FVec Ideal S12x2880x16 .f32 :=
  select (cmpf .oeq X (broadcast S12x2880x16 (Scalar.ofBits .f32 0x00000000#32))) (broadcast S12x2880x16 (Scalar.ofBits .f32 0x3F800000#32)) (divf X (broadcast S12x2880x16 (Scalar.ofBits .f32 0x42FE0000#32)))

theorem scales_at (X : FVec Ideal S12x2880x16 .f32) (i : S12x2880x16.Idx) :
    (scales X i : EReal) = if (X i : EReal) = 0 then (1 : EReal) else Ideal.div (X i) (Ideal.ofBits FTy.f32 0x42FE0000#32) :=
  select_zero (X i) _

theorem pay3_eq (u : FVec Ideal S12x2880x2048 .f32) : k0_pay3 (F := Ideal) u = scales (blockMax u) := rfl

/-- The new scales. -/
theorem pay3_at (u : FVec Ideal S12x2880x2048 .f32) (N : ℕ → ℕ → EReal) (b : Fin 12)
    (hN : ∀ (r : Fin 2880) (c : Fin 2048), (u (ix3 b r c) : EReal) = N r.val c.val) (r : Fin 2880) (q : Fin 16) :
    (k0_pay3 (F := Ideal) u (ix3 b r q) : EReal) = SV N r.val q.val := by
  rw [pay3_eq, scales_at, blockMax_amax u N b hN r q]
  rfl

theorem pay6_at (u : FVec Ideal S12x2880x2048 .f32) (b : Fin 12) (q : Fin 16) (r : Fin 2880) :
    k0_pay6 (F := Ideal) u (ix3 b q r) = k0_pay3 (F := Ideal) u (ix3 b r q) := by
  unfold k0_pay6
  generalize k0_pay3 (F := Ideal) u = X
  pointwise

/-- The codes from the entries cut into blocks and the scales. -/
def codes (X : FVec Ideal S12x2880x16x128 .f32) (Y : FVec Ideal S12x2880x16 .f32) : IVec S12x2880x16x128 8 :=
  fptosi 8 (minimumf (broadcast S12x2880x16x128 (Scalar.sitofp (F := Ideal) .f32 127#32)) (maximumf (broadcast S12x2880x16x128 (Scalar.sitofp (F := Ideal) .f32 4294967169#32))
    (roundeven (divf X (broadcastTo S12x2880x16x128 (shapeCast S12x2880x16x1 Y shapeCasts_S12x2880x16_S12x2880x16x1) broadcasts_S12x2880x16x1_S12x2880x16x128)))))

theorem pay5_eq (u : FVec Ideal S12x2880x2048 .f32) : k0_pay5 (F := Ideal) u = shapeCast S12x2880x2048 (codes (k0_pay2 u) (k0_pay3 u)) shapeCasts_S12x2880x16x128_S12x2880x2048 := rfl

/-- The bounds of the codes, from the integers. -/
theorem hi_eq : (Scalar.sitofp (F := Ideal) .f32 127#32 : Ideal .f32) = Ideal.ofBits FTy.f32 0x42FE0000#32 := by
  have e : Ideal.ofBits FTy.f32 0x42FE0000#32 = ((127 : ℝ) : EReal) := by
    simp [Ideal.ofBits, Ideal.ieee, -EReal.coe_mul]; norm_num
  rw [e]
  show (((127#32 : BitVec 32).toInt : ℝ) : EReal) = _
  rw [show (127#32 : BitVec 32).toInt = 127 by decide]
  norm_num
theorem lo_eq : (Scalar.sitofp (F := Ideal) .f32 4294967169#32 : Ideal .f32) = Ideal.ofBits FTy.f32 0xC2FE0000#32 := by
  have e : Ideal.ofBits FTy.f32 0xC2FE0000#32 = ((-(127 : ℝ)) : EReal) := by
    simp [Ideal.ofBits, Ideal.ieee, -EReal.coe_mul, -EReal.coe_neg]; norm_num
  rw [e]
  show (((4294967169#32 : BitVec 32).toInt : ℝ) : EReal) = _
  rw [show (4294967169#32 : BitVec 32).toInt = -127 by decide]
  norm_num

theorem codes_at (X : FVec Ideal S12x2880x16x128 .f32) (Y : FVec Ideal S12x2880x16 .f32) (b : Fin 12) (r : Fin 2880) (q : Fin 16) (l : Fin 128) :
    codes X Y (ix4 b r q l) = quant (X (ix4 b r q l)) (Y (ix3 b r q)) := by
  show FloatOps.fptosi (F := Ideal) (φ := .f32) 8 (min (Scalar.sitofp (F := Ideal) .f32 127#32 : EReal) (max (Scalar.sitofp (F := Ideal) .f32 4294967169#32 : EReal)
    (Ideal.liftRound Ideal.roundHalfEven (Ideal.div (X (ix4 b r q l)) (broadcastTo S12x2880x16x128 (shapeCast S12x2880x16x1 Y shapeCasts_S12x2880x16_S12x2880x16x1) broadcasts_S12x2880x16x1_S12x2880x16x128 (ix4 b r q l)))))) = _
  rw [spread, hi_eq, lo_eq]
  rfl

/-- The new codes. -/
theorem pay5_at (u : FVec Ideal S12x2880x2048 .f32) (N : ℕ → ℕ → EReal) (b : Fin 12)
    (hN : ∀ (r : Fin 2880) (c : Fin 2048), (u (ix3 b r c) : EReal) = N r.val c.val) (r : Fin 2880) (c : Fin 2048) :
    k0_pay5 (F := Ideal) u (ix3 b r c) = CV N r.val c.val := by
  rw [pay5_eq, join_last, codes_at, pay3_at u N b hN, pay2_at, hN]
  unfold CV
  refine congrArg (fun z => quant (N r.val z) _) ?_
  show 128 * (c.val / 128) + c.val % 128 = c.val
  omega

end Cert.MainMath

end
-- ==== Proof.Main.RefResults.lean ====
/-
  The reference's results are the formulas.
-/
module

public import proofs.«01_k».proof.Proof.Main.RefEntries
public import proofs.«01_k».proof.Proof.Main.RefScales
public import proofs.«01_k».proof.Proof.Gen.ReferenceIdeal.Value

@[expose] public section

set_option maxRecDepth 16384

noncomputable section

namespace Cert.MainMath

open Idealize.ShloMosaic
open Cert.ReferenceIdeal Cert.ReferenceIdeal.Gen Cert.ReferenceIdeal.Value

variable (v0 : Vec Ideal S12x2880x2048 .i8) (v1 : Vec Ideal S12x2880x2048 .bf16) (v2 : Vec Ideal S12x2880x16 .f32)
  (v3 : Vec Ideal S12x2880x192 .f32) (v4 : Vec Ideal S12x192x192 .f32) (v5 : Vec Ideal S12x2880x2048 .f32)

theorem ref_P (b : Fin 12) (r : Fin 2880) (k : Fin 192) : (k0_pay8 (F := Ideal) v3 v4 (ix3 b r k) : EReal) = PB v3 v4 b.val r.val k.val := by
  rw [pay8_at]
  show (∑ x : Fin 192, (v3 (ix3 b r x) : EReal) * (v4 (ix3 b k x) : EReal))
    = ∑ x : Fin 192, at3b (α := EReal) v3 b.val r.val x.val * at3b (α := EReal) v4 b.val k.val x.val
  refine Finset.sum_congr rfl fun x _ => ?_
  rw [at3b_ix3 (α := EReal) v3, at3b_ix3 (α := EReal) v4]

theorem ref_M (b : Fin 12) (r : Fin 2880) (c : Fin 2048) : (k0_pay7 (F := Ideal) v0 v1 v2 (ix3 b r c) : EReal) = MB v0 v1 v2 b.val r.val c.val := by
  rw [pay7_at]
  unfold MB MV Cert.KernelIdeal.Hand.deq
  rw [← at3b_ix3 (α := BitVec 8) v0, ← at3b_ix3 (α := EReal) v1, ← at3b_ix3 (α := EReal) v2]

theorem ref_R (b : Fin 12) (c : Fin 2048) (k : Fin 192) : (k0_pay9 (F := Ideal) v0 v1 v2 v3 v4 (ix3 b c k) : EReal) = RB v0 v1 v2 v3 v4 b.val k.val c.val := by
  rw [pay9_at]
  show (∑ x : Fin 2880, (k0_pay7 (F := Ideal) v0 v1 v2 (ix3 b x c) : EReal) * (k0_pay8 (F := Ideal) v3 v4 (ix3 b x k) : EReal))
    = ∑ x : Fin 2880, PB v3 v4 b.val x.val k.val * MB v0 v1 v2 b.val x.val c.val
  refine Finset.sum_congr rfl fun x _ => ?_
  rw [ref_M, ref_P, mul_comm]

theorem ref_Q (b : Fin 12) (c : Fin 2048) (k : Fin 192) : (k0_pay11 (F := Ideal) v0 v1 v2 v3 v4 (ix3 b c k) : EReal) = QB v0 v1 v2 v3 v4 b.val k.val c.val := by
  rw [pay11_at, ref_R]
  refine congrArg (fun z => Ideal.div (RB v0 v1 v2 v3 v4 b.val k.val c.val) (Ideal.sqrt z)) (Finset.sum_congr rfl fun x _ => ?_)
  rw [ref_R]

theorem ref_U (b : Fin 12) (r : Fin 2880) (c : Fin 2048) : (k0_pay12 (F := Ideal) v0 v1 v2 v3 v4 (ix3 b r c) : EReal) = UB v0 v1 v2 v3 v4 b.val r.val c.val := by
  rw [pay12_at]
  refine congrArg (fun z => Ideal.ofBits FTy.f32 0x3F97CA11#32 * z) (Finset.sum_congr rfl fun x _ => ?_)
  rw [ref_P, ref_Q]

theorem ref_N (b : Fin 12) (r : Fin 2880) (c : Fin 2048) : (k0_pay10 (F := Ideal) v0 v1 v2 v3 v4 (ix3 b r c) : EReal) = NB v0 v1 v2 v3 v4 b.val r.val c.val := by
  rw [pay10_at, ref_M]
  refine congrArg (fun z => MB v0 v1 v2 b.val r.val c.val - Ideal.ofBits FTy.f32 0x3D4CCCCD#32 * z) (Finset.sum_congr rfl fun x _ => ?_)
  rw [ref_P, ref_R]

/-! A load through the whole of a block is the block. -/

theorem pay14_eq : k0_pay14 (F := Ideal) v0 v1 v2 v3 v4 v5 = k0_pay10 v0 v1 v2 v3 v4 := by
  unfold k0_pay14
  rw [View.ld_unit_zero (S := S12x2880x2048) hz0 _ v0, View.ld_unit_zero (S := S12x2880x2048) hz1 _ v1,
    View.ld_unit_zero (S := S12x2880x16) hz2 _ v2, View.ld_unit_zero (S := S12x2880x192) hz3 _ v3, View.ld_unit_zero (S := S12x192x192) hz4 _ v4]

theorem pay15_eq : k0_pay15 (F := Ideal) v0 v1 v2 v3 v4 v5 = k0_pay12 v0 v1 v2 v3 v4 := by
  unfold k0_pay15
  rw [View.ld_unit_zero (S := S12x2880x2048) hz0 _ v0, View.ld_unit_zero (S := S12x2880x2048) hz1 _ v1,
    View.ld_unit_zero (S := S12x2880x16) hz2 _ v2, View.ld_unit_zero (S := S12x2880x192) hz3 _ v3, View.ld_unit_zero (S := S12x192x192) hz4 _ v4]

theorem ref6 : G6 (F := Ideal) v0 v1 v2 v3 v4 v5 = H6 v0 v1 v2 v3 v4 v5 := by
  funext y
  obtain ⟨b, r, c, rfl⟩ : ∃ (b : Fin 12) (r : Fin 2880) (c : Fin 2048), y = ix3 b r c := ⟨y 0, y 1, y 2, eq_ix3 y⟩
  show (k0_pay1 (F := Ideal) (k0_pay15 v0 v1 v2 v3 v4 v5) v5 k0_pay13 (ix3 b r c) : EReal) = WV (at3b (α := EReal) v5 b.val) (UB v0 v1 v2 v3 v4 b.val) r.val c.val
  rw [pay15_eq, pay1_at, ref_U, ← at3b_ix3 (α := EReal) v5]
  rfl

theorem ref7 : G7 (F := Ideal) v0 v1 v2 v3 v4 v5 = H7 v0 v1 v2 v3 v4 := by
  funext y
  obtain ⟨b, r, c, rfl⟩ : ∃ (b : Fin 12) (r : Fin 2880) (c : Fin 2048), y = ix3 b r c := ⟨y 0, y 1, y 2, eq_ix3 y⟩
  show (k0_pay15 (F := Ideal) v0 v1 v2 v3 v4 v5 (ix3 b r c) : EReal) = UB v0 v1 v2 v3 v4 b.val r.val c.val
  rw [pay15_eq, ref_U]

theorem ref8 : G8 (F := Ideal) v0 v1 v2 v3 v4 v5 = H8 v0 v1 v2 v3 v4 := by
  funext y
  obtain ⟨b, r, c, rfl⟩ : ∃ (b : Fin 12) (r : Fin 192) (c : Fin 2048), y = ix3 b r c := ⟨y 0, y 1, y 2, eq_ix3 y⟩
  show (k0_pay4 (F := Ideal) (k0_pay11 v0 v1 v2 v3 v4) (ix3 b r c) : EReal) = QB v0 v1 v2 v3 v4 b.val r.val c.val
  rw [pay4_at, ref_Q]

theorem ref9 : G9 (F := Ideal) v0 v1 v2 v3 v4 v5 = H9 v0 v1 v2 v3 v4 := by
  funext y
  obtain ⟨b, r, c, rfl⟩ : ∃ (b : Fin 12) (r : Fin 2880) (c : Fin 2048), y = ix3 b r c := ⟨y 0, y 1, y 2, eq_ix3 y⟩
  show k0_pay5 (F := Ideal) (k0_pay14 v0 v1 v2 v3 v4 v5) (ix3 b r c) = CV (NB v0 v1 v2 v3 v4 b.val) r.val c.val
  rw [pay14_eq]
  exact pay5_at _ (NB v0 v1 v2 v3 v4 b.val) b (fun r c => ref_N v0 v1 v2 v3 v4 b r c) r c

theorem ref10 : G10 (F := Ideal) v0 v1 v2 v3 v4 v5 = H10 v0 v1 v2 v3 v4 := by
  funext y
  obtain ⟨b, r, c, rfl⟩ : ∃ (b : Fin 12) (r : Fin 16) (c : Fin 2880), y = ix3 b r c := ⟨y 0, y 1, y 2, eq_ix3 y⟩
  show (k0_pay6 (F := Ideal) (k0_pay14 v0 v1 v2 v3 v4 v5) (ix3 b r c) : EReal) = SV (NB v0 v1 v2 v3 v4 b.val) c.val r.val
  rw [pay14_eq, pay6_at]
  exact pay3_at _ (NB v0 v1 v2 v3 v4 b.val) b (fun r c => ref_N v0 v1 v2 v3 v4 b r c) c r

end Cert.MainMath

end
-- ==== Proof.Main.Algebraic.lean ====
/-
  The main call and its reference compute the same results at the ideal instance.
-/
module

public import proofs.«01_k».proof.Defs
public import proofs.«01_k».proof.Proof.KernelIdeal.Final
public import proofs.«01_k».proof.Proof.Main.RefResults

@[expose] public section

noncomputable section

namespace Cert.MainMath

open Idealize.ShloMosaic Idealize.SL.Sem Idealize.ShloMosaic.TcCoe
open Cert.KernelIdeal.Hand (a0 a1 a2 a3 a4 a5)

set_option maxHeartbeats 1000000 in
theorem algebraic : algebraic_KernelIdeal_ReferenceIdeal (hKernelIdeal := Cert.KernelIdeal.Gen.facts) (hReferenceIdeal := Cert.ReferenceIdeal.Gen.facts) := by
  intro m g m' g' _ hm
  refine ⟨fun c => H6 (a0 m c) (a1 m c) (a2 m c) (a3 m c) (a4 m c) (a5 m c), fun c => H7 (a0 m c) (a1 m c) (a2 m c) (a3 m c) (a4 m c),
    fun c => H8 (a0 m c) (a1 m c) (a2 m c) (a3 m c) (a4 m c), fun c => H9 (a0 m c) (a1 m c) (a2 m c) (a3 m c) (a4 m c),
    fun c => H10 (a0 m c) (a1 m c) (a2 m c) (a3 m c) (a4 m c), ?_, ?_⟩
  · refine (θ_run _ _ _).mono (fun r hr c => ?_) (Cert.KernelIdeal.Hand.run_main_quiescent m g)
    obtain ⟨h0, h1, h2, h3, h4⟩ := Cert.KernelIdeal.Hand.results m hr.1 c
    exact ⟨h0, h1, h2, h3, h4, Cert.KernelIdeal.Hand.args_unchanged m hr.1 c⟩
  · refine (θ_run _ _ _).mono (fun r hr c => ?_) (Cert.ReferenceIdeal.Value.run (F := Ideal) m' g')
    obtain ⟨h0, h1, h2, h3, h4, hk⟩ := hr c
    obtain ⟨e0, e1, e2, e3, e4, e5⟩ := hm c
    refine ⟨h0.trans ?_, h1.trans ?_, h2.trans ?_, h3.trans ?_, h4.trans ?_, hk⟩
    · rw [ref6]; exact congr (congr (congr (congr (congr (congrArg H6 e0) e1) e2) e3) e4) e5
    · rw [ref7]; exact congr (congr (congr (congr (congrArg H7 e0) e1) e2) e3) e4
    · rw [ref8]; exact congr (congr (congr (congr (congrArg H8 e0) e1) e2) e3) e4
    · rw [ref9]; exact congr (congr (congr (congr (congrArg H9 e0) e1) e2) e3) e4
    · rw [ref10]; exact congr (congr (congr (congr (congrArg H10 e0) e1) e2) e3) e4

end Cert.MainMath

end
-- ==== Proof.Gram.Spec.lean ====
/-
  The projection kernel's tiles as formulas.
-/
module

public import proofs.«01_k».proof.Proof.KernelIdeal.Spec
public import proofs.«01_k».proof.Proof.Gen.GramIdeal.Value

@[expose] public section

set_option maxRecDepth 16384

noncomputable section

namespace Cert.GramIdeal.Hand

open Cert.GramIdeal Cert.GramIdeal.Gen
open Idealize.ShloMosaic Idealize.ShloMosaic.TcCoe Idealize.ShloMosaic.Tactic
open Cert.KernelIdeal.Hand (at2 at3 deq eq_at2 eq_at3 at2_congr at3_congr emb_val mem_unit2 mem_unit3 dv0 dv1 dv2 dv3 dv4 dv5 dv6 dv7 dv8 dv9 dv10 dv11 dv12 dv13 dv14 dv15)

/-- The exact reading of the floating-point types. -/
abbrev F : FTy → Type := Idealize.ShloMosaic.Ideal

theorem off1 (i : grid0.Coords) : k0_off1 i = ![192 * (i 1).val, 0] := by
  unfold k0_off1; exact congrArg (fun z => ![z, 0]) (Cert.KernelIdeal.Hand.off_val (i 1))

/-- The scales with the axes exchanged. -/
def GS (x2 : Vec F S1x16x2880 .f32) : Vec F S2880x16 .f32 := fun y => at3 (α := EReal) x2 (y 1).val (y 0).val

/-- The projection with the axes exchanged. -/
def GQ (x3 : Vec F S1x192x2048 .bf16) : Vec F S2048x192 .bf16 := fun y => at3 (α := EReal) x3 (y 1).val (y 0).val

/-- The dequantised tile plus the gradient. -/
def GM (t : ℕ) (x0 : Vec F S1x192x2048 .i8) (x1 : Vec F S1x192x2048 .bf16) (s : Vec F S2880x16 .f32) : Vec F S192x2048 .bf16 := fun y =>
  deq (at3 (α := BitVec 8) x0 (y 0).val (y 1).val) (at2 (α := EReal) s (192 * t + (y 0).val) ((y 1).val / 128)) (at3 (α := EReal) x1 (y 0).val (y 1).val)

/-- An entry of the projected tile. -/
def pV (M : Vec F S192x2048 .bf16) (q : Vec F S2048x192 .bf16) (r k : ℕ) : EReal :=
  ∑ x : Fin 2048, at2 (α := EReal) M r x.val * at2 (α := EReal) q x.val k

/-- The projected tile. -/
def GP (M : Vec F S192x2048 .bf16) (q : Vec F S2048x192 .bf16) : Vec F S1x192x192 .f32 := fun y => pV M q (y 1).val (y 2).val

/-- The Gram matrix after one more tile. -/
def GG (M : Vec F S192x2048 .bf16) (q : Vec F S2048x192 .bf16) (g : Vec F S1x192x192 .f32) : Vec F S1x192x192 .f32 := fun y =>
  at3 (α := EReal) g (y 1).val (y 2).val + ∑ x : Fin 192, pV M q x.val (y 1).val * pV M q x.val (y 2).val

end Cert.GramIdeal.Hand

end
-- ==== Proof.Gram.Pieces.lean ====
/-
  What the stores of the projection kernel's scratch buffers hold.
-/
module

public import proofs.«01_k».proof.Proof.Gram.Spec

@[expose] public section

set_option maxRecDepth 16384

noncomputable section

namespace Cert.GramIdeal.Hand

open Cert.GramIdeal Cert.GramIdeal.Gen
open Idealize.ShloMosaic Idealize.ShloMosaic.TcCoe Idealize.ShloMosaic.Tactic
open Cert.KernelIdeal.Hand (at2 at3 deq eq_at2 eq_at3 at2_congr at3_congr emb_val mem_unit2 mem_unit3 dv0 dv1 dv2 dv3 dv4 dv5 dv6 dv7 dv8 dv9 dv10 dv11 dv12 dv13 dv14 dv15)

/-- Flattening the one-matrix axis keeps the other coordinates. -/
theorem resh4 (hn : S16x2880.numel = S1x16x2880.numel) (r : Fin 16) (c : Fin 2880) :
    Shape.reshapeEquiv hn (ix2 r c : S16x2880.Idx) = (ix3 0 r c : S1x16x2880.Idx) :=
  Shape.reshapeEquiv_eq_of_rowMajor hn (by
    rw [Shape.rowMajor_val_three, Shape.rowMajor_val_two]
    show ((0 * 16 + r.val) * 2880 + c.val) = r.val * 2880 + c.val
    rw [Nat.zero_mul, Nat.zero_add])

/-- The same for the projection. -/
theorem resh5 (hn : S192x2048.numel = S1x192x2048.numel) (r : Fin 192) (c : Fin 2048) :
    Shape.reshapeEquiv hn (ix2 r c : S192x2048.Idx) = (ix3 0 r c : S1x192x2048.Idx) :=
  Shape.reshapeEquiv_eq_of_rowMajor hn (by
    rw [Shape.rowMajor_val_three, Shape.rowMajor_val_two]
    show ((0 * 192 + r.val) * 2048 + c.val) = r.val * 2048 + c.val
    rw [Nat.zero_mul, Nat.zero_add])

/-- A load through the flattened scales reads the scales. -/
theorem read_st (m : Memref sig .tc .vmem S1x16x2880 .f32) (hm : m.IsWhole) (X : Vec F S1x16x2880 .f32) (hb) (hn) (off size : Fin 2 → ℕ) (inb) (y : (Rect.unit (s := S16x2880) off size inb).shape.Idx) :
    View.readAt (Elt F) ((m.view.slice (Rect.unit (s := S1x16x2880) ![0, 0, 0] ![1, 16, 2880] hb)).reshape S16x2880 hn) (Rect.unit (s := S16x2880) off size inb).toLoadRect (hm.unread X) y
      = at3 (α := EReal) X (off 0 + (y 0).val) (off 1 + (y 1).val) := by
  refine (congrFun (hm.read_unread X) _ : _ = X ((Rect.unit (s := S1x16x2880) ![0, 0, 0] ![1, 16, 2880] hb).emb (Shape.reshapeEquiv hn ((Rect.unit (s := S16x2880) off size inb).emb y)))).trans ?_
  rw [eq_at3 X, eq_ix2 ((Rect.unit (s := S16x2880) off size inb).emb y)]
  refine at3_congr _ ?_ ?_
  · exact (emb_val (s := S1x16x2880) _ _ hb _ 1).trans ((congrArg (fun z : S1x16x2880.Idx => 0 + (z 1).val) (resh4 hn _ _)).trans ((Nat.zero_add _).trans (emb_val (s := S16x2880) off size inb y 0)))
  · exact (emb_val (s := S1x16x2880) _ _ hb _ 2).trans ((congrArg (fun z : S1x16x2880.Idx => 0 + (z 2).val) (resh4 hn _ _)).trans ((Nat.zero_add _).trans (emb_val (s := S16x2880) off size inb y 1)))

/-- A load through the flattened projection reads the projection. -/
theorem read_qt (m : Memref sig .tc .vmem S1x192x2048 .bf16) (hm : m.IsWhole) (X : Vec F S1x192x2048 .bf16) (hb) (hn) (off size : Fin 2 → ℕ) (inb) (y : (Rect.unit (s := S192x2048) off size inb).shape.Idx) :
    View.readAt (Elt F) ((m.view.slice (Rect.unit (s := S1x192x2048) ![0, 0, 0] ![1, 192, 2048] hb)).reshape S192x2048 hn) (Rect.unit (s := S192x2048) off size inb).toLoadRect (hm.unread X) y
      = at3 (α := EReal) X (off 0 + (y 0).val) (off 1 + (y 1).val) := by
  refine (congrFun (hm.read_unread X) _ : _ = X ((Rect.unit (s := S1x192x2048) ![0, 0, 0] ![1, 192, 2048] hb).emb (Shape.reshapeEquiv hn ((Rect.unit (s := S192x2048) off size inb).emb y)))).trans ?_
  rw [eq_at3 X, eq_ix2 ((Rect.unit (s := S192x2048) off size inb).emb y)]
  refine at3_congr _ ?_ ?_
  · exact (emb_val (s := S1x192x2048) _ _ hb _ 1).trans ((congrArg (fun z : S1x192x2048.Idx => 0 + (z 1).val) (resh5 hn _ _)).trans ((Nat.zero_add _).trans (emb_val (s := S192x2048) off size inb y 0)))
  · exact (emb_val (s := S1x192x2048) _ _ hb _ 2).trans ((congrArg (fun z : S1x192x2048.Idx => 0 + (z 2).val) (resh5 hn _ _)).trans ((Nat.zero_add _).trans (emb_val (s := S192x2048) off size inb y 1)))

set_option maxHeartbeats 4000000 in
/-- What the stores to the scale scratch hold. -/
theorem piecesS0 (c : Dev nD) (arg4 : Memref sig .tc .vmem S1x16x2880 .f32) (harg4 : arg4.IsWhole) (x2 : Vec F S1x16x2880 .f32) :
    ∀ q ∈ kernelRun0_A.sl.HS0_23 (F := F) c arg4 harg4 x2, ∀ x : q.1.shape.Idx, q.2 x = GS x2 (q.1.emb x) := by
  unfold kernelRun0_A.sl.HS0_23
  simp only [List.forall_mem_cons]
  repeat' apply And.intro
  rotate_right
  · intro q hq; cases hq
  all_goals
    intro x
    idx_vars x
    try simp only [kernelRun0_A.sl.v288, kernelRun0_A.sl.v256, kernelRun0_A.sl.v406, kernelRun0_A.sl.v259, kernelRun0_A.sl.v408, kernelRun0_A.sl.v296, kernelRun0_A.sl.v376, kernelRun0_A.sl.v359, kernelRun0_A.sl.v251, kernelRun0_A.sl.v336, kernelRun0_A.sl.v424, kernelRun0_A.sl.v350, kernelRun0_A.sl.v327, kernelRun0_A.sl.v247, kernelRun0_A.sl.v303, kernelRun0_A.sl.v342, kernelRun0_A.sl.v311, kernelRun0_A.sl.v366, kernelRun0_A.sl.v392, kernelRun0_A.sl.v286, kernelRun0_A.sl.v312, kernelRun0_A.sl.v328, kernelRun0_A.sl.v267, kernelRun0_A.sl.v374, kernelRun0_A.sl.v390, kernelRun0_A.sl.v307, kernelRun0_A.sl.v279, kernelRun0_A.sl.v384, kernelRun0_A.sl.v_1, kernelRun0_A.sl.v419, kernelRun0_A.sl.v416, kernelRun0_A.sl.v278, kernelRun0_A.sl.v398, kernelRun0_A.sl.v275, kernelRun0_A.sl.v294, kernelRun0_A.sl.v320, kernelRun0_A.sl.v352, kernelRun0_A.sl.v248, kernelRun0_A.sl.v363, kernelRun0_A.sl.v351, kernelRun0_A.sl.v272, kernelRun0_A.sl.v375, kernelRun0_A.sl.v360, kernelRun0_A.sl.v295, kernelRun0_A.sl.v339, kernelRun0_A.sl.v287, kernelRun0_A.sl.v358, kernelRun0_A.sl.v335, kernelRun0_A.sl.v254, kernelRun0_A.sl.v407, kernelRun0_A.sl.v367, kernelRun0_A.sl.v391, kernelRun0_A.sl.v399, kernelRun0_A.sl.v318, kernelRun0_A.sl.v271, kernelRun0_A.sl.v395, kernelRun0_A.sl.v415, kernelRun0_A.sl.v264, kernelRun0_A.sl.v323, kernelRun0_A.sl.v411, kernelRun0_A.sl.v400, kernelRun0_A.sl.v371, kernelRun0_A.sl.v283, kernelRun0_A.sl.v299, kernelRun0_A.sl.v331, kernelRun0_A.sl.v310, kernelRun0_A.sl.v315, kernelRun0_A.sl.v246, kernelRun0_A.sl.v382, kernelRun0_A.sl.v291, kernelRun0_A.sl.v379, kernelRun0_A.sl.v347, kernelRun0_A.sl.v387, kernelRun0_A.sl.v427, kernelRun0_A.sl.v304, kernelRun0_A.sl.v319, kernelRun0_A.sl.v423, kernelRun0_A.sl.v403, kernelRun0_A.sl.v414, kernelRun0_A.sl.v383, kernelRun0_A.sl.v262, kernelRun0_A.sl.v344, kernelRun0_A.sl.v263, kernelRun0_A.sl.v255, kernelRun0_A.sl.v368, kernelRun0_A.sl.v280, kernelRun0_A.sl.v355, kernelRun0_A.sl.v343, kernelRun0_A.sl.v326, kernelRun0_A.sl.v334, kernelRun0_A.sl.v, kernelRun0_A.sl.v270]
    unfold_payloads
    pointwise [Memref.IsWhole.readAt_unread]
    rw [read_st]
    try simp [GS, emb_val, ix2, ix3]

set_option maxHeartbeats 4000000 in
/-- What the stores to the projection scratch hold. -/
theorem piecesS1 (c : Dev nD) (arg5 : Memref sig .tc .vmem S1x192x2048 .bf16) (harg5 : arg5.IsWhole) (x3 : Vec F S1x192x2048 .bf16) :
    ∀ q ∈ kernelRun0_A.sl.HS1_16 (F := F) c arg5 harg5 x3, ∀ x : q.1.shape.Idx, q.2 x = GQ x3 (q.1.emb x) := by
  unfold kernelRun0_A.sl.HS1_16
  simp only [List.forall_mem_cons]
  repeat' apply And.intro
  rotate_right
  · intro q hq; cases hq
  all_goals
    intro x
    idx_vars x
    try simp only [kernelRun0_A.sl.v446, kernelRun0_A.sl.v454, kernelRun0_A.sl.v499, kernelRun0_A.sl.v467, kernelRun0_A.sl.v512, kernelRun0_A.sl.v535, kernelRun0_A.sl.v504, kernelRun0_A.sl.v519, kernelRun0_A.sl.v451, kernelRun0_A.sl.v431, kernelRun0_A.sl.v_2, kernelRun0_A.sl.v472, kernelRun0_A.sl.v432, kernelRun0_A.sl.v440, kernelRun0_A.sl.v507, kernelRun0_A.sl.v520, kernelRun0_A.sl.v486, kernelRun0_A.sl.v483, kernelRun0_A.sl.v488, kernelRun0_A.sl.v495, kernelRun0_A.sl.v550, kernelRun0_A.sl.v536, kernelRun0_A.sl.v480, kernelRun0_A.sl.v447, kernelRun0_A.sl.v528, kernelRun0_A.sl.v503, kernelRun0_A.sl.v478, kernelRun0_A.sl.v430, kernelRun0_A.sl.v526, kernelRun0_A.sl.v491, kernelRun0_A.sl.v510, kernelRun0_A.sl.v443, kernelRun0_A.sl.v471, kernelRun0_A.sl.v518, kernelRun0_A.sl.v479, kernelRun0_A.sl.v456, kernelRun0_A.sl.v439, kernelRun0_A.sl.v534, kernelRun0_A.sl.v515, kernelRun0_A.sl.v487, kernelRun0_A.sl.v494, kernelRun0_A.sl.v502, kernelRun0_A.sl.v463, kernelRun0_A.sl.v448, kernelRun0_A.sl.v523, kernelRun0_A.sl.v527, kernelRun0_A.sl.v455, kernelRun0_A.sl.v475, kernelRun0_A.sl.v464, kernelRun0_A.sl.v459, kernelRun0_A.sl.v435, kernelRun0_A.sl.v496, kernelRun0_A.sl.v511, kernelRun0_A.sl.v531, kernelRun0_A.sl.v462, kernelRun0_A.sl.v470, kernelRun0_A.sl.v539, kernelRun0_A.sl.v438]
    unfold_payloads
    pointwise [Memref.IsWhole.readAt_unread]
    rw [read_qt]
    try simp [GQ, emb_val, ix2, ix3]

set_option maxHeartbeats 4000000 in
theorem coverS0 (c : Dev nD) (arg4 : Memref sig .tc .vmem S1x16x2880 .f32) (harg4 : arg4.IsWhole) (x2 : Vec F S1x16x2880 .f32) (y : S2880x16.Idx) :
    ∃ q ∈ kernelRun0_A.sl.HS0_23 (F := F) c arg4 harg4 x2, y ∈ q.1.set := by
  have b0 : (y 0).val < 2880 := (y 0).isLt
  have b1 : (y 1).val < 16 := (y 1).isLt
  unfold kernelRun0_A.sl.HS0_23
  simp only [List.exists_mem_cons_iff, mem_unit2]
  simp
  omega

set_option maxHeartbeats 4000000 in
theorem coverS1 (c : Dev nD) (arg5 : Memref sig .tc .vmem S1x192x2048 .bf16) (harg5 : arg5.IsWhole) (x3 : Vec F S1x192x2048 .bf16) (y : S2048x192.Idx) :
    ∃ q ∈ kernelRun0_A.sl.HS1_16 (F := F) c arg5 harg5 x3, y ∈ q.1.set := by
  have b0 : (y 0).val < 2048 := (y 0).isLt
  have b1 : (y 1).val < 192 := (y 1).isLt
  unfold kernelRun0_A.sl.HS1_16
  simp only [List.exists_mem_cons_iff, mem_unit2]
  simp
  omega

end Cert.GramIdeal.Hand

end
-- ==== Proof.Gram.Tiles.lean ====
/-
  What the stores of the dequantised tile hold.
-/
module

public import proofs.«01_k».proof.Proof.Gram.Pieces

@[expose] public section

set_option maxRecDepth 16384

noncomputable section

namespace Cert.GramIdeal.Hand

open Cert.GramIdeal Cert.GramIdeal.Gen
open Idealize.ShloMosaic Idealize.ShloMosaic.TcCoe Idealize.ShloMosaic.Tactic
open Cert.KernelIdeal.Hand (at2 at3 deq eq_at2 eq_at3 at2_congr at3_congr emb_val mem_unit2 mem_unit3 dv0 dv1 dv2 dv3 dv4 dv5 dv6 dv7 dv8 dv9 dv10 dv11 dv12 dv13 dv14 dv15)

/-- A load of the scale scratch after its stores. -/
theorem readS0 (c : Dev nD) (arg4 : Memref sig .tc .vmem S1x16x2880 .f32) (harg4 : arg4.IsWhole) (arg8 : Memref sig .tc .vmem S2880x16 .f32) (x2 : Vec F S1x16x2880 .f32) (f) (off size : Fin 2 → ℕ) (inb) (z : (Rect.unit (s := S2880x16) off size inb).shape.Idx) :
    View.readAt (Elt F) arg8.view (Rect.unit (s := S2880x16) off size inb).toLoadRect (arg8.view.writes (Elt F) f (kernelRun0_A.sl.HS0_23 (F := F) c arg4 harg4 x2)) z
      = GS x2 ((Rect.unit (s := S2880x16) off size inb).emb z) :=
  View.read_writes_apply_of_pieces _ f _ _ (piecesS0 c arg4 harg4 x2) _ (coverS0 c arg4 harg4 x2 _)

set_option maxHeartbeats 4000000 in
/-- What the stores to the tile hold, at the first tile of a matrix. -/
theorem piecesA (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg8 : Memref sig .tc .vmem S2880x16 .f32) (u0 : Vec F S1x192x2048 .i8) (u1 : Vec F S1x192x2048 .bf16) (x2 : Vec F S1x16x2880 .f32) :
    ∀ q ∈ kernelRun0_A.sl.HS2_16 (F := F) c i arg2 harg2 arg3 harg3 arg4 harg4 arg8 u0 u1 x2, ∀ x : q.1.shape.Idx, q.2 x = GM (i 1).val u0 u1 (GS x2) (q.1.emb x) := by
  unfold kernelRun0_A.sl.HS2_16
  simp only [List.forall_mem_cons]
  repeat' apply And.intro
  rotate_right
  · intro q hq; cases hq
  all_goals
    intro x
    idx_vars x
    try simp only [kernelRun0_A.sl.r_2, kernelRun0_A.sl.r_6, kernelRun0_A.sl.r_3, kernelRun0_A.sl.r, kernelRun0_A.sl.r_4, kernelRun0_A.sl.r_5, kernelRun0_A.sl.r_1]
    unfold_payloads
    pointwise [Memref.IsWhole.readAt_unread]
    try rw [readS0]
    try simp [GM, deq, eq_at3 u0, eq_at3 u1, eq_at2 (GS x2), emb_val, off1, dv0, dv1, dv2, dv3, dv4, dv5, dv6, dv7, dv8, dv9, dv10, dv11, dv12, dv13, dv14, dv15, ix2, ix3]

set_option maxHeartbeats 4000000 in
/-- What the stores to the tile hold. -/
theorem piecesB (c : Dev nD) (i : grid0.Coords) (arg2 : Memref sig .tc .vmem S1x192x2048 .i8) (harg2 : arg2.IsWhole) (arg3 : Memref sig .tc .vmem S1x192x2048 .bf16) (harg3 : arg3.IsWhole) (arg8 : Memref sig .tc .vmem S2880x16 .f32) (harg8 : arg8.IsWhole) (u0 : Vec F S1x192x2048 .i8) (u1 : Vec F S1x192x2048 .bf16) (xs0 : Vec F S2880x16 .f32) :
    ∀ q ∈ kernelRun0_B.sl.HS2_16 (F := F) c i arg2 harg2 arg3 harg3 arg8 harg8 u0 u1 xs0, ∀ x : q.1.shape.Idx, q.2 x = GM (i 1).val u0 u1 xs0 (q.1.emb x) := by
  unfold kernelRun0_B.sl.HS2_16
  simp only [List.forall_mem_cons]
  repeat' apply And.intro
  rotate_right
  · intro q hq; cases hq
  all_goals
    intro x
    idx_vars x
    try simp only [kernelRun0_B.sl.r_2, kernelRun0_B.sl.r_6, kernelRun0_B.sl.r_3, kernelRun0_B.sl.r, kernelRun0_B.sl.r_4, kernelRun0_B.sl.r_5, kernelRun0_B.sl.r_1]
    unfold_payloads
    pointwise [Memref.IsWhole.readAt_unread]
    try simp [GM, deq, eq_at3 u0, eq_at3 u1, eq_at2 xs0, emb_val, off1, dv0, dv1, dv2, dv3, dv4, dv5, dv6, dv7, dv8, dv9, dv10, dv11, dv12, dv13, dv14, dv15, ix2, ix3]

set_option maxHeartbeats 4000000 in
theorem coverA (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg8 : Memref sig .tc .vmem S2880x16 .f32) (u0 : Vec F S1x192x2048 .i8) (u1 : Vec F S1x192x2048 .bf16) (x2 : Vec F S1x16x2880 .f32) (y : S192x2048.Idx) :
    ∃ q ∈ kernelRun0_A.sl.HS2_16 (F := F) c i arg2 harg2 arg3 harg3 arg4 harg4 arg8 u0 u1 x2, y ∈ q.1.set := by
  have b0 : (y 0).val < 192 := (y 0).isLt
  have b1 : (y 1).val < 2048 := (y 1).isLt
  unfold kernelRun0_A.sl.HS2_16
  simp only [List.exists_mem_cons_iff, mem_unit2]
  simp
  omega

set_option maxHeartbeats 4000000 in
theorem coverB (c : Dev nD) (i : grid0.Coords) (arg2 : Memref sig .tc .vmem S1x192x2048 .i8) (harg2 : arg2.IsWhole) (arg3 : Memref sig .tc .vmem S1x192x2048 .bf16) (harg3 : arg3.IsWhole) (arg8 : Memref sig .tc .vmem S2880x16 .f32) (harg8 : arg8.IsWhole) (u0 : Vec F S1x192x2048 .i8) (u1 : Vec F S1x192x2048 .bf16) (xs0 : Vec F S2880x16 .f32) (y : S192x2048.Idx) :
    ∃ q ∈ kernelRun0_B.sl.HS2_16 (F := F) c i arg2 harg2 arg3 harg3 arg8 harg8 u0 u1 xs0, y ∈ q.1.set := by
  have b0 : (y 0).val < 192 := (y 0).isLt
  have b1 : (y 1).val < 2048 := (y 1).isLt
  unfold kernelRun0_B.sl.HS2_16
  simp only [List.exists_mem_cons_iff, mem_unit2]
  simp
  omega

end Cert.GramIdeal.Hand

end
-- ==== Proof.Gram.Points.lean ====
/-
  What one grid point of the projection kernel leaves.
-/
module

public import proofs.«01_k».proof.Proof.Gram.Tiles

@[expose] public section

set_option maxRecDepth 16384

noncomputable section

namespace Cert.GramIdeal.Hand

open Cert.GramIdeal Cert.GramIdeal.Gen
open Idealize.ShloMosaic Idealize.ShloMosaic.TcCoe Idealize.ShloMosaic.Tactic
open Cert.KernelIdeal.Hand (at2 at3 deq eq_at2 eq_at3 at2_congr at3_congr emb_val mem_unit2 mem_unit3 dv0 dv1 dv2 dv3 dv4 dv5 dv6 dv7 dv8 dv9 dv10 dv11 dv12 dv13 dv14 dv15)

theorem pay2_at (M : Vec F S192x2048 .bf16) (q : Vec F S2048x192 .bf16) (r k : Fin 192) :
    (k0_pay2 (F := F) M q (ix2 r k) : EReal) = pV M q r.val k.val := by
  pointwise [k0_pay2]
  unfold pV
  first
    | (refine Finset.sum_congr rfl fun x _ => ?_
       exact congrArg₂ (· * ·) (eq_at2 (α := EReal) M _) (eq_at2 (α := EReal) q _))
    | skip

theorem pay3_at (M : Vec F S192x2048 .bf16) (q : Vec F S2048x192 .bf16) (z : Fin 1) (r k : Fin 192) :
    (k0_pay3 (F := F) M q (ix3 z r k) : EReal) = pV M q r.val k.val := by
  have e : (k0_pay3 (F := F) M q (ix3 z r k) : EReal) = k0_pay2 (F := F) M q (ix2 r k) := by pointwise [k0_pay3]
  exact e.trans (pay2_at M q r k)

theorem pay4_at (M : Vec F S192x2048 .bf16) (q : Vec F S2048x192 .bf16) (g : Vec F S1x192x192 .f32) (z : Fin 1) (r k : Fin 192) :
    (k0_pay4 (F := F) M q g (ix3 z r k) : EReal) = GG M q g (ix3 z r k) := by
  have e : (k0_pay4 (F := F) M q g (ix3 z r k) : EReal) = g (ix3 0 r k) + ∑ x : Fin 192, (k0_pay2 (F := F) M q (ix2 x r) : EReal) * k0_pay2 (F := F) M q (ix2 x k) := by
    pointwise [k0_pay4]
  rw [e]
  refine congrArg₂ (· + ·) (eq_at3 (α := EReal) g _) (Finset.sum_congr rfl fun x _ => ?_)
  rw [pay2_at, pay2_at]
  rfl

/-- The dequantised tile as loaded, at the first tile of a matrix. -/
theorem tileA (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg8 : Memref sig .tc .vmem S2880x16 .f32) (arg10 : Memref sig .tc .vmem S192x2048 .bf16) (u0 : Vec F S1x192x2048 .i8) (u1 : Vec F S1x192x2048 .bf16) (u2 : Vec F S1x16x2880 .f32) :
    kernelRun0_A.sl.v231 (F := F) c i arg2 harg2 arg3 harg3 arg4 harg4 arg8 arg10 u0 u1 u2 = GM (i 1).val u0 u1 (GS u2) := by
  unfold kernelRun0_A.sl.v231
  funext y
  refine (View.read_writes_apply_of_pieces _ _ _ _ (piecesA c i arg2 harg2 arg3 harg3 arg4 harg4 arg8 u0 u1 u2) _ (coverA c i arg2 harg2 arg3 harg3 arg4 harg4 arg8 u0 u1 u2 _)).trans (congrArg _ ?_)
  funext a; apply Fin.ext
  match a with
  | ⟨0, _⟩ => exact (emb_val (s := S192x2048) _ _ _ y 0).trans (Nat.zero_add _)
  | ⟨1, _⟩ => exact (emb_val (s := S192x2048) _ _ _ y 1).trans (Nat.zero_add _)

/-- The same at the other tiles. -/
theorem tileB (c : Dev nD) (i : grid0.Coords) (arg2 : Memref sig .tc .vmem S1x192x2048 .i8) (harg2 : arg2.IsWhole) (arg3 : Memref sig .tc .vmem S1x192x2048 .bf16) (harg3 : arg3.IsWhole) (arg8 : Memref sig .tc .vmem S2880x16 .f32) (harg8 : arg8.IsWhole) (arg10 : Memref sig .tc .vmem S192x2048 .bf16) (u0 : Vec F S1x192x2048 .i8) (u1 : Vec F S1x192x2048 .bf16) (us0 : Vec F S2880x16 .f32) :
    kernelRun0_B.sl.v231 (F := F) c i arg2 harg2 arg3 harg3 arg8 harg8 arg10 u0 u1 us0 = GM (i 1).val u0 u1 us0 := by
  unfold kernelRun0_B.sl.v231
  funext y
  refine (View.read_writes_apply_of_pieces _ _ _ _ (piecesB c i arg2 harg2 arg3 harg3 arg8 harg8 u0 u1 us0) _ (coverB c i arg2 harg2 arg3 harg3 arg8 harg8 u0 u1 us0 _)).trans (congrArg _ ?_)
  funext a; apply Fin.ext
  match a with
  | ⟨0, _⟩ => exact (emb_val (s := S192x2048) _ _ _ y 0).trans (Nat.zero_add _)
  | ⟨1, _⟩ => exact (emb_val (s := S192x2048) _ _ _ y 1).trans (Nat.zero_add _)

/-- The projection as loaded after its transposition. -/
theorem projA (c : Dev nD) (arg5 : Memref sig .tc .vmem S1x192x2048 .bf16) (harg5 : arg5.IsWhole) (arg9 : Memref sig .tc .vmem S2048x192 .bf16) (u3 : Vec F S1x192x2048 .bf16) :
    kernelRun0_A.sl.v232 (F := F) c arg5 harg5 arg9 u3 = GQ u3 := by
  unfold kernelRun0_A.sl.v232
  funext y
  refine (View.read_writes_apply_of_pieces _ _ _ _ (piecesS1 c arg5 harg5 u3) _ (coverS1 c arg5 harg5 u3 _)).trans (congrArg _ ?_)
  funext a; apply Fin.ext
  match a with
  | ⟨0, _⟩ => exact (emb_val (s := S2048x192) _ _ _ y 0).trans (Nat.zero_add _)
  | ⟨1, _⟩ => exact (emb_val (s := S2048x192) _ _ _ y 1).trans (Nat.zero_add _)

/-- A whole block's entries are the array's. -/
theorem emb_full (inb) (x : S1x192x192.Idx) : (Rect.unit (s := S1x192x192) ![0, 0, 0] ![1, 192, 192] inb).emb x = x := by
  funext a; apply Fin.ext
  match a with
  | ⟨0, _⟩ => exact (emb_val (s := S1x192x192) _ _ _ x 0).trans (Nat.zero_add _)
  | ⟨1, _⟩ => exact (emb_val (s := S1x192x192) _ _ _ x 1).trans (Nat.zero_add _)
  | ⟨2, _⟩ => exact (emb_val (s := S1x192x192) _ _ _ x 2).trans (Nat.zero_add _)

/-- Every entry lies in the whole block. -/
theorem mem_full (inb) (x : S1x192x192.Idx) : x ∈ (Rect.unit (s := S1x192x192) ![0, 0, 0] ![1, 192, 192] inb).set := by
  rw [mem_unit3]
  have h0 : (x 0).val < 1 := (x 0).isLt
  have h1 : (x 1).val < 192 := (x 1).isLt
  have h2 : (x 2).val < 192 := (x 2).isLt
  exact ⟨⟨Nat.zero_le _, (by show _ < 0 + 1; omega)⟩, ⟨Nat.zero_le _, (by show _ < 0 + 192; omega)⟩, Nat.zero_le _, (by show _ < 0 + 192; omega)⟩

/-- The projection's load of the whole scratch. -/
theorem projB (arg9 : Memref sig .tc .vmem S2048x192 .bf16) (harg9 : arg9.IsWhole) (us1 : Vec F S2048x192 .bf16) (inb) :
    View.readAt (Elt F) arg9.view (Rect.unit (s := S2048x192) ![0, 0] ![2048, 192] inb).toLoadRect (harg9.unread us1) = us1 := by
  funext y
  refine (congrFun (harg9.read_unread us1) _).trans (congrArg us1 ?_)
  funext a; apply Fin.ext
  match a with
  | ⟨0, _⟩ => exact (emb_val (s := S2048x192) _ _ _ y 0).trans (Nat.zero_add _)
  | ⟨1, _⟩ => exact (emb_val (s := S2048x192) _ _ _ y 1).trans (Nat.zero_add _)

/-- The Gram matrix as loaded at the other tiles: what the tile before left. -/
theorem gramB (arg7 : Memref sig .tc .vmem S1x192x192 .f32) (harg7 : arg7.IsWhole) (uo5 : Vec F S1x192x192 .f32) (inb) :
    View.readAt (Elt F) arg7.view (Rect.unit (s := S1x192x192) ![0, 0, 0] ![1, 192, 192] inb).toLoadRect (harg7.unread uo5) = uo5 := by
  funext y
  exact (congrFun (harg7.read_unread uo5) _).trans (congrArg uo5 (emb_full inb y))

/-- No Gram matrix yet. -/
def G0 : Vec F S1x192x192 .f32 := fun _ => (0 : EReal)

/-- The Gram matrix as loaded at the first tile of a matrix: zero. -/
theorem gramA (c : Dev nD) (arg7 : Memref sig .tc .vmem S1x192x192 .f32) :
    kernelRun0_A.sl.v237 (F := F) c arg7 = G0 := by
  unfold kernelRun0_A.sl.v237
  funext y
  refine (View.read_writes_apply_of_pieces _ _ G0 _ ?_ _ ?_)
  · unfold kernelRun0_A.sl.H5_1
    simp only [List.forall_mem_cons]
    refine ⟨fun x => ?_, fun q hq => by cases hq⟩
    show (Ideal.ofBits FTy.f32 0x00000000#32 : EReal) = 0
    simp
  · unfold kernelRun0_A.sl.H5_1
    exact ⟨_, List.mem_cons_self, mem_full inb_S1x192x192_S1x192x192_0_0_0 _⟩

set_option maxHeartbeats 2000000 in
theorem outA4 (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x2048 .bf16) (harg5 : arg5.IsWhole) (arg6 : Memref sig .tc .vmem S1x192x192 .f32) (harg6 : arg6.IsWhole) (arg7 : Memref sig .tc .vmem S1x192x192 .f32) (harg7 : arg7.IsWhole) (arg8 : Memref sig .tc .vmem S2880x16 .f32) (harg8 : arg8.IsWhole) (arg9 : Memref sig .tc .vmem S2048x192 .bf16) (harg9 : arg9.IsWhole) (arg10 : Memref sig .tc .vmem S192x2048 .bf16) (harg10 : arg10.IsWhole) (hc0 : cond0_0 i) (u0 : Vec F S1x192x2048 .i8) (u1 : Vec F S1x192x2048 .bf16) (u2 : Vec F S1x16x2880 .f32) (u3 : Vec F S1x192x2048 .bf16) :
    out0_A_4 (F := F) c i arg2 harg2 arg3 harg3 arg4 harg4 arg5 harg5 arg6 harg6 arg7 harg7 arg8 harg8 arg9 harg9 arg10 harg10 hc0 u0 u1 u2 u3 = GP (GM (i 1).val u0 u1 (GS u2)) (GQ u3) := by
  funext y
  unfold out0_A_4
  refine View.read_writes_apply_of_pieces _ _ _ _ ?_ y (cover0_A_4 c i arg2 harg2 arg3 harg3 arg4 harg4 arg5 harg5 arg6 harg6 arg7 harg7 arg8 harg8 arg9 harg9 arg10 harg10 hc0 u0 u1 u2 u3 y)
  unfold kernelRun0_A; dsimp only
  simp only [List.forall_mem_cons]
  refine ⟨fun x => ?_, fun q hq => by cases hq⟩
  rw [tileA c i arg2 harg2 arg3 harg3 arg4 harg4 arg8 arg10 u0 u1 u2, projA c arg5 harg5 arg9 u3]
  obtain ⟨z, r, k, rfl⟩ : ∃ (z : Fin 1) (r k : Fin 192), x = ix3 z r k := ⟨x 0, x 1, x 2, eq_ix3 x⟩
  rw [emb_full]
  exact pay3_at _ _ z r k

set_option maxHeartbeats 2000000 in
theorem outA5 (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x2048 .bf16) (harg5 : arg5.IsWhole) (arg6 : Memref sig .tc .vmem S1x192x192 .f32) (harg6 : arg6.IsWhole) (arg7 : Memref sig .tc .vmem S1x192x192 .f32) (harg7 : arg7.IsWhole) (arg8 : Memref sig .tc .vmem S2880x16 .f32) (harg8 : arg8.IsWhole) (arg9 : Memref sig .tc .vmem S2048x192 .bf16) (harg9 : arg9.IsWhole) (arg10 : Memref sig .tc .vmem S192x2048 .bf16) (harg10 : arg10.IsWhole) (hc0 : cond0_0 i) (u0 : Vec F S1x192x2048 .i8) (u1 : Vec F S1x192x2048 .bf16) (u2 : Vec F S1x16x2880 .f32) (u3 : Vec F S1x192x2048 .bf16) :
    out0_A_5 (F := F) c i arg2 harg2 arg3 harg3 arg4 harg4 arg5 harg5 arg6 harg6 arg7 harg7 arg8 harg8 arg9 harg9 arg10 harg10 hc0 u0 u1 u2 u3 = GG (GM (i 1).val u0 u1 (GS u2)) (GQ u3) G0 := by
  funext y
  unfold out0_A_5 kernelRun0_A; dsimp only
  refine View.read_writes_apply_of_pieces VO0_5 (VO0_5.writes (Elt F) VO0_5.junk kernelRun0_A.sl.H5_1) _
    [⟨Rect.unit (s := S1x192x192) ![0, 0, 0] ![1, 192, 192] inb_S1x192x192_S1x192x192_0_0_0, k0_pay4 (F := F) (kernelRun0_A.sl.v231 c i arg2 harg2 arg3 harg3 arg4 harg4 arg8 arg10 u0 u1 u2) (kernelRun0_A.sl.v232 c arg5 harg5 arg9 u3) (kernelRun0_A.sl.v237 c arg7)⟩] ?_ y
    ⟨_, List.mem_cons_self, mem_full inb_S1x192x192_S1x192x192_0_0_0 _⟩
  simp only [List.forall_mem_cons]
  refine ⟨fun x => ?_, fun q hq => by cases hq⟩
  rw [tileA c i arg2 harg2 arg3 harg3 arg4 harg4 arg8 arg10 u0 u1 u2, projA c arg5 harg5 arg9 u3, gramA c arg7]
  obtain ⟨z, r, k, rfl⟩ : ∃ (z : Fin 1) (r k : Fin 192), x = ix3 z r k := ⟨x 0, x 1, x 2, eq_ix3 x⟩
  rw [emb_full]
  exact pay4_at _ _ _ z r k

set_option maxHeartbeats 2000000 in
theorem outB4 (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x2048 .bf16) (harg5 : arg5.IsWhole) (arg6 : Memref sig .tc .vmem S1x192x192 .f32) (harg6 : arg6.IsWhole) (arg7 : Memref sig .tc .vmem S1x192x192 .f32) (harg7 : arg7.IsWhole) (arg8 : Memref sig .tc .vmem S2880x16 .f32) (harg8 : arg8.IsWhole) (arg9 : Memref sig .tc .vmem S2048x192 .bf16) (harg9 : arg9.IsWhole) (arg10 : Memref sig .tc .vmem S192x2048 .bf16) (harg10 : arg10.IsWhole) (hc0 : ¬cond0_0 i) (u0 : Vec F S1x192x2048 .i8) (u1 : Vec F S1x192x2048 .bf16) (u2 : Vec F S1x16x2880 .f32) (u3 : Vec F S1x192x2048 .bf16) (uo5 : Vec F S1x192x192 .f32) (us0 : Vec F S2880x16 .f32) (us1 : Vec F S2048x192 .bf16) :
    out0_B_4 (F := F) c i arg2 harg2 arg3 harg3 arg4 harg4 arg5 harg5 arg6 harg6 arg7 harg7 arg8 harg8 arg9 harg9 arg10 harg10 hc0 u0 u1 u2 u3 uo5 us0 us1 = GP (GM (i 1).val u0 u1 us0) us1 := by
  funext y
  unfold out0_B_4
  refine View.read_writes_apply_of_pieces _ _ _ _ ?_ y (cover0_B_4 c i arg2 harg2 arg3 harg3 arg4 harg4 arg5 harg5 arg6 harg6 arg7 harg7 arg8 harg8 arg9 harg9 arg10 harg10 hc0 u0 u1 u2 u3 uo5 us0 us1 y)
  unfold kernelRun0_B; dsimp only
  simp only [List.forall_mem_cons]
  refine ⟨fun x => ?_, fun q hq => by cases hq⟩
  rw [tileB c i arg2 harg2 arg3 harg3 arg8 harg8 arg10 u0 u1 us0, projB arg9 harg9 us1]
  obtain ⟨z, r, k, rfl⟩ : ∃ (z : Fin 1) (r k : Fin 192), x = ix3 z r k := ⟨x 0, x 1, x 2, eq_ix3 x⟩
  rw [emb_full]
  exact pay3_at _ _ z r k

set_option maxHeartbeats 2000000 in
theorem outB5 (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x2048 .bf16) (harg5 : arg5.IsWhole) (arg6 : Memref sig .tc .vmem S1x192x192 .f32) (harg6 : arg6.IsWhole) (arg7 : Memref sig .tc .vmem S1x192x192 .f32) (harg7 : arg7.IsWhole) (arg8 : Memref sig .tc .vmem S2880x16 .f32) (harg8 : arg8.IsWhole) (arg9 : Memref sig .tc .vmem S2048x192 .bf16) (harg9 : arg9.IsWhole) (arg10 : Memref sig .tc .vmem S192x2048 .bf16) (harg10 : arg10.IsWhole) (hc0 : ¬cond0_0 i) (u0 : Vec F S1x192x2048 .i8) (u1 : Vec F S1x192x2048 .bf16) (u2 : Vec F S1x16x2880 .f32) (u3 : Vec F S1x192x2048 .bf16) (uo5 : Vec F S1x192x192 .f32) (us0 : Vec F S2880x16 .f32) (us1 : Vec F S2048x192 .bf16) :
    out0_B_5 (F := F) c i arg2 harg2 arg3 harg3 arg4 harg4 arg5 harg5 arg6 harg6 arg7 harg7 arg8 harg8 arg9 harg9 arg10 harg10 hc0 u0 u1 u2 u3 uo5 us0 us1 = GG (GM (i 1).val u0 u1 us0) us1 uo5 := by
  funext y
  unfold out0_B_5
  refine View.read_writes_apply_of_pieces _ _ _ _ ?_ y (cover0_B_5 c i arg2 harg2 arg3 harg3 arg4 harg4 arg5 harg5 arg6 harg6 arg7 harg7 arg8 harg8 arg9 harg9 arg10 harg10 hc0 u0 u1 u2 u3 uo5 us0 us1 y)
  unfold kernelRun0_B; dsimp only
  simp only [List.forall_mem_cons]
  refine ⟨fun x => ?_, fun q hq => by cases hq⟩
  rw [tileB c i arg2 harg2 arg3 harg3 arg8 harg8 arg10 u0 u1 us0, projB arg9 harg9 us1, gramB arg7 harg7 uo5]
  obtain ⟨z, r, k, rfl⟩ : ∃ (z : Fin 1) (r k : Fin 192), x = ix3 z r k := ⟨x 0, x 1, x 2, eq_ix3 x⟩
  rw [emb_full]
  exact pay4_at _ _ _ z r k

set_option maxHeartbeats 2000000 in
/-- The scale scratch after the first tile of a matrix. -/
theorem soutA0 (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x2048 .bf16) (harg5 : arg5.IsWhole) (arg6 : Memref sig .tc .vmem S1x192x192 .f32) (harg6 : arg6.IsWhole) (arg7 : Memref sig .tc .vmem S1x192x192 .f32) (harg7 : arg7.IsWhole) (arg8 : Memref sig .tc .vmem S2880x16 .f32) (harg8 : arg8.IsWhole) (arg9 : Memref sig .tc .vmem S2048x192 .bf16) (harg9 : arg9.IsWhole) (arg10 : Memref sig .tc .vmem S192x2048 .bf16) (harg10 : arg10.IsWhole) (hc0 : cond0_0 i) (u0 : Vec F S1x192x2048 .i8) (u1 : Vec F S1x192x2048 .bf16) (u2 : Vec F S1x16x2880 .f32) (u3 : Vec F S1x192x2048 .bf16) :
    sout0_A_0 (F := F) c i arg2 harg2 arg3 harg3 arg4 harg4 arg5 harg5 arg6 harg6 arg7 harg7 arg8 harg8 arg9 harg9 arg10 harg10 hc0 u0 u1 u2 u3 = GS u2 := by
  funext y
  unfold sout0_A_0 kernelRun0_A; dsimp only
  exact View.read_writes_apply_of_pieces _ _ _ _ (piecesS0 c arg4 harg4 u2) y (coverS0 c arg4 harg4 u2 y)

set_option maxHeartbeats 2000000 in
/-- The projection scratch after the first tile of a matrix. -/
theorem soutA1 (c : Dev nD) (i : grid0.Coords) (arg2 : Memref sig .tc .vmem S1x192x2048 .i8) (harg2 : arg2.IsWhole) (arg3 : Memref sig .tc .vmem S1x192x2048 .bf16) (harg3 : arg3.IsWhole) (arg4 : Memref sig .tc .vmem S1x16x2880 .f32) (harg4 : arg4.IsWhole) (arg5 : Memref sig .tc .vmem S1x192x2048 .bf16) (harg5 : arg5.IsWhole) (arg6 : Memref sig .tc .vmem S1x192x192 .f32) (harg6 : arg6.IsWhole) (arg7 : Memref sig .tc .vmem S1x192x192 .f32) (harg7 : arg7.IsWhole) (arg8 : Memref sig .tc .vmem S2880x16 .f32) (harg8 : arg8.IsWhole) (arg9 : Memref sig .tc .vmem S2048x192 .bf16) (harg9 : arg9.IsWhole) (arg10 : Memref sig .tc .vmem S192x2048 .bf16) (harg10 : arg10.IsWhole) (hc0 : cond0_0 i) (u0 : Vec F S1x192x2048 .i8) (u1 : Vec F S1x192x2048 .bf16) (u2 : Vec F S1x16x2880 .f32) (u3 : Vec F S1x192x2048 .bf16) :
    sout0_A_1 (F := F) c i arg2 harg2 arg3 harg3 arg4 harg4 arg5 harg5 arg6 harg6 arg7 harg7 arg8 harg8 arg9 harg9 arg10 harg10 hc0 u0 u1 u2 u3 = GQ u3 := by
  funext y
  unfold sout0_A_1 kernelRun0_A; dsimp only
  exact View.read_writes_apply_of_pieces _ _ _ _ (piecesS1 c arg5 harg5 u3) y (coverS1 c arg5 harg5 u3 y)

end Cert.GramIdeal.Hand

end
-- ==== Proof.Gram.Blocks.lean ====
/-
  The input blocks of the projection kernel, read off the argument arrays.
-/
module

public import proofs.«01_k».proof.Proof.Gram.Spec
public import proofs.«01_k».proof.Proof.Main.Formulas
public import Idealize.ShloMosaic.Lib.Pipeline.ValueKit
public import Idealize.ShloMosaic.Lib.Pointwise

@[expose] public section

set_option maxRecDepth 16384

noncomputable section

namespace Cert.GramIdeal.Hand

open Cert.GramIdeal Cert.GramIdeal.Gen
open Idealize.ShloMosaic Idealize.ShloMosaic.TcCoe
open Cert.KernelIdeal.Hand (at2 at3)
open Cert.MainMath (at3b)

variable (m : (ℓ : Loc nD τ sig) → Buf (Elt F) ℓ)

theorem co1 : ∀ t : Fin cfg0.N, ((grid0.coords t) 1).val = t.val % 15 := (by decide +kernel : ∀ t : Fin grid0.N, _)
theorem idx0 : ∀ t : Fin cfg0.N, win0_0.index t = ![t.val / 15, t.val % 15, 0] := (by decide +kernel : ∀ t : Fin grid0.N, _)
theorem idx1 : ∀ t : Fin cfg0.N, win0_1.index t = ![t.val / 15, t.val % 15, 0] := (by decide +kernel : ∀ t : Fin grid0.N, _)
theorem idx2 : ∀ t : Fin cfg0.N, win0_2.index t = ![t.val / 15, 0, 0] := (by decide +kernel : ∀ t : Fin grid0.N, _)
theorem idx3 : ∀ t : Fin cfg0.N, win0_3.index t = ![t.val / 15, 0, 0] := (by decide +kernel : ∀ t : Fin grid0.N, _)

theorem lt_N (t : Fin cfg0.N) : t.val < 180 := lt_of_lt_of_eq t.isLt (show cfg0.N = 180 from N_0)

/-- An entry of a block of codes. -/
theorem blk0_at (c : Dev nD) (t : Fin cfg0.N) (r q : ℕ) (hr : r < 192) (hq : q < 2048) :
    at3 (α := BitVec 8) (iblk m c 0 t) r q = at3b (α := BitVec 8) (m ((c : Thread nD τ).loc main_arg0)) (t.val / 15) (192 * (t.val % 15) + r) q := by
  have hN := lt_N t
  have h0 : t.val / 15 < 12 := by omega
  have h1 : (192 * (t.val % 15) + r) < 2880 := by omega
  rw [Cert.MainMath.at3b_of_lt _ h0 h1 hq]
  unfold at3
  rw [dif_pos ⟨hr, hq⟩]
  show V m c main_arg0 (((cfg0.win 0).blk t).view.emb (ix3 0 ⟨r, hr⟩ ⟨q, hq⟩)) = _
  rw [V_main_arg0]
  refine congrArg _ ?_
  have e := idx0 t
  funext a; apply Fin.ext
  match a with
  | ⟨0, _⟩ => show win0_0.index t (0 : Fin 3) * 1 + 1 * 0 = t.val / 15; rw [e]; show t.val / 15 * 1 + 1 * 0 = _; omega
  | ⟨1, _⟩ => show win0_0.index t (1 : Fin 3) * 192 + 1 * r = (192 * (t.val % 15) + r); rw [e]; show t.val % 15 * 192 + 1 * r = _; omega
  | ⟨2, _⟩ => show win0_0.index t (2 : Fin 3) * 2048 + 1 * q = q; rw [e]; show 0 * 2048 + 1 * q = _; omega

/-- An entry of a block of gradients. -/
theorem blk1_at (c : Dev nD) (t : Fin cfg0.N) (r q : ℕ) (hr : r < 192) (hq : q < 2048) :
    at3 (α := EReal) (iblk m c 1 t) r q = at3b (α := EReal) (m ((c : Thread nD τ).loc main_arg1)) (t.val / 15) (192 * (t.val % 15) + r) q := by
  have hN := lt_N t
  have h0 : t.val / 15 < 12 := by omega
  have h1 : (192 * (t.val % 15) + r) < 2880 := by omega
  rw [Cert.MainMath.at3b_of_lt _ h0 h1 hq]
  unfold at3
  rw [dif_pos ⟨hr, hq⟩]
  show V m c main_arg1 (((cfg0.win 1).blk t).view.emb (ix3 0 ⟨r, hr⟩ ⟨q, hq⟩)) = _
  rw [V_main_arg1]
  refine congrArg _ ?_
  have e := idx1 t
  funext a; apply Fin.ext
  match a with
  | ⟨0, _⟩ => show win0_1.index t (0 : Fin 3) * 1 + 1 * 0 = t.val / 15; rw [e]; show t.val / 15 * 1 + 1 * 0 = _; omega
  | ⟨1, _⟩ => show win0_1.index t (1 : Fin 3) * 192 + 1 * r = (192 * (t.val % 15) + r); rw [e]; show t.val % 15 * 192 + 1 * r = _; omega
  | ⟨2, _⟩ => show win0_1.index t (2 : Fin 3) * 2048 + 1 * q = q; rw [e]; show 0 * 2048 + 1 * q = _; omega

/-- The scales the kernel is given are the argument, its last two axes exchanged. -/
theorem V_st (c : Dev nD) : V m c main_v0 = transpose S12x16x2880 [0, 2, 1] (m ((c : Thread nD τ).loc main_arg2)) transposes_S12x2880x16_S12x16x2880_0_2_1 := by
  rfl

/-- An entry of a block of transposed scales. -/
theorem blk2_at (c : Dev nD) (t : Fin cfg0.N) (q r : ℕ) (hq : q < 16) (hr : r < 2880) :
    at3 (α := EReal) (iblk m c 2 t) q r = at3b (α := EReal) (m ((c : Thread nD τ).loc main_arg2)) (t.val / 15) r q := by
  have hN := lt_N t
  have h0 : t.val / 15 < 12 := by omega
  rw [Cert.MainMath.at3b_of_lt _ h0 hr hq]
  unfold at3
  rw [dif_pos ⟨hq, hr⟩]
  show V m c main_v0 (((cfg0.win 2).blk t).view.emb (ix3 0 ⟨q, hq⟩ ⟨r, hr⟩)) = _
  have e := idx2 t
  have he : ((cfg0.win 2).blk t).view.emb (ix3 0 ⟨q, hq⟩ ⟨r, hr⟩) = (ix3 ⟨t.val / 15, h0⟩ ⟨q, hq⟩ ⟨r, hr⟩ : S12x16x2880.Idx) := by
    funext a; apply Fin.ext
    match a with
    | ⟨0, _⟩ => show win0_2.index t (0 : Fin 3) * 1 + 1 * 0 = t.val / 15; rw [e]; show t.val / 15 * 1 + 1 * 0 = _; omega
    | ⟨1, _⟩ => show win0_2.index t (1 : Fin 3) * 16 + 1 * q = q; rw [e]; show 0 * 16 + 1 * q = _; omega
    | ⟨2, _⟩ => show win0_2.index t (2 : Fin 3) * 2880 + 1 * r = r; rw [e]; show 0 * 2880 + 1 * r = _; omega
  rw [he, V_st]
  pointwise

/-- The projections the kernel is given are the argument, its last two axes exchanged. -/
theorem V_qt (c : Dev nD) : V m c main_v1 = transpose S12x192x2048 [0, 2, 1] (m ((c : Thread nD τ).loc main_arg3)) transposes_S12x2048x192_S12x192x2048_0_2_1 := by
  rfl

/-- An entry of a block of transposed projections. -/
theorem blk3_at (c : Dev nD) (t : Fin cfg0.N) (q r : ℕ) (hq : q < 192) (hr : r < 2048) :
    at3 (α := EReal) (iblk m c 3 t) q r = at3b (α := EReal) (m ((c : Thread nD τ).loc main_arg3)) (t.val / 15) r q := by
  have hN := lt_N t
  have h0 : t.val / 15 < 12 := by omega
  rw [Cert.MainMath.at3b_of_lt _ h0 hr hq]
  unfold at3
  rw [dif_pos ⟨hq, hr⟩]
  show V m c main_v1 (((cfg0.win 3).blk t).view.emb (ix3 0 ⟨q, hq⟩ ⟨r, hr⟩)) = _
  have e := idx3 t
  have he : ((cfg0.win 3).blk t).view.emb (ix3 0 ⟨q, hq⟩ ⟨r, hr⟩) = (ix3 ⟨t.val / 15, h0⟩ ⟨q, hq⟩ ⟨r, hr⟩ : S12x192x2048.Idx) := by
    funext a; apply Fin.ext
    match a with
    | ⟨0, _⟩ => show win0_3.index t (0 : Fin 3) * 1 + 1 * 0 = t.val / 15; rw [e]; show t.val / 15 * 1 + 1 * 0 = _; omega
    | ⟨1, _⟩ => show win0_3.index t (1 : Fin 3) * 192 + 1 * q = q; rw [e]; show 0 * 192 + 1 * q = _; omega
    | ⟨2, _⟩ => show win0_3.index t (2 : Fin 3) * 2048 + 1 * r = r; rw [e]; show 0 * 2048 + 1 * r = _; omega
  rw [he, V_qt]
  pointwise

end Cert.GramIdeal.Hand

end
-- ==== Proof.Gram.Formulas.lean ====
/-
  The projection and its Gram matrices as formulas.
-/
module

public import proofs.«01_k».proof.Proof.Main.Formulas

@[expose] public section

set_option maxRecDepth 16384

noncomputable section

namespace Cert.GramMath

open Idealize.ShloMosaic
open Cert.MainMath (at3b MB)

variable (a0 : (⟨3, ![12, 2880, 2048]⟩ : Shape).Idx → BitVec 8) (a1 : (⟨3, ![12, 2880, 2048]⟩ : Shape).Idx → EReal)
  (a2 : (⟨3, ![12, 2880, 16]⟩ : Shape).Idx → EReal) (a3 : (⟨3, ![12, 2048, 192]⟩ : Shape).Idx → EReal)

/-- Matrix `b`'s projection: momentum times the right factor. -/
def PQ (b r k : ℕ) : EReal := ∑ x : Fin 2048, MB a0 a1 a2 b r x.val * at3b a3 b x.val k

/-- The projections. -/
def H4 : (⟨3, ![12, 2880, 192]⟩ : Shape).Idx → EReal := fun y => PQ a0 a1 a2 a3 (y 0).val (y 1).val (y 2).val

/-- The Gram matrices of the projections. -/
def H5 : (⟨3, ![12, 192, 192]⟩ : Shape).Idx → EReal := fun y =>
  ∑ x : Fin 2880, PQ a0 a1 a2 a3 (y 0).val x.val (y 1).val * PQ a0 a1 a2 a3 (y 0).val x.val (y 2).val

end Cert.GramMath

end
-- ==== Proof.Gram.Fold.lean ====
/-
  The projection kernel's results, folded over the grid, are the formulas.
-/
module

public import proofs.«01_k».proof.Proof.Gram.Points
public import proofs.«01_k».proof.Proof.Gram.Blocks
public import proofs.«01_k».proof.Proof.Gram.Formulas
public import proofs.«01_k».proof.Proof.Gen.GramIdeal.Value
public import proofs.«01_k».proof.Proof.KernelIdeal.Matrices

@[expose] public section

set_option maxRecDepth 16384

noncomputable section

namespace Cert.GramIdeal.Hand

open Cert.GramIdeal Cert.GramIdeal.Gen
open Idealize.ShloMosaic Idealize.ShloMosaic.TcCoe
open Cert.KernelIdeal.Hand (at2 at3 deq eq_at2 eq_at3 at2_of_lt sum_tiles)
open Cert.MainMath (at3b MB MV)
open Cert.GramMath (PQ H4 H5)

variable (m : (ℓ : Loc nD τ sig) → Buf (Elt F) ℓ)

/-- The four arguments. -/
abbrev a0 (c : Dev nD) : S12x2880x2048.Idx → BitVec 8 := m ((c : Thread nD τ).loc main_arg0)
abbrev a1 (c : Dev nD) : S12x2880x2048.Idx → EReal := m ((c : Thread nD τ).loc main_arg1)
abbrev a2 (c : Dev nD) : S12x2880x16.Idx → EReal := m ((c : Thread nD τ).loc main_arg2)
abbrev a3 (c : Dev nD) : S12x2048x192.Idx → EReal := m ((c : Thread nD τ).loc main_arg3)

/-- Matrix `b`'s projection. -/
abbrev PQk (c : Dev nD) (b r k : ℕ) : EReal := PQ (a0 m c) (a1 m c) (a2 m c) (a3 m c) b r k

/-- Matrix `b`'s scales. -/
def SC (c : Dev nD) (b : ℕ) : Vec F S2880x16 .f32 := fun y => at3b (α := EReal) (a2 m c) b (y 0).val (y 1).val

/-- Matrix `b`'s right factor. -/
def QT (c : Dev nD) (b : ℕ) : Vec F S2048x192 .bf16 := fun y => at3b (α := EReal) (a3 m c) b (y 0).val (y 1).val

/-- The projection tile after position `n`. -/
def TP (c : Dev nD) (n : ℕ) : Vec F S1x192x192 .f32 := fun y => PQk m c (n / 15) (192 * (n % 15) + (y 1).val) (y 2).val

/-- The Gram matrix after position `n`: the sum over the rows seen so far. -/
def TG (c : Dev nD) (n : ℕ) : Vec F S1x192x192 .f32 := fun y =>
  ∑ x ∈ Finset.range (192 * (n % 15 + 1)), PQk m c (n / 15) x (y 1).val * PQk m c (n / 15) x (y 2).val

theorem GS_blk (c : Dev nD) (t : Fin cfg0.N) : GS (iblk m c 2 t) = SC m c (t.val / 15) := by
  funext y
  exact blk2_at m c t (y 1).val (y 0).val (y 1).isLt (y 0).isLt

theorem GQ_blk (c : Dev nD) (t : Fin cfg0.N) : GQ (iblk m c 3 t) = QT m c (t.val / 15) := by
  funext y
  exact blk3_at m c t (y 1).val (y 0).val (y 1).isLt (y 0).isLt

/-- An entry of the projected tile at a point. -/
theorem pV_blk (c : Dev nD) (t : Fin cfg0.N) {r k : ℕ} (hr : r < 192) (hk : k < 192) :
    pV (GM (t.val % 15) (iblk m c 0 t) (iblk m c 1 t) (SC m c (t.val / 15))) (QT m c (t.val / 15)) r k = PQk m c (t.val / 15) (192 * (t.val % 15) + r) k := by
  have hN := lt_N t
  unfold pV
  refine Finset.sum_congr rfl fun x _ => ?_
  rw [at2_of_lt _ hr x.isLt, at2_of_lt (QT m c (t.val / 15)) x.isLt hk]
  refine congrArg₂ (· * ·) ?_ rfl
  show deq (at3 (α := BitVec 8) (iblk m c 0 t) r x.val) (at2 (α := EReal) (SC m c (t.val / 15)) (192 * (t.val % 15) + r) (x.val / 128)) (at3 (α := EReal) (iblk m c 1 t) r x.val) = _
  have hx := x.isLt
  rw [blk0_at m c t r x.val hr hx, blk1_at m c t r x.val hr hx, at2_of_lt (SC m c (t.val / 15)) (show 192 * (t.val % 15) + r < 2880 by omega) (show x.val / 128 < 16 by omega)]
  rfl

theorem GP_blk (c : Dev nD) (t : Fin cfg0.N) :
    GP (GM (t.val % 15) (iblk m c 0 t) (iblk m c 1 t) (SC m c (t.val / 15))) (QT m c (t.val / 15)) = TP m c t.val := by
  funext y
  exact pV_blk m c t (y 1).isLt (y 2).isLt

/-- The rows of one tile, added to the sum so far. -/
theorem GG_blk (c : Dev nD) (t : Fin cfg0.N) (g : Vec F S1x192x192 .f32)
    (hg : ∀ y : S1x192x192.Idx, (g y : EReal) = ∑ x ∈ Finset.range (192 * (t.val % 15)), PQk m c (t.val / 15) x (y 1).val * PQk m c (t.val / 15) x (y 2).val) :
    GG (GM (t.val % 15) (iblk m c 0 t) (iblk m c 1 t) (SC m c (t.val / 15))) (QT m c (t.val / 15)) g = TG m c t.val := by
  funext y
  have e : at3 (α := EReal) g (y 1).val (y 2).val = ∑ x ∈ Finset.range (192 * (t.val % 15)), PQk m c (t.val / 15) x (y 1).val * PQk m c (t.val / 15) x (y 2).val := by
    unfold at3
    rw [dif_pos ⟨(y 1).isLt, (y 2).isLt⟩]
    exact hg _
  show at3 (α := EReal) g (y 1).val (y 2).val + _ = ∑ x ∈ Finset.range (192 * (t.val % 15 + 1)), PQk m c (t.val / 15) x (y 1).val * PQk m c (t.val / 15) x (y 2).val
  rw [e, ← sum_tiles (fun x => PQk m c (t.val / 15) x (y 1).val * PQk m c (t.val / 15) x (y 2).val) (t.val % 15 + 1), Finset.sum_range_succ]
  refine congrArg₂ (· + ·) (sum_tiles (fun x => PQk m c (t.val / 15) x (y 1).val * PQk m c (t.val / 15) x (y 2).val) _).symm (Finset.sum_congr rfl fun x _ => ?_)
  rw [pV_blk m c t x.isLt (y 1).isLt, pV_blk m c t x.isLt (y 2).isLt]

set_option maxHeartbeats 2000000 in
/-- After every point the outputs and the carried scratch hold what the formulas say. -/
theorem outs_at (c : Dev nD) : ∀ (n : ℕ) (hn : n < cfg0.N), outsAt0 m c n hn = (TP m c n, TG m c n, SC m c (n / 15), QT m c (n / 15)) := by
  intro n
  induction n using Nat.strong_induction_on with
  | _ n ih =>
    intro hn
    have hN : n < 180 := lt_N ⟨n, hn⟩
    by_cases h0 : n % 15 = 0
    · rw [outsAt0_A m c ⟨n, hn⟩ h0, outA4, outA5, soutA0, soutA1, co1, GS_blk, GQ_blk, GP_blk, GG_blk m c ⟨n, hn⟩ G0 ?_]
      intro y
      show (0 : EReal) = ∑ x ∈ Finset.range (192 * (n % 15)), _
      rw [h0]
      rfl
    · have hp := ih (n - 1) (by omega) (Nat.lt_of_le_of_lt (Nat.sub_le _ _) hn)
      rw [show (n - 1) / 15 = n / 15 from by omega] at hp
      rw [outsAt0_B m c ⟨n, hn⟩ h0, outB4, outB5]
      unfold sout0_B_0 sout0_B_1
      dsimp only
      rw [hp]
      dsimp only
      have hc : ((grid0.coords ⟨n, hn⟩) 1).val = n % 15 := co1 ⟨n, hn⟩
      rw [hc, GP_blk m c ⟨n, hn⟩, GG_blk m c ⟨n, hn⟩ (TG m c (n - 1)) ?_]
      intro y
      show ∑ x ∈ Finset.range (192 * ((n - 1) % 15 + 1)), PQk m c ((n - 1) / 15) x (y 1).val * PQk m c ((n - 1) / 15) x (y 2).val = _
      rw [show (n - 1) / 15 = n / 15 from by omega, show (n - 1) % 15 + 1 = n % 15 from by omega]

/-- The projections after the whole grid. -/
theorem G4_eq (c : Dev nD) : Value.G4 m c = H4 (a0 m c) (a1 m c) (a2 m c) (a3 m c) := by
  funext i
  have i0 : (i 0).val < 12 := (i 0).isLt
  have i1 : (i 1).val < 2880 := (i 1).isLt
  have i2 : (i 2).val < 192 := (i 2).isLt
  have e : Value.pt4Of i = 15 * (i 0).val + (i 1).val / 192 := by unfold Value.pt4Of Value.run4Of; omega
  have h : Value.pt4Of i < cfg0.N := by rw [e, show cfg0.N = 180 from N_0]; omega
  unfold Value.G4
  rw [dif_pos h, ← Value.outsAt0_sweep m c _ h, outs_at]
  show PQk m c (Value.pt4Of i / 15) (192 * (Value.pt4Of i % 15) + (i 1).val % 192) ((i 2).val % 192) = PQk m c (i 0).val (i 1).val (i 2).val
  rw [e, show (15 * (i 0).val + (i 1).val / 192) / 15 = (i 0).val from by omega,
    show 192 * ((15 * (i 0).val + (i 1).val / 192) % 15) + (i 1).val % 192 = (i 1).val from by omega, show (i 2).val % 192 = (i 2).val from by omega]

/-- The Gram matrices after the whole grid. -/
theorem G5_eq (c : Dev nD) : Value.G5 m c = H5 (a0 m c) (a1 m c) (a2 m c) (a3 m c) := by
  funext i
  have i0 : (i 0).val < 12 := (i 0).isLt
  have i1 : (i 1).val < 192 := (i 1).isLt
  have i2 : (i 2).val < 192 := (i 2).isLt
  have e : Value.pt5Of i = 15 * (i 0).val + 14 := by unfold Value.pt5Of Value.run5Of; omega
  have h : Value.pt5Of i < cfg0.N := by rw [e, show cfg0.N = 180 from N_0]; omega
  unfold Value.G5
  rw [dif_pos h, ← Value.outsAt0_sweep m c _ h, outs_at]
  show ∑ x ∈ Finset.range (192 * (Value.pt5Of i % 15 + 1)), PQk m c (Value.pt5Of i / 15) x ((i 1).val % 192) * PQk m c (Value.pt5Of i / 15) x ((i 2).val % 192)
    = ∑ x : Fin 2880, PQk m c (i 0).val x.val (i 1).val * PQk m c (i 0).val x.val (i 2).val
  rw [e, show (15 * (i 0).val + 14) / 15 = (i 0).val from by omega, show 192 * ((15 * (i 0).val + 14) % 15 + 1) = 2880 from by omega,
    show (i 1).val % 192 = (i 1).val from by omega, show (i 2).val % 192 = (i 2).val from by omega]
  exact (Fin.sum_univ_eq_sum_range (fun x => PQk m c (i 0).val x (i 1).val * PQk m c (i 0).val x (i 2).val) 2880).symm

end Cert.GramIdeal.Hand

end
-- ==== Proof.Gram.Reference.lean ====
/-
  The projection reference's results are the formulas.
-/
module

public import proofs.«01_k».proof.Proof.Gram.Formulas
public import proofs.«01_k».proof.Proof.Gen.GramRefIdeal.Value
public import Idealize.ShloMosaic.Lib.Pointwise

@[expose] public section

set_option maxRecDepth 16384

noncomputable section

namespace Cert.GramMath

open Idealize.ShloMosaic
open Cert.GramRefIdeal Cert.GramRefIdeal.Gen Cert.GramRefIdeal.Value
open Cert.MainMath (at3b at3b_ix3 MB MV)

variable (v0 : Vec Ideal S12x2880x2048 .i8) (v1 : Vec Ideal S12x2880x2048 .bf16) (v2 : Vec Ideal S12x2880x16 .f32) (v3 : Vec Ideal S12x2048x192 .bf16)

theorem ref_P (b : Fin 12) (r : Fin 2880) (k : Fin 192) : (k0_pay1 (F := Ideal) v0 v1 v2 v3 (ix3 b r k) : EReal) = PQ v0 v1 v2 v3 b.val r.val k.val := by
  have e : (k0_pay1 (F := Ideal) v0 v1 v2 v3 (ix3 b r k) : EReal)
      = ∑ x : Fin 2048, ((FloatOps.sitofp (F := Ideal) .f32 (v0 (ix3 b r x)) : EReal) * (v2 (ix3 b r ⟨x.val / 128, by omega⟩) : EReal) + (v1 (ix3 b r x) : EReal)) * (v3 (ix3 b x k) : EReal) := by
    pointwise [k0_pay1]
  rw [e]
  unfold PQ MB MV Cert.KernelIdeal.Hand.deq
  refine Finset.sum_congr rfl fun x _ => ?_
  rw [← at3b_ix3 (α := BitVec 8) v0, ← at3b_ix3 (α := EReal) v1, ← at3b_ix3 (α := EReal) v2, ← at3b_ix3 (α := EReal) v3]

theorem ref4 : G4 (F := Ideal) v0 v1 v2 v3 = H4 v0 v1 v2 v3 := by
  funext y
  obtain ⟨b, r, k, rfl⟩ : ∃ (b : Fin 12) (r : Fin 2880) (k : Fin 192), y = ix3 b r k := ⟨y 0, y 1, y 2, eq_ix3 y⟩
  exact ref_P v0 v1 v2 v3 b r k

theorem ref5 : G5 (F := Ideal) v0 v1 v2 v3 = H5 v0 v1 v2 v3 := by
  funext y
  obtain ⟨b, r, k, rfl⟩ : ∃ (b : Fin 12) (r k : Fin 192), y = ix3 b r k := ⟨y 0, y 1, y 2, eq_ix3 y⟩
  have e : (k0_pay2 (F := Ideal) v0 v1 v2 v3 (ix3 b r k) : EReal)
      = ∑ x : Fin 2880, (k0_pay1 (F := Ideal) v0 v1 v2 v3 (ix3 b x r) : EReal) * (k0_pay1 (F := Ideal) v0 v1 v2 v3 (ix3 b x k) : EReal) := by
    pointwise [k0_pay2]
  show (k0_pay2 (F := Ideal) v0 v1 v2 v3 (ix3 b r k) : EReal) = ∑ x : Fin 2880, PQ v0 v1 v2 v3 b.val x.val r.val * PQ v0 v1 v2 v3 b.val x.val k.val
  rw [e]
  refine Finset.sum_congr rfl fun x _ => ?_
  rw [ref_P, ref_P]

end Cert.GramMath

end
-- ==== Proof.Gram.Algebraic.lean ====
/-
  The projection call and its reference compute the same results at the ideal instance.
-/
module

public import proofs.«01_k».proof.Defs
public import proofs.«01_k».proof.Proof.Gram.Fold
public import proofs.«01_k».proof.Proof.Gram.Reference

@[expose] public section

set_option maxRecDepth 16384

noncomputable section

namespace Cert.GramMath

open Idealize.ShloMosaic Idealize.SL.Sem Idealize.ShloMosaic.TcCoe
open Cert.GramIdeal.Hand (a0 a1 a2 a3 G4_eq G5_eq)

set_option maxHeartbeats 1000000 in
theorem algebraic : algebraic_GramIdeal_GramRefIdeal (hGramIdeal := Cert.GramIdeal.Gen.facts) (hGramRefIdeal := Cert.GramRefIdeal.Gen.facts) := by
  intro m g m' g' _ hm
  refine ⟨fun c => H4 (a0 m c) (a1 m c) (a2 m c) (a3 m c), fun c => H5 (a0 m c) (a1 m c) (a2 m c) (a3 m c), ?_, ?_⟩
  · refine (θ_run _ _ _).mono (fun r hr c => ?_) (Cert.GramIdeal.Value.run (F := Ideal) m g)
    obtain ⟨h0, h1, hk⟩ := hr c
    exact ⟨h0.trans (G4_eq m c), h1.trans (G5_eq m c), hk⟩
  · refine (θ_run _ _ _).mono (fun r hr c => ?_) (Cert.GramRefIdeal.Value.run (F := Ideal) m' g')
    obtain ⟨h0, h1, hk⟩ := hr c
    obtain ⟨e0, e1, e2, e3⟩ := hm c
    refine ⟨h0.trans ?_, h1.trans ?_, hk⟩
    · rw [ref4]; exact congr (congr (congr (congrArg H4 e0) e1) e2) e3
    · rw [ref5]; exact congr (congr (congr (congrArg H5 e0) e1) e2) e3

end Cert.GramMath

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Gram
public import proofs.«01_k».proof.Proof.Gen.Gram.Skeleton
public import proofs.«01_k».proof.Proof.Gen.Gram.Launch
public import proofs.«01_k».proof.Proof.Gen.Gram.Points
public import proofs.«01_k».proof.Proof.Gen.Gram.Frame
public import proofs.«01_k».proof.Proof.Gen.GramIdeal
public import proofs.«01_k».proof.Proof.Gen.GramIdeal.Skeleton
public import proofs.«01_k».proof.Proof.Gen.GramIdeal.Launch
public import proofs.«01_k».proof.Proof.Gen.GramIdeal.Points
public import proofs.«01_k».proof.Proof.Gen.GramIdeal.Frame
public import proofs.«01_k».proof.Proof.Gen.GramIdeal.Value
public import proofs.«01_k».proof.Proof.Gen.GramRefIdeal
public import proofs.«01_k».proof.Proof.Gen.GramRefIdeal.Skeleton
public import proofs.«01_k».proof.Proof.Gen.GramRefIdeal.Launch
public import proofs.«01_k».proof.Proof.Gen.GramRefIdeal.Points
public import proofs.«01_k».proof.Proof.Gen.GramRefIdeal.Frame
public import proofs.«01_k».proof.Proof.Gen.GramRefIdeal.Value
public import proofs.«01_k».proof.Proof.Kernel.HandFrame
public import proofs.«01_k».proof.Proof.KernelIdeal.HandFrame
public import proofs.«01_k».proof.Proof.Main.Algebraic
public import proofs.«01_k».proof.Proof.Gram.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Gram.Gen.facts, Cert.GramIdeal.Gen.facts, Cert.GramRefIdeal.Gen.facts, by
  exact ⟨fun m g _ => Cert.Kernel.Hand.frame m g,
    fun m g _ => (θ_run Cert.KernelIdeal.defs _ _).mono
      (fun r hr => ⟨fun c => Cert.KernelIdeal.Hand.args_unchanged m hr.1 c, hr.2⟩) (Cert.KernelIdeal.Hand.run_main_quiescent m g),
    fun m g _ => Cert.ReferenceIdeal.Gen.frame m g,
    fun m g _ => Cert.Gram.Gen.frame m g,
    fun m g _ => Cert.GramIdeal.Gen.frame m g,
    fun m g _ => Cert.GramRefIdeal.Gen.frame m g,
    trivial,
    Cert.MainMath.algebraic,
    trivial,
    Cert.GramMath.algebraic⟩⟩

end Cert.Proof

end
